-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mla [hPre_finite_mla : Cert.Pre_finite_mla.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mla.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mla [hPre_finite_mla : Cert.Pre_finite_mla.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mla.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_mla [hKernel4Ideal : Cert.Kernel4Ideal.Facts] [hPre_finite_mla : Cert.Pre_finite_mla.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mla m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_mla [hReference4Ideal : Cert.Reference4Ideal.Facts] [hPre_finite_mla : Cert.Pre_finite_mla.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mla m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v100) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v33)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite_mla [hKernel4Ideal : Cert.Kernel4Ideal.Facts] [hReference4Ideal : Cert.Reference4Ideal.Facts] [hPre_finite_mla : Cert.Pre_finite_mla.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mla m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v29)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v32_0)) (v1 : (c : Dev Cert.Kernel5Ideal.nD) → Buf (Elt Ideal) ((c.tc : Thread Cert.Kernel5Ideal.nD Cert.Kernel5Ideal.τ).loc Cert.Kernel5Ideal.main_v32_6)) (v2 : (c : Dev Cert.Kernel5Ideal.nD) → Buf (Elt Ideal) ((c.tc : Thread Cert.Kernel5Ideal.nD Cert.Kernel5Ideal.τ).loc Cert.Kernel5Ideal.main_v32_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v32_0) = v0 c
          ∧ r.2.mem ((c.tc : Thread Cert.Kernel5Ideal.nD Cert.Kernel5Ideal.τ).loc Cert.Kernel5Ideal.main_v32_6) = v1 c
          ∧ r.2.mem ((c.tc : Thread Cert.Kernel5Ideal.nD Cert.Kernel5Ideal.τ).loc Cert.Kernel5Ideal.main_v32_7) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v58) = v0 c
          ∧ r.2.mem ((c.tc : Thread Cert.Reference5Ideal.nD Cert.Reference5Ideal.τ).loc Cert.Reference5Ideal.main_v61) = v1 c
          ∧ r.2.mem ((c.tc : Thread Cert.Reference5Ideal.nD Cert.Reference5Ideal.τ).loc Cert.Reference5Ideal.main_v60) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_mla : Cert.Pre_finite_mla.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_mla (hKernel4Ideal := hKernel4Ideal) (hPre_finite_mla := hPre_finite_mla)
    ∧ quiescent_Reference4Ideal (hReference4Ideal := hReference4Ideal)
    ∧ quiescent_Reference4Ideal_pre_finite_mla (hReference4Ideal := hReference4Ideal) (hPre_finite_mla := hPre_finite_mla)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_mla (hKernel4Ideal := hKernel4Ideal) (hReference4Ideal := hReference4Ideal) (hPre_finite_mla := hPre_finite_mla)
    ∧ preserves_Kernel5_Kernel5Ideal
    ∧ algebraic_Kernel5Ideal_Reference5Ideal (hKernel5Ideal := hKernel5Ideal) (hReference5Ideal := hReference5Ideal)
-- ==== Pre_finite.lean ====
abbrev S8x4352x8x64 : Shape := ⟨4, ![8, 4352, 8, 64]⟩
abbrev S8x4352x2x64 : Shape := ⟨4, ![8, 4352, 2, 64]⟩
abbrev S_ : Shape := ⟨0, ![]⟩

class Facts : Prop where
  bcast_S_S8x4352x8x64 : S_.BroadcastsInDim S8x4352x8x64 (![] : Fin 0 → Fin S8x4352x8x64.rank)
  reducesTo_S8x4352x8x64_S_d0_1_2_3 : S8x4352x8x64.ReducesTo [0, 1, 2, 3] S_
  h_S_ : 0 < S_.numel
  bcast_S_S8x4352x2x64 : S_.BroadcastsInDim S8x4352x2x64 (![] : Fin 0 → Fin S8x4352x2x64.rank)
  reducesTo_S8x4352x2x64_S_d0_1_2_3 : S8x4352x2x64.ReducesTo [0, 1, 2, 3] S_

variable [Facts]

def fn {F : FTy → Type} [FloatOps F] (main_arg0 : FVec F S8x4352x8x64 .f32) (main_arg1 : FVec F S8x4352x2x64 .f32) (main_arg2 : FVec F S8x4352x2x64 .f32) : IVec S_ 1 :=
  let main_v0 : FVec F S8x4352x8x64 .f32 := Host.absf main_arg0
  let main_cst : FVec F S_ .f32 := constant S_ .f32 0x7F800000#32
  let main_v1 : FVec F S8x4352x8x64 .f32 := broadcastInDim S8x4352x8x64 ![] bcast_S_S8x4352x8x64 main_cst
  let main_v2 : IVec S8x4352x8x64 1 := cmpf .olt main_v0 main_v1
  let main_c : IVec S_ 1 := constantI S_ 1 1#1
  let main_v3 : IVec S_ 1 := (fun x v => Host.reduce IntOp.andi x v reducesTo_S8x4352x8x64_S_d0_1_2_3 h_S_) main_v2 main_c
  let main_v4 : FVec F S8x4352x2x64 .f32 := Host.absf main_arg1
  let main_cst_0 : FVec F S_ .f32 := constant S_ .f32 0x7F800000#32
  let main_v5 : FVec F S8x4352x2x64 .f32 := broadcastInDim S8x4352x2x64 ![] bcast_S_S8x4352x2x64 main_cst_0
  let main_v6 : IVec S8x4352x2x64 1 := cmpf .olt main_v4 main_v5
  let main_c_1 : IVec S_ 1 := constantI S_ 1 1#1
  let main_v7 : IVec S_ 1 := (fun x v => Host.reduce IntOp.andi x v reducesTo_S8x4352x2x64_S_d0_1_2_3 h_S_) main_v6 main_c_1
  let main_v8 : IVec S_ 1 := andi main_v3 main_v7
  main_v8
-- ==== Pre_finite_mla.lean ====
abbrev S8x4352x8x96 : Shape := ⟨4, ![8, 4352, 8, 96]⟩
abbrev S8x4352x8x64 : Shape := ⟨4, ![8, 4352, 8, 64]⟩
abbrev S_ : Shape := ⟨0, ![]⟩

class Facts : Prop where
  bcast_S_S8x4352x8x96 : S_.BroadcastsInDim S8x4352x8x96 (![] : Fin 0 → Fin S8x4352x8x96.rank)
  reducesTo_S8x4352x8x96_S_d0_1_2_3 : S8x4352x8x96.ReducesTo [0, 1, 2, 3] S_
  h_S_ : 0 < S_.numel

variable [Facts]

def fn {F : FTy → Type} [FloatOps F] (main_arg0 : FVec F S8x4352x8x96 .f32) (main_arg1 : FVec F S8x4352x8x96 .f32) (main_arg2 : FVec F S8x4352x8x64 .f32) : IVec S_ 1 :=
  let main_v0 : FVec F S8x4352x8x96 .f32 := Host.absf main_arg0
  let main_cst : FVec F S_ .f32 := constant S_ .f32 0x7F800000#32
  let main_v1 : FVec F S8x4352x8x96 .f32 := broadcastInDim S8x4352x8x96 ![] bcast_S_S8x4352x8x96 main_cst
  let main_v2 : IVec S8x4352x8x96 1 := cmpf .olt main_v0 main_v1
  let main_c : IVec S_ 1 := constantI S_ 1 1#1
  let main_v3 : IVec S_ 1 := (fun x v => Host.reduce IntOp.andi x v reducesTo_S8x4352x8x96_S_d0_1_2_3 h_S_) main_v2 main_c
  let main_v4 : FVec F S8x4352x8x96 .f32 := Host.absf main_arg1
  let main_cst_0 : FVec F S_ .f32 := constant S_ .f32 0x7F800000#32
  let main_v5 : FVec F S8x4352x8x96 .f32 := broadcastInDim S8x4352x8x96 ![] bcast_S_S8x4352x8x96 main_cst_0
  let main_v6 : IVec S8x4352x8x96 1 := cmpf .olt main_v4 main_v5
  let main_c_1 : IVec S_ 1 := constantI S_ 1 1#1
  let main_v7 : IVec S_ 1 := (fun x v => Host.reduce IntOp.andi x v reducesTo_S8x4352x8x96_S_d0_1_2_3 h_S_) main_v6 main_c_1
  let main_v8 : IVec S_ 1 := andi main_v3 main_v7
  main_v8
-- ==== Kernel.lean ====
abbrev S8x4352x8x64 : Shape := ⟨4, ![8, 4352, 8, 64]⟩
abbrev S8x4352x2x64 : Shape := ⟨4, ![8, 4352, 2, 64]⟩
abbrev S8x4352x2x4x64 : Shape := ⟨5, ![8, 4352, 2, 4, 64]⟩
abbrev S8x4352x4x2x64 : Shape := ⟨5, ![8, 4352, 4, 2, 64]⟩
abbrev S8x4352x4x128 : Shape := ⟨4, ![8, 4352, 4, 128]⟩
abbrev S_ : Shape := ⟨0, ![]⟩
abbrev S8x4352x4x1x128 : Shape := ⟨5, ![8, 4352, 4, 1, 128]⟩
abbrev S8x4352x4x2x128 : Shape := ⟨5, ![8, 4352, 4, 2, 128]⟩
abbrev S8x4352x128 : Shape := ⟨3, ![8, 4352, 128]⟩
abbrev S8x4352x1x128 : Shape := ⟨4, ![8, 4352, 1, 128]⟩
abbrev S8x4352x1024 : Shape := ⟨3, ![8, 4352, 1024]⟩
abbrev S8x4096x1024 : Shape := ⟨3, ![8, 4096, 1024]⟩
abbrev S8x256x1024 : Shape := ⟨3, ![8, 256, 1024]⟩
abbrev S8x4352x512 : Shape := ⟨3, ![8, 4352, 512]⟩
abbrev S1x1024x256 : Shape := ⟨3, ![1, 1024, 256]⟩
abbrev S1x4352x128 : Shape := ⟨3, ![1, 4352, 128]⟩
abbrev S1x1024x128 : Shape := ⟨3, ![1, 1024, 128]⟩
abbrev S1024x128 : Shape := ⟨2, ![1024, 128]⟩
abbrev S4352x128 : Shape := ⟨2, ![4352, 128]⟩
abbrev S1024x4352 : Shape := ⟨2, ![1024, 4352]⟩
abbrev S1024 : Shape := ⟨1, ![1024]⟩
abbrev S1024x1 : Shape := ⟨2, ![1024, 1]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S768x128 : Shape := ⟨2, ![768, 128]⟩
abbrev S1x768x128 : Shape := ⟨3, ![1, 768, 128]⟩

abbrev nBuf : Space → Nat
  | .hbm => 64
  | .vmem => 10
  | .smem => 0
  | _ => 0

abbrev bufTy : (tb : Table) → Fin (tcTables nBuf tb) → BufTy
  | .hbm, ⟨0, _⟩ => ⟨S8x4352x8x64, .f32⟩
  | .hbm, ⟨1, _⟩ => ⟨S8x4352x2x64, .f32⟩
  | .hbm, ⟨2, _⟩ => ⟨S8x4352x2x64, .f32⟩
  | .hbm, ⟨3, _⟩ => ⟨S8x4352x2x4x64, .f32⟩
  | .hbm, ⟨4, _⟩ => ⟨S8x4352x4x2x64, .f32⟩
  | .hbm, ⟨5, _⟩ => ⟨S8x4352x4x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4352x4x128, .f32⟩
  | .hbm, ⟨11, _⟩ => ⟨S8x4352x4x128, .f32⟩
  | .hbm, ⟨12, _⟩ => ⟨S8x4352x4x128, .i32⟩
  | .hbm, ⟨13, _⟩ => ⟨S_, .i32⟩
  | .hbm, ⟨14, _⟩ => ⟨S8x4352x4x128, .i32⟩
  | .hbm, ⟨15, _⟩ => ⟨S8x4352x4x128, .i1⟩
  | .hbm, ⟨16, _⟩ => ⟨S_, .f32⟩
  | .hbm, ⟨17, _⟩ => ⟨S_, .f32⟩
  | .hbm, ⟨18, _⟩ => ⟨S8x4352x4x128, .f32⟩
  | .hbm, ⟨19, _⟩ => ⟨S8x4352x4x128, .f32⟩
  | .hbm, ⟨20, _⟩ => ⟨S_, .f32⟩
  | .hbm, ⟨21, _⟩ => ⟨S_, .f32⟩
  | .hbm, ⟨22, _⟩ => ⟨S8x4352x4x128, .f32⟩
  | .hbm, ⟨23, _⟩ => ⟨S8x4352x4x128, .f32⟩
  | .hbm, ⟨24, _⟩ => ⟨S8x4352x4x1x128, .f32⟩
  | .hbm, ⟨25, _⟩ => ⟨S8x4352x4x1x128, .f32⟩
  | .hbm, ⟨26, _⟩ => ⟨S8x4352x4x2x128, .f32⟩
  | .hbm, ⟨27, _⟩ => ⟨S8x4352x4x2x128, .bf16⟩
  | .hbm, ⟨28, _⟩ => ⟨S8x4352x128, .f32⟩
  | .hbm, ⟨29, _⟩ => ⟨S8x4352x128, .bf16⟩
  | .hbm, ⟨30, _⟩ => ⟨S8x4352x1x128, .f32⟩
  | .hbm, ⟨31, _⟩ => ⟨S8x4352x1x128, .i32⟩
  | .hbm, ⟨32, _⟩ => ⟨S_, .i32⟩
  | .hbm, ⟨33, _⟩ => ⟨S8x4352x1x128, .i32⟩
  | .hbm, ⟨34, _⟩ => ⟨S8x4352x1x128, .i1⟩
  | .hbm, ⟨35, _⟩ => ⟨S_, .i32⟩
  | .hbm, ⟨36, _⟩ => ⟨S8x4352x1x128, .i32⟩
  | .hbm, ⟨37, _⟩ => ⟨S8x4352x1x128, .i1⟩
  | .hbm, ⟨38, _⟩ => ⟨S_, .f32⟩
  | .hbm, ⟨39, _⟩ => ⟨S_, .f32⟩
  | .hbm, ⟨40, _⟩ => ⟨S8x4352x1x128, .f32⟩
  | .hbm, ⟨41, _⟩ => ⟨S8x4352x1x128, .f32⟩
  | .hbm, ⟨42, _⟩ => ⟨S8x4352x1x128, .f32⟩
  | .hbm, ⟨43, _⟩ => ⟨S8x4352x1x128, .f32⟩
  | .hbm, ⟨44, _⟩ => ⟨S8x4352x1x128, .f32⟩
  | .hbm, ⟨45, _⟩ => ⟨S8x4352x1x128, .bf16⟩
  | .hbm, ⟨46, _⟩ => ⟨S_, .i32⟩
  | .hbm, ⟨47, _⟩ => ⟨S8x4352x1x128, .i32⟩
  | .hbm, ⟨48, _⟩ => ⟨S8x4352x1x128, .i1⟩
  | .hbm, ⟨49, _⟩ => ⟨S_, .f32⟩
  | .hbm, ⟨50, _⟩ => ⟨S_, .f32⟩
  | .hbm, ⟨51, _⟩ => ⟨S8x4352x1x128, .f32⟩
  | .hbm, ⟨52, _⟩ => ⟨S8x4352x1x128, .f32⟩
  | .hbm, ⟨53, _⟩ => ⟨S8x4352x1x128, .f32⟩
  | .hbm, ⟨54, _⟩ => ⟨S8x4352x1x128, .f32⟩
  | .hbm, ⟨55, _⟩ => ⟨S8x4352x1x128, .f32⟩
  | .hbm, ⟨56, _⟩ => ⟨S8x4352x1x128, .bf16⟩
  | .hbm, ⟨57, _⟩ => ⟨S8x4352x128, .bf16⟩
  | .hbm, ⟨58, _⟩ => ⟨S8x4352x128, .bf16⟩
  | .hbm, ⟨59, _⟩ => ⟨S8x4352x1024, .bf16⟩
  | .hbm, ⟨60, _⟩ => ⟨S8x4096x1024, .bf16⟩
  | .hbm, ⟨61, _⟩ => ⟨S8x256x1024, .bf16⟩
  | .hbm, ⟨62, _⟩ => ⟨S8x4352x1024, .bf16⟩
  | .hbm, ⟨63, _⟩ => ⟨S8x4352x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x4352x128, .bf16⟩
  | .local _ .vmem, ⟨7, _⟩ => ⟨S1x4352x128, .bf16⟩
  | .local _ .vmem, ⟨8, _⟩ => ⟨S1x1024x128, .bf16⟩
  | .local _ .vmem, ⟨9, _⟩ => ⟨S1x1024x128, .bf16⟩
  | _, _ => ⟨S8x4352x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_cst_6 : Ref sig .tc := ⟨.hbm, 39, rfl⟩
abbrev main_call2_v0 : Ref sig .tc := ⟨.hbm, 40, rfl⟩
abbrev main_call2_v1 : Ref sig .tc := ⟨.hbm, 41, rfl⟩
abbrev main_v24 : Ref sig .tc := ⟨.hbm, 42, rfl⟩
abbrev main_call3_v0 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_cst_8 : Ref sig .tc := ⟨.hbm, 49, rfl⟩
abbrev main_cst_9 : Ref sig .tc := ⟨.hbm, 50, rfl⟩
abbrev main_call4_v0 : Ref sig .tc := ⟨.hbm, 51, rfl⟩
abbrev main_call4_v1 : Ref sig .tc := ⟨.hbm, 52, rfl⟩
abbrev main_v29 : Ref sig .tc := ⟨.hbm, 53, rfl⟩
abbrev main_call5_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 5], ![false, false, false]⟩

def k0_cond1 (i : grid0.Coords) : BitVec 1 :=
  let arg2 : BitVec 32 := BitVec.ofNat 32 (i 2).val
  let c4_i32 : BitVec 32 := 4#32
  let v0 : BitVec 1 := Scalar.cmpi .slt arg2 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c4_i32_0 : BitVec 32 := 4#32
  let v3 : BitVec 1 := Scalar.cmpi .eq arg2 c4_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x4352x8x64 : Shape := ⟨4, ![8, 4352, 8, 64]⟩
abbrev S8x4352x2x64 : Shape := ⟨4, ![8, 4352, 2, 64]⟩
abbrev S8x4352x2x4x64 : Shape := ⟨5, ![8, 4352, 2, 4, 64]⟩
abbrev S8x4096x2x4x64 : Shape := ⟨5, ![8, 4096, 2, 4, 64]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x4x2x64 : Shape := ⟨5, ![8, 4096, 4, 2, 64]⟩
abbrev S8x256x2x4x64 : Shape := ⟨5, ![8, 256, 2, 4, 64]⟩
abbrev S8x256x2x64 : Shape := ⟨4, ![8, 256, 2, 64]⟩
abbrev S8x2x256x256x4 : Shape := ⟨5, ![8, 2, 256, 256, 4]⟩
abbrev S8x2x4x256x256 : Shape := ⟨5, ![8, 2, 4, 256, 256]⟩
abbrev S8x2x4x256 : Shape := ⟨4, ![8, 2, 4, 256]⟩
abbrev S8x2x4x256x1 : Shape := ⟨5, ![8, 2, 4, 256, 1]⟩
abbrev S8x2x64x4x256 : Shape := ⟨5, ![8, 2, 64, 4, 256]⟩
abbrev S8x256x4x2x64 : Shape := ⟨5, ![8, 256, 4, 2, 64]⟩
abbrev S8x4352x4x2x64 : Shape := ⟨5, ![8, 4352, 4, 2, 64]⟩
abbrev S8x4352x512 : Shape := ⟨3, ![8, 4352, 512]⟩

abbrev nBuf : Space → Nat
  | .hbm => 53
  | .vmem => 0
  | .smem => 0
  | _ => 0

abbrev bufTy : (tb : Table) → Fin (tcTables nBuf tb) → BufTy
  | .hbm, ⟨0, _⟩ => ⟨S8x4352x8x64, .f32⟩
  | .hbm, ⟨1, _⟩ => ⟨S8x4352x2x64, .f32⟩
  | .hbm, ⟨2, _⟩ => ⟨S8x4352x2x64, .f32⟩
  | .hbm, ⟨3, _⟩ => ⟨S8x4352x2x4x64, .f32⟩
  | .hbm, ⟨4, _⟩ => ⟨S8x4096x2x4x64, .f32⟩
  | .hbm, ⟨5, _⟩ => ⟨S8x2x4352x4096x4, .f32⟩
  | .hbm, ⟨6, _⟩ => ⟨S8x2x4x4096x4352, .f32⟩
  | .hbm, ⟨7, _⟩ => ⟨S_, .f32⟩
  | .hbm, ⟨8, _⟩ => ⟨S8x2x4x4096x4352, .f32⟩
  | .hbm, ⟨9, _⟩ => ⟨S8x2x4x4096x4352, .f32⟩
  | .hbm, ⟨10, _⟩ => ⟨S_, .f32⟩
  | .hbm, ⟨11, _⟩ => ⟨S8x2x4x4096, .f32⟩
  | .hbm, ⟨12, _⟩ => ⟨S_, .f32⟩
  | .hbm, ⟨13, _⟩ => ⟨S8x2x4x4096, .f32⟩
  | .hbm, ⟨14, _⟩ => ⟨S8x2x4x4096, .f32⟩
  | .hbm, ⟨15, _⟩ => ⟨S8x2x4x4096x1, .f32⟩
  | .hbm, ⟨16, _⟩ => ⟨S8x2x4x4096x4352, .f32⟩
  | .hbm, ⟨17, _⟩ => ⟨S8x2x4x4096x4352, .f32⟩
  | .hbm, ⟨18, _⟩ => ⟨S8x2x4x4096x4352, .f32⟩
  | .hbm, ⟨19, _⟩ => ⟨S_, .f32⟩
  | .hbm, ⟨20, _⟩ => ⟨S8x2x4x4096, .f32⟩
  | .hbm, ⟨21, _⟩ => ⟨S8x2x4x4096x1, .f32⟩
  | .hbm, ⟨22, _⟩ => ⟨S8x2x4x4096x4352, .f32⟩
  | .hbm, ⟨23, _⟩ => ⟨S8x2x4x4096x4352, .f32⟩
  | .hbm, ⟨24, _⟩ => ⟨S8x2x64x4x4096, .f32⟩
  | .hbm, ⟨25, _⟩ => ⟨S8x4096x4x2x64, .f32⟩
  | .hbm, ⟨26, _⟩ => ⟨S8x256x2x4x64, .f32⟩
  | .hbm, ⟨27, _⟩ => ⟨S8x256x2x64, .f32⟩
  | .hbm, ⟨28, _⟩ => ⟨S8x256x2x64, .f32⟩
  | .hbm, ⟨29, _⟩ => ⟨S8x2x256x256x4, .f32⟩
  | .hbm, ⟨30, _⟩ => ⟨S8x2x4x256x256, .f32⟩
  | .hbm, ⟨31, _⟩ => ⟨S_, .f32⟩
  | .hbm, ⟨32, _⟩ => ⟨S8x2x4x256x256, .f32⟩
  | .hbm, ⟨33, _⟩ => ⟨S8x2x4x256x256, .f32⟩
  | .hbm, ⟨34, _⟩ => ⟨S_, .f32⟩
  | .hbm, ⟨35, _⟩ => ⟨S8x2x4x256, .f32⟩
  | .hbm, ⟨36, _⟩ => ⟨S_, .f32⟩
  | .hbm, ⟨37, _⟩ => ⟨S8x2x4x256, .f32⟩
  | .hbm, ⟨38, _⟩ => ⟨S8x2x4x256, .f32⟩
  | .hbm, ⟨39, _⟩ => ⟨S8x2x4x256x1, .f32⟩
  | .hbm, ⟨40, _⟩ => ⟨S8x2x4x256x256, .f32⟩
  | .hbm, ⟨41, _⟩ => ⟨S8x2x4x256x256, .f32⟩
  | .hbm, ⟨42, _⟩ => ⟨S8x2x4x256x256, .f32⟩
  | .hbm, ⟨43, _⟩ => ⟨S_, .f32⟩
  | .hbm, ⟨44, _⟩ => ⟨S8x2x4x256, .f32⟩
  | .hbm, ⟨45, _⟩ => ⟨S8x2x4x256x1, .f32⟩
  | .hbm, ⟨46, _⟩ => ⟨S8x2x4x256x256, .f32⟩
  | .hbm, ⟨47, _⟩ => ⟨S8x2x4x256x256, .f32⟩
  | .hbm, ⟨48, _⟩ => ⟨S8x2x64x4x256, .f32⟩
  | .hbm, ⟨49, _⟩ => ⟨S8x256x4x2x64, .f32⟩
  | .hbm, ⟨50, _⟩ => ⟨S8x4352x4x2x64, .f32⟩
  | .hbm, ⟨51, _⟩ => ⟨S8x4352x512, .f32⟩
  | .hbm, ⟨52, _⟩ => ⟨S8x4352x512, .bf16⟩
  | _, _ => ⟨S8x4352x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Kernel2.lean ====
abbrev S8x4352x1024 : Shape := ⟨3, ![8, 4352, 1024]⟩
abbrev S8x6144 : Shape := ⟨2, ![8, 6144]⟩
abbrev S16 : Shape := ⟨1, ![16]⟩
abbrev S1024 : Shape := ⟨1, ![1024]⟩
abbrev S2048x1024 : Shape := ⟨2, ![2048, 1024]⟩
abbrev S1024x5632 : Shape := ⟨2, ![1024, 5632]⟩
abbrev S2816x1024 : Shape := ⟨2, ![2816, 1024]⟩
abbrev S8x1x6x1024 : Shape := ⟨4, ![8, 1, 6, 1024]⟩
abbrev S_ : Shape := ⟨0, ![]⟩
abbrev S8x2x6x1024 : Shape := ⟨4, ![8, 2, 6, 1024]⟩
abbrev S16x64 : Shape := ⟨2, ![16, 64]⟩
abbrev S1x1024 : Shape := ⟨2, ![1, 1024]⟩
abbrev S8x4096x1024 : Shape := ⟨3, ![8, 4096, 1024]⟩
abbrev S1x256x1024 : Shape := ⟨3, ![1, 256, 1024]⟩
abbrev S1x1x6x1024 : Shape := ⟨4, ![1, 1, 6, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S512x1024 : Shape := ⟨2, ![512, 1024]⟩
abbrev S1x256x128 : Shape := ⟨3, ![1, 256, 128]⟩
abbrev S256x128 : Shape := ⟨2, ![256, 128]⟩
abbrev S1x128 : Shape := ⟨2, ![1, 128]⟩
abbrev S128x1024 : Shape := ⟨2, ![128, 1024]⟩
abbrev S1x1x1x1024 : Shape := ⟨4, ![1, 1, 1, 1024]⟩
abbrev S256x5632 : Shape := ⟨2, ![256, 5632]⟩
abbrev S256x2816 : Shape := ⟨2, ![256, 2816]⟩

abbrev nBuf : Space → Nat
  | .hbm => 30
  | .vmem => 27
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x4352x1024, .f32⟩
  | .hbm, ⟨3, _⟩ => ⟨S8x4352x1024, .f32⟩
  | .hbm, ⟨4, _⟩ => ⟨S8x4352x1024, .f32⟩
  | .hbm, ⟨5, _⟩ => ⟨S8x4352x1024, .f32⟩
  | .hbm, ⟨6, _⟩ => ⟨S8x4352x1024, .f32⟩
  | .hbm, ⟨7, _⟩ => ⟨S8x4352x1024, .f32⟩
  | .hbm, ⟨8, _⟩ => ⟨S8x6144, .f32⟩
  | .hbm, ⟨9, _⟩ => ⟨S16, .f32⟩
  | .hbm, ⟨10, _⟩ => ⟨S1024, .f32⟩
  | .hbm, ⟨11, _⟩ => ⟨S1024, .f32⟩
  | .hbm, ⟨12, _⟩ => ⟨S2048x1024, .f32⟩
  | .hbm, ⟨13, _⟩ => ⟨S1024, .f32⟩
  | .hbm, ⟨14, _⟩ => ⟨S1024x5632, .f32⟩
  | .hbm, ⟨15, _⟩ => ⟨S2816x1024, .f32⟩
  | .hbm, ⟨16, _⟩ => ⟨S8x1x6x1024, .f32⟩
  | .hbm, ⟨17, _⟩ => ⟨S_, .f32⟩
  | .hbm, ⟨18, _⟩ => ⟨S8x1x6x1024, .f32⟩
  | .hbm, ⟨19, _⟩ => ⟨S8x2x6x1024, .f32⟩
  | .hbm, ⟨20, _⟩ => ⟨S16x64, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S2048x1024, .bf16⟩
  | .hbm, ⟨26, _⟩ => ⟨S1x1024, .f32⟩
  | .hbm, ⟨27, _⟩ => ⟨S1024x5632, .bf16⟩
  | .hbm, ⟨28, _⟩ => ⟨S2816x1024, .bf16⟩
  | .hbm, ⟨29, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x1x6x1024, .f32⟩
  | .local _ .vmem, ⟨17, _⟩ => ⟨S1x1x6x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S2048x1024, .bf16⟩
  | .local _ .vmem, ⟨22, _⟩ => ⟨S1x1024, .f32⟩
  | .local _ .vmem, ⟨23, _⟩ => ⟨S1024x5632, .bf16⟩
  | .local _ .vmem, ⟨24, _⟩ => ⟨S2816x1024, .bf16⟩
  | .local _ .vmem, ⟨25, _⟩ => ⟨S1x256x1024, .f32⟩
  | .local _ .vmem, ⟨26, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x5632 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S8x4352x1024 : Shape := ⟨3, ![8, 4352, 1024]⟩
abbrev S8x6144 : Shape := ⟨2, ![8, 6144]⟩
abbrev S16 : Shape := ⟨1, ![16]⟩
abbrev S1024 : Shape := ⟨1, ![1024]⟩
abbrev S2048x1024 : Shape := ⟨2, ![2048, 1024]⟩
abbrev S1024x5632 : Shape := ⟨2, ![1024, 5632]⟩
abbrev S2816x1024 : Shape := ⟨2, ![2816, 1024]⟩
abbrev S8x1024 : Shape := ⟨2, ![8, 1024]⟩
abbrev S8x1x1024 : Shape := ⟨3, ![8, 1, 1024]⟩
abbrev S8x4352x2x8x64 : Shape := ⟨5, ![8, 4352, 2, 8, 64]⟩
abbrev S2x8x1 : Shape := ⟨3, ![2, 8, 1]⟩
abbrev S1x1x2x8x1 : Shape := ⟨5, ![1, 1, 2, 8, 1]⟩
abbrev S8x4352x2x512 : Shape := ⟨4, ![8, 4352, 2, 512]⟩
abbrev S_ : Shape := ⟨0, ![]⟩
abbrev S2x512 : Shape := ⟨2, ![2, 512]⟩
abbrev S8x4352x2 : Shape := ⟨3, ![8, 4352, 2]⟩
abbrev S8x4352x2x1 : Shape := ⟨4, ![8, 4352, 2, 1]⟩
abbrev S1x1x2x512 : Shape := ⟨4, ![1, 1, 2, 512]⟩
abbrev S8x4352x8x128 : Shape := ⟨4, ![8, 4352, 8, 128]⟩
abbrev S8x128 : Shape := ⟨2, ![8, 128]⟩
abbrev S8x4352x8 : Shape := ⟨3, ![8, 4352, 8]⟩
abbrev S8x4352x8x1 : Shape := ⟨4, ![8, 4352, 8, 1]⟩
abbrev S1x1x8x128 : Shape := ⟨4, ![1, 1, 8, 128]⟩
abbrev S8x4352x2048 : Shape := ⟨3, ![8, 4352, 2048]⟩
abbrev S8x4096x2048 : Shape := ⟨3, ![8, 4096, 2048]⟩
abbrev S8x4096x1024 : Shape := ⟨3, ![8, 4096, 1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 153
  | .vmem => 0
  | .smem => 0
  | _ => 0

abbrev hbmTy0_0 (i : Nat) : BufTy := match i % 128 with
  | 0 => ⟨S8x4352x1024, .f32⟩
  | 1 => ⟨S8x4352x1024, .f32⟩
  | 2 => ⟨S8x4352x1024, .f32⟩
  | 3 => ⟨S8x4352x1024, .f32⟩
  | 4 => ⟨S8x4352x1024, .f32⟩
  | 5 => ⟨S8x4352x1024, .f32⟩
  | 6 => ⟨S8x4352x1024, .f32⟩
  | 7 => ⟨S8x4352x1024, .f32⟩
  | 8 => ⟨S8x6144, .f32⟩
  | 9 => ⟨S16, .f32⟩
  | 10 => ⟨S1024, .f32⟩
  | 11 => ⟨S1024, .f32⟩
  | 12 => ⟨S2048x1024, .f32⟩
  | 13 => ⟨S1024, .f32⟩
  | 14 => ⟨S1024x5632, .f32⟩
  | 15 => ⟨S2816x1024, .f32⟩
  | 16 => ⟨S8x1024, .f32⟩
  | 17 => ⟨S8x1024, .f32⟩
  | 18 => ⟨S8x1024, .f32⟩
  | 19 => ⟨S8x1024, .f32⟩
  | 20 => ⟨S8x1024, .f32⟩
  | 21 => ⟨S8x1024, .f32⟩
  | 22 => ⟨S8x1x1024, .f32⟩
  | 23 => ⟨S8x1x1024, .f32⟩
  | 24 => ⟨S8x1x1024, .f32⟩
  | 25 => ⟨S8x1x1024, .f32⟩
  | 26 => ⟨S8x1x1024, .f32⟩
  | 27 => ⟨S8x1x1024, .f32⟩
  | 28 => ⟨S8x4352x1024, .f32⟩
  | 29 => ⟨S8x4352x2x8x64, .f32⟩
  | 30 => ⟨S2x8x1, .f32⟩
  | 31 => ⟨S8x4352x2x8x64, .f32⟩
  | 32 => ⟨S1x1x2x8x1, .f32⟩
  | 33 => ⟨S8x4352x2x8x64, .f32⟩
  | 34 => ⟨S8x4352x2x8x64, .f32⟩
  | 35 => ⟨S8x4352x2x8x64, .f32⟩
  | 36 => ⟨S8x4352x2x512, .f32⟩
  | 37 => ⟨S8x4352x2x512, .f32⟩
  | 38 => ⟨S8x4352x2x512, .f32⟩
  | 39 => ⟨S8x4352x2x512, .f32⟩
  | 40 => ⟨S_, .f32⟩
  | 41 => ⟨S8x4352x2x512, .f32⟩
  | 42 => ⟨S8x4352x2x512, .f32⟩
  | 43 => ⟨S_, .f32⟩
  | 44 => ⟨S8x4352x2x512, .f32⟩
  | 45 => ⟨S8x4352x2x512, .f32⟩
  | 46 => ⟨S8x4352x2x512, .f32⟩
  | 47 => ⟨S8x4352x2x512, .f32⟩
  | 48 => ⟨S2x512, .f32⟩
  | 49 => ⟨S8x4352x2x512, .f32⟩
  | 50 => ⟨S_, .f32⟩
  | 51 => ⟨S8x4352x2, .f32⟩
  | 52 => ⟨S8x4352x2x1, .f32⟩
  | 53 => ⟨S_, .f32⟩
  | 54 => ⟨S8x4352x2x1, .f32⟩
  | 55 => ⟨S8x4352x2x1, .f32⟩
  | 56 => ⟨S_, .f32⟩
  | 57 => ⟨S8x4352x2x1, .f32⟩
  | 58 => ⟨S8x4352x2x1, .f32⟩
  | 59 => ⟨S8x4352x2x1, .f32⟩
  | 60 => ⟨S8x4352x2x512, .f32⟩
  | 61 => ⟨S8x4352x2x512, .f32⟩
  | 62 => ⟨S1x1x2x512, .f32⟩
  | 63 => ⟨S8x4352x2x512, .f32⟩
  | 64 => ⟨S8x4352x2x512, .f32⟩
  | 65 => ⟨S8x4352x1024, .f32⟩
  | 66 => ⟨S8x4352x1024, .f32⟩
  | 67 => ⟨S8x4352x8x128, .f32⟩
  | 68 => ⟨S8x128, .f32⟩
  | 69 => ⟨S_, .f32⟩
  | 70 => ⟨S8x4352x8, .f32⟩
  | 71 => ⟨S8x4352x8x1, .f32⟩
  | 72 => ⟨S_, .f32⟩
  | 73 => ⟨S8x4352x8x1, .f32⟩
  | 74 => ⟨S8x4352x8x1, .f32⟩
  | 75 => ⟨S8x4352x8x128, .f32⟩
  | 76 => ⟨S8x4352x8x128, .f32⟩
  | 77 => ⟨S8x4352x8x128, .f32⟩
  | 78 => ⟨S_, .f32⟩
  | 79 => ⟨S8x4352x8, .f32⟩
  | 80 => ⟨S8x4352x8x1, .f32⟩
  | 81 => ⟨S_, .f32⟩
  | 82 => ⟨S8x4352x8x1, .f32⟩
  | 83 => ⟨S8x4352x8x1, .f32⟩
  | 84 => ⟨S8x4352x8x128, .f32⟩
  | 85 => ⟨S8x4352x8x128, .f32⟩
  | 86 => ⟨S_, .f32⟩
  | 87 => ⟨S8x4352x8x1, .f32⟩
  | 88 => ⟨S8x4352x8x1, .f32⟩
  | 89 => ⟨S8x4352x8x1, .f32⟩
  | 90 => ⟨S8x4352x8x128, .f32⟩
  | 91 => ⟨S8x4352x8x128, .f32⟩
  | 92 => ⟨S1x1x8x128, .f32⟩
  | 93 => ⟨S8x4352x8x128, .f32⟩
  | 94 => ⟨S8x4352x8x128, .f32⟩
  | 95 => ⟨S8x4352x1024, .f32⟩
  | 96 => ⟨S8x4352x1024, .f32⟩
  | 97 => ⟨S8x4352x1024, .f32⟩
  | 98 => ⟨S_, .f32⟩
  | 99 => ⟨S8x4352x1024, .f32⟩
  | 100 => ⟨S8x4352x1024, .f32⟩
  | 101 => ⟨S_, .f32⟩
  | 102 => ⟨S8x4352x1024, .f32⟩
  | 103 => ⟨S8x4352x1024, .f32⟩
  | 104 => ⟨S8x4352x1024, .f32⟩
  | 105 => ⟨S8x4352x1024, .f32⟩
  | 106 => ⟨S8x4352x2048, .f32⟩
  | 107 => ⟨S8x4096x2048, .f32⟩
  | 108 => ⟨S8x4096x1024, .f32⟩
  | 109 => ⟨S8x4096x1024, .f32⟩
  | 110 => ⟨S8x4096x1024, .f32⟩
  | 111 => ⟨S8x4096x1024, .f32⟩
  | 112 => ⟨S8x4096x1024, .f32⟩
  | 113 => ⟨S8x4096x1024, .f32⟩
  | 114 => ⟨S_, .f32⟩
  | 115 => ⟨S8x4096, .f32⟩
  | 116 => ⟨S8x4096x1, .f32⟩
  | 117 => ⟨S_, .f32⟩
  | 118 => ⟨S8x4096x1, .f32⟩
  | 119 => ⟨S8x4096x1, .f32⟩
  | 120 => ⟨S_, .f32⟩
  | 121 => ⟨S8x4096x1, .f32⟩
  | 122 => ⟨S8x4096x1, .f32⟩
  | 123 => ⟨S8x4096x1, .f32⟩
  | 124 => ⟨S8x4096x1024, .f32⟩
  | 125 => ⟨S8x4096x1024, .f32⟩
  | 126 => ⟨S1x1x1024, .f32⟩
  | 127 => ⟨S8x4096x1024, .f32⟩
  | _ => ⟨S8x4352x1024, .f32⟩

abbrev hbmTy0_1 (i : Nat) : BufTy := match i % 128 with
  | 0 => ⟨S8x4096x1024, .f32⟩
  | 1 => ⟨S_, .f32⟩
  | 2 => ⟨S8x1x1024, .f32⟩
  | 3 => ⟨S8x1x1024, .f32⟩
  | 4 => ⟨S8x4096x1024, .f32⟩
  | 5 => ⟨S8x4096x1024, .f32⟩
  | 6 => ⟨S8x4096x1024, .f32⟩
  | 7 => ⟨S8x4096x1024, .f32⟩
  | 8 => ⟨S8x4096x5632, .f32⟩
  | 9 => ⟨S8x4096x2816, .f32⟩
  | 10 => ⟨S8x4096x2816, .f32⟩
  | 11 => ⟨S8x4096x2816, .f32⟩
  | 12 => ⟨S8x4096x2816, .f32⟩
  | 13 => ⟨S_, .f32⟩
  | 14 => ⟨S8x4096x2816, .f32⟩
  | 15 => ⟨S8x4096x2816, .f32⟩
  | 16 => ⟨S_, .f32⟩
  | 17 => ⟨S8x4096x2816, .f32⟩
  | 18 => ⟨S8x4096x2816, .f32⟩
  | 19 => ⟨S8x4096x2816, .f32⟩
  | 20 => ⟨S8x4096x2816, .f32⟩
  | 21 => ⟨S8x4096x1024, .f32⟩
  | 22 => ⟨S8x4096x1024, .f32⟩
  | 23 => ⟨S8x4096x1024, .f32⟩
  | 24 => ⟨S8x4096x1024, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst : Ref sig .tc := ⟨.hbm, 50, rfl⟩
abbrev main_v26 : Ref sig .tc := ⟨.hbm, 51, rfl⟩
abbrev main_v27 : Ref sig .tc := ⟨.hbm, 52, rfl⟩
abbrev main_cst_0 : Ref sig .tc := ⟨.hbm, 53, rfl⟩
abbrev main_v28 : Ref sig .tc := ⟨.hbm, 54, rfl⟩
abbrev main_v29 : Ref sig .tc := ⟨.hbm, 55, rfl⟩
abbrev main_cst_1 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_2 : Ref sig .tc := ⟨.hbm, 69, rfl⟩
abbrev main_v42 : Ref sig .tc := ⟨.hbm, 70, rfl⟩
abbrev main_v43 : Ref sig .tc := ⟨.hbm, 71, rfl⟩
abbrev main_cst_3 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_4 : Ref sig .tc := ⟨.hbm, 78, rfl⟩
abbrev main_v49 : Ref sig .tc := ⟨.hbm, 79, rfl⟩
abbrev main_v50 : Ref sig .tc := ⟨.hbm, 80, rfl⟩
abbrev main_cst_5 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_6 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_7 : Ref sig .tc := ⟨.hbm, 114, rfl⟩
abbrev main_v74 : Ref sig .tc := ⟨.hbm, 115, rfl⟩
abbrev main_v75 : Ref sig .tc := ⟨.hbm, 116, rfl⟩
abbrev main_cst_8 : Ref sig .tc := ⟨.hbm, 117, rfl⟩
abbrev main_v76 : Ref sig .tc := ⟨.hbm, 118, rfl⟩
abbrev main_v77 : Ref sig .tc := ⟨.hbm, 119, rfl⟩
abbrev main_cst_9 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_10 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_call2_v0 : Ref sig .tc := ⟨.hbm, 139, rfl⟩
abbrev main_call2_v1 : Ref sig .tc := ⟨.hbm, 140, rfl⟩
abbrev main_call2_cst : Ref sig .tc := ⟨.hbm, 141, rfl⟩
abbrev main_call2_v2 : Ref sig .tc := ⟨.hbm, 142, rfl⟩
abbrev main_call2_v3 : Ref sig .tc := ⟨.hbm, 143, rfl⟩
abbrev main_call2_cst_0 : Ref sig .tc := ⟨.hbm, 144, rfl⟩
abbrev main_call2_v4 : Ref sig .tc := ⟨.hbm, 145, rfl⟩
abbrev main_call2_v5 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩

abbrev nD : Nat := 1
abbrev τ : Topo := Topo.v7x

variable {F : FTy → Type} [FloatOps F]
-- ==== Kernel3.lean ====
abbrev S8x256x1024 : Shape := ⟨3, ![8, 256, 1024]⟩
abbrev S8x4096x1024 : Shape := ⟨3, ![8, 4096, 1024]⟩
abbrev S8x4352x512 : Shape := ⟨3, ![8, 4352, 512]⟩
abbrev S6144 : Shape := ⟨1, ![6144]⟩
abbrev S8x6144 : Shape := ⟨2, ![8, 6144]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x1x6x1024 : Shape := ⟨4, ![8, 1, 6, 1024]⟩
abbrev S1x1x6x1024 : Shape := ⟨4, ![1, 1, 6, 1024]⟩
abbrev S8x2x6x1024 : Shape := ⟨4, ![8, 2, 6, 1024]⟩
abbrev S512x1024 : Shape := ⟨2, ![512, 1024]⟩
abbrev S8x64x1024 : Shape := ⟨3, ![8, 64, 1024]⟩
abbrev S1x64x1024 : Shape := ⟨3, ![1, 64, 1024]⟩
abbrev S64x1024 : Shape := ⟨2, ![64, 1024]⟩
abbrev S128x1024 : Shape := ⟨2, ![128, 1024]⟩
abbrev S1x1024 : Shape := ⟨2, ![1, 1024]⟩
abbrev S8x4352x1024 : Shape := ⟨3, ![8, 4352, 1024]⟩
abbrev S1x256x1024 : Shape := ⟨3, ![1, 256, 1024]⟩
abbrev S1x256x512 : Shape := ⟨3, ![1, 256, 512]⟩
abbrev S256x512 : Shape := ⟨2, ![256, 512]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 44
  | .vmem => 16
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S8x4352x512, .bf16⟩
  | .hbm, ⟨3, _⟩ => ⟨S8x4352x512, .bf16⟩
  | .hbm, ⟨4, _⟩ => ⟨S6144, .f32⟩
  | .hbm, ⟨5, _⟩ => ⟨S8x6144, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S8x1x6x1024, .f32⟩
  | .hbm, ⟨11, _⟩ => ⟨S1x1x6x1024, .f32⟩
  | .hbm, ⟨12, _⟩ => ⟨S8x1x6x1024, .f32⟩
  | .hbm, ⟨13, _⟩ => ⟨S8x2x6x1024, .f32⟩
  | .hbm, ⟨14, _⟩ => ⟨S512x1024, .f32⟩
  | .hbm, ⟨15, _⟩ => ⟨S8x64x1024, .f32⟩
  | .hbm, ⟨16, _⟩ => ⟨S1x64x1024, .f32⟩
  | .hbm, ⟨17, _⟩ => ⟨S64x1024, .f32⟩
  | .hbm, ⟨18, _⟩ => ⟨S1x64x1024, .f32⟩
  | .hbm, ⟨19, _⟩ => ⟨S64x1024, .f32⟩
  | .hbm, ⟨20, _⟩ => ⟨S128x1024, .f32⟩
  | .hbm, ⟨21, _⟩ => ⟨S1x64x1024, .f32⟩
  | .hbm, ⟨22, _⟩ => ⟨S64x1024, .f32⟩
  | .hbm, ⟨23, _⟩ => ⟨S1x64x1024, .f32⟩
  | .hbm, ⟨24, _⟩ => ⟨S64x1024, .f32⟩
  | .hbm, ⟨25, _⟩ => ⟨S128x1024, .f32⟩
  | .hbm, ⟨26, _⟩ => ⟨S1x64x1024, .f32⟩
  | .hbm, ⟨27, _⟩ => ⟨S64x1024, .f32⟩
  | .hbm, ⟨28, _⟩ => ⟨S1x64x1024, .f32⟩
  | .hbm, ⟨29, _⟩ => ⟨S64x1024, .f32⟩
  | .hbm, ⟨30, _⟩ => ⟨S128x1024, .f32⟩
  | .hbm, ⟨31, _⟩ => ⟨S1x64x1024, .f32⟩
  | .hbm, ⟨32, _⟩ => ⟨S64x1024, .f32⟩
  | .hbm, ⟨33, _⟩ => ⟨S1x64x1024, .f32⟩
  | .hbm, ⟨34, _⟩ => ⟨S64x1024, .f32⟩
  | .hbm, ⟨35, _⟩ => ⟨S128x1024, .f32⟩
  | .hbm, ⟨36, _⟩ => ⟨S512x1024, .f32⟩
  | .hbm, ⟨37, _⟩ => ⟨S512x1024, .f32⟩
  | .hbm, ⟨38, _⟩ => ⟨S1024x1024, .f32⟩
  | .hbm, ⟨39, _⟩ => ⟨S1024x1024, .bf16⟩
  | .hbm, ⟨40, _⟩ => ⟨S1x1024, .f32⟩
  | .hbm, ⟨41, _⟩ => ⟨S1024x5632, .bf16⟩
  | .hbm, ⟨42, _⟩ => ⟨S2816x1024, .bf16⟩
  | .hbm, ⟨43, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x1x6x1024, .f32⟩
  | .local _ .vmem, ⟨9, _⟩ => ⟨S1x1x6x1024, .f32⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S1x256x1024, .f32⟩
  | .local _ .vmem, ⟨15, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.addi arg1 c17_i32
  let c1_i32 : BitVec 32 := 1#32
  let v1 : BitVec 32 := Scalar.subi v0 c1_i32
  let c17_i32_0 : BitVec 32 := 17#32
  let c0_i32 : BitVec 32 := 0#32
  let v2 : BitVec 1 := Scalar.cmpi .eq c17_i32_0 c0_i32
  let c1_i32_1 : BitVec 32 := 1#32
  let v3 : BitVec 32 := Scalar.select v2 c1_i32_1 c17_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![arg0.toNat, v11.toNat, c0_i32_5.toNat]

def cc0_transform_3 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.addi arg1 c17_i32
  let c1_i32 : BitVec 32 := 1#32
  let v1 : BitVec 32 := Scalar.subi v0 c1_i32
  let c17_i32_0 : BitVec 32 := 17#32
  let c0_i32 : BitVec 32 := 0#32
  let v2 : BitVec 1 := Scalar.cmpi .eq c17_i32_0 c0_i32
  let c1_i32_1 : BitVec 32 := 1#32
  let v3 : BitVec 32 := Scalar.select v2 c1_i32_1 c17_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![arg0.toNat, v11.toNat, c0_i32_5.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8x256x1024 : Shape := ⟨3, ![8, 256, 1024]⟩
abbrev S8x4096x1024 : Shape := ⟨3, ![8, 4096, 1024]⟩
abbrev S8x4352x512 : Shape := ⟨3, ![8, 4352, 512]⟩
abbrev S6144 : Shape := ⟨1, ![6144]⟩
abbrev S8x6144 : Shape := ⟨2, ![8, 6144]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x4352x1024 : Shape := ⟨3, ![8, 4352, 1024]⟩
abbrev S8x256x6144 : Shape := ⟨3, ![8, 256, 6144]⟩
abbrev S8x1x6144 : Shape := ⟨3, ![8, 1, 6144]⟩
abbrev S8x4096x6144 : Shape := ⟨3, ![8, 4096, 6144]⟩
abbrev S8x4352x6144 : Shape := ⟨3, ![8, 4352, 6144]⟩
abbrev S8x256x512 : Shape := ⟨3, ![8, 256, 512]⟩
abbrev S8x4096x512 : Shape := ⟨3, ![8, 4096, 512]⟩
abbrev S8x4352x4x2x64 : Shape := ⟨5, ![8, 4352, 4, 2, 64]⟩
abbrev S8x4352x2x4x64 : Shape := ⟨5, ![8, 4352, 2, 4, 64]⟩
abbrev S_ : Shape := ⟨0, ![]⟩
abbrev S8x4352 : Shape := ⟨2, ![8, 4352]⟩
abbrev S8x4352x1 : Shape := ⟨3, ![8, 4352, 1]⟩
abbrev S1x1x1024 : Shape := ⟨3, ![1, 1, 1024]⟩
abbrev S8x4352x5632 : Shape := ⟨3, ![8, 4352, 5632]⟩
abbrev S8x4352x2816 : Shape := ⟨3, ![8, 4352, 2816]⟩

abbrev nBuf : Space → Nat
  | .hbm => 73
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S8x4352x512, .bf16⟩
  | .hbm, ⟨3, _⟩ => ⟨S8x4352x512, .bf16⟩
  | .hbm, ⟨4, _⟩ => ⟨S6144, .f32⟩
  | .hbm, ⟨5, _⟩ => ⟨S8x6144, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S8x4352x1024, .f32⟩
  | .hbm, ⟨11, _⟩ => ⟨S8x256x6144, .f32⟩
  | .hbm, ⟨12, _⟩ => ⟨S8x1x6144, .f32⟩
  | .hbm, ⟨13, _⟩ => ⟨S8x4096x6144, .f32⟩
  | .hbm, ⟨14, _⟩ => ⟨S8x4352x6144, .f32⟩
  | .hbm, ⟨15, _⟩ => ⟨S8x4352x1024, .f32⟩
  | .hbm, ⟨16, _⟩ => ⟨S8x4352x1024, .f32⟩
  | .hbm, ⟨17, _⟩ => ⟨S8x4352x1024, .f32⟩
  | .hbm, ⟨18, _⟩ => ⟨S8x4352x1024, .f32⟩
  | .hbm, ⟨19, _⟩ => ⟨S8x4352x1024, .f32⟩
  | .hbm, ⟨20, _⟩ => ⟨S8x4352x1024, .f32⟩
  | .hbm, ⟨21, _⟩ => ⟨S8x256x512, .bf16⟩
  | .hbm, ⟨22, _⟩ => ⟨S8x4096x512, .bf16⟩
  | .hbm, ⟨23, _⟩ => ⟨S8x4352x512, .bf16⟩
  | .hbm, ⟨24, _⟩ => ⟨S8x4352x512, .f32⟩
  | .hbm, ⟨25, _⟩ => ⟨S8x4352x4x2x64, .f32⟩
  | .hbm, ⟨26, _⟩ => ⟨S8x4352x2x4x64, .f32⟩
  | .hbm, ⟨27, _⟩ => ⟨S8x4352x512, .f32⟩
  | .hbm, ⟨28, _⟩ => ⟨S8x256x512, .bf16⟩
  | .hbm, ⟨29, _⟩ => ⟨S8x4096x512, .bf16⟩
  | .hbm, ⟨30, _⟩ => ⟨S8x4352x512, .bf16⟩
  | .hbm, ⟨31, _⟩ => ⟨S8x4352x512, .f32⟩
  | .hbm, ⟨32, _⟩ => ⟨S8x4352x1024, .f32⟩
  | .hbm, ⟨33, _⟩ => ⟨S8x4352x1024, .f32⟩
  | .hbm, ⟨34, _⟩ => ⟨S8x4352x1024, .f32⟩
  | .hbm, ⟨35, _⟩ => ⟨S8x4352x1024, .f32⟩
  | .hbm, ⟨36, _⟩ => ⟨S8x4352x1024, .f32⟩
  | .hbm, ⟨37, _⟩ => ⟨S_, .f32⟩
  | .hbm, ⟨38, _⟩ => ⟨S8x4352, .f32⟩
  | .hbm, ⟨39, _⟩ => ⟨S8x4352x1, .f32⟩
  | .hbm, ⟨40, _⟩ => ⟨S_, .f32⟩
  | .hbm, ⟨41, _⟩ => ⟨S8x4352x1, .f32⟩
  | .hbm, ⟨42, _⟩ => ⟨S8x4352x1, .f32⟩
  | .hbm, ⟨43, _⟩ => ⟨S_, .f32⟩
  | .hbm, ⟨44, _⟩ => ⟨S8x4352x1, .f32⟩
  | .hbm, ⟨45, _⟩ => ⟨S8x4352x1, .f32⟩
  | .hbm, ⟨46, _⟩ => ⟨S8x4352x1, .f32⟩
  | .hbm, ⟨47, _⟩ => ⟨S8x4352x1024, .f32⟩
  | .hbm, ⟨48, _⟩ => ⟨S8x4352x1024, .f32⟩
  | .hbm, ⟨49, _⟩ => ⟨S1x1x1024, .f32⟩
  | .hbm, ⟨50, _⟩ => ⟨S8x4352x1024, .f32⟩
  | .hbm, ⟨51, _⟩ => ⟨S8x4352x1024, .f32⟩
  | .hbm, ⟨52, _⟩ => ⟨S_, .f32⟩
  | .hbm, ⟨53, _⟩ => ⟨S8x4352x1024, .f32⟩
  | .hbm, ⟨54, _⟩ => ⟨S8x4352x1024, .f32⟩
  | .hbm, ⟨55, _⟩ => ⟨S8x4352x1024, .f32⟩
  | .hbm, ⟨56, _⟩ => ⟨S8x4352x1024, .f32⟩
  | .hbm, ⟨57, _⟩ => ⟨S8x4352x5632, .f32⟩
  | .hbm, ⟨58, _⟩ => ⟨S8x4352x2816, .f32⟩
  | .hbm, ⟨59, _⟩ => ⟨S8x4352x2816, .f32⟩
  | .hbm, ⟨60, _⟩ => ⟨S8x4352x2816, .f32⟩
  | .hbm, ⟨61, _⟩ => ⟨S8x4352x2816, .f32⟩
  | .hbm, ⟨62, _⟩ => ⟨S_, .f32⟩
  | .hbm, ⟨63, _⟩ => ⟨S8x4352x2816, .f32⟩
  | .hbm, ⟨64, _⟩ => ⟨S8x4352x2816, .f32⟩
  | .hbm, ⟨65, _⟩ => ⟨S_, .f32⟩
  | .hbm, ⟨66, _⟩ => ⟨S8x4352x2816, .f32⟩
  | .hbm, ⟨67, _⟩ => ⟨S8x4352x2816, .f32⟩
  | .hbm, ⟨68, _⟩ => ⟨S8x4352x2816, .f32⟩
  | .hbm, ⟨69, _⟩ => ⟨S8x4352x2816, .f32⟩
  | .hbm, ⟨70, _⟩ => ⟨S8x4352x1024, .f32⟩
  | .hbm, ⟨71, _⟩ => ⟨S8x4352x1024, .f32⟩
  | .hbm, ⟨72, _⟩ => ⟨S8x4352x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_cst_0 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]
-- ==== Kernel4.lean ====
abbrev S8x4352x8x96 : Shape := ⟨4, ![8, 4352, 8, 96]⟩
abbrev S8x4352x8x64 : Shape := ⟨4, ![8, 4352, 8, 64]⟩
abbrev S_ : Shape := ⟨0, ![]⟩
abbrev S8x4352x8x128 : Shape := ⟨4, ![8, 4352, 8, 128]⟩
abbrev S8x4352x1024 : Shape := ⟨3, ![8, 4352, 1024]⟩
abbrev S8x4352x4x128 : Shape := ⟨4, ![8, 4352, 4, 128]⟩
abbrev S8x4352x512 : Shape := ⟨3, ![8, 4352, 512]⟩
abbrev S8x4096x1024 : Shape := ⟨3, ![8, 4096, 1024]⟩
abbrev S8x256x1024 : Shape := ⟨3, ![8, 256, 1024]⟩
abbrev S1x1024x256 : Shape := ⟨3, ![1, 1024, 256]⟩
abbrev S1x4352x256 : Shape := ⟨3, ![1, 4352, 256]⟩
abbrev S1x4352x128 : Shape := ⟨3, ![1, 4352, 128]⟩
abbrev S1x1024x128 : Shape := ⟨3, ![1, 1024, 128]⟩
abbrev S1024x128 : Shape := ⟨2, ![1024, 128]⟩
abbrev S4352x128 : Shape := ⟨2, ![4352, 128]⟩
abbrev S1024x4352 : Shape := ⟨2, ![1024, 4352]⟩
abbrev S1024 : Shape := ⟨1, ![1024]⟩
abbrev S1024x1 : Shape := ⟨2, ![1024, 1]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S768x128 : Shape := ⟨2, ![768, 128]⟩
abbrev S1x768x128 : Shape := ⟨3, ![1, 768, 128]⟩

abbrev nBuf : Space → Nat
  | .hbm => 52
  | .vmem => 10
  | .smem => 0
  | _ => 0

abbrev bufTy : (tb : Table) → Fin (tcTables nBuf tb) → BufTy
  | .hbm, ⟨0, _⟩ => ⟨S8x4352x8x96, .f32⟩
  | .hbm, ⟨1, _⟩ => ⟨S8x4352x8x96, .f32⟩
  | .hbm, ⟨2, _⟩ => ⟨S8x4352x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x4352x8x96, .f32⟩
  | .hbm, ⟨8, _⟩ => ⟨S8x4352x8x96, .f32⟩
  | .hbm, ⟨9, _⟩ => ⟨S_, .i32⟩
  | .hbm, ⟨10, _⟩ => ⟨S_, .f32⟩
  | .hbm, ⟨11, _⟩ => ⟨S8x4352x8x128, .f32⟩
  | .hbm, ⟨12, _⟩ => ⟨S8x4352x8x128, .bf16⟩
  | .hbm, ⟨13, _⟩ => ⟨S8x4352x1024, .bf16⟩
  | .hbm, ⟨14, _⟩ => ⟨S8x4352x4x128, .f32⟩
  | .hbm, ⟨15, _⟩ => ⟨S8x4352x4x128, .i32⟩
  | .hbm, ⟨16, _⟩ => ⟨S_, .i32⟩
  | .hbm, ⟨17, _⟩ => ⟨S8x4352x4x128, .i32⟩
  | .hbm, ⟨18, _⟩ => ⟨S8x4352x4x128, .i1⟩
  | .hbm, ⟨19, _⟩ => ⟨S_, .i32⟩
  | .hbm, ⟨20, _⟩ => ⟨S8x4352x4x128, .i32⟩
  | .hbm, ⟨21, _⟩ => ⟨S8x4352x4x128, .i1⟩
  | .hbm, ⟨22, _⟩ => ⟨S_, .f32⟩
  | .hbm, ⟨23, _⟩ => ⟨S_, .f32⟩
  | .hbm, ⟨24, _⟩ => ⟨S8x4352x4x128, .f32⟩
  | .hbm, ⟨25, _⟩ => ⟨S8x4352x4x128, .f32⟩
  | .hbm, ⟨26, _⟩ => ⟨S8x4352x4x128, .f32⟩
  | .hbm, ⟨27, _⟩ => ⟨S8x4352x4x128, .f32⟩
  | .hbm, ⟨28, _⟩ => ⟨S8x4352x4x128, .f32⟩
  | .hbm, ⟨29, _⟩ => ⟨S8x4352x4x128, .bf16⟩
  | .hbm, ⟨30, _⟩ => ⟨S_, .i32⟩
  | .hbm, ⟨31, _⟩ => ⟨S8x4352x4x128, .i32⟩
  | .hbm, ⟨32, _⟩ => ⟨S8x4352x4x128, .i1⟩
  | .hbm, ⟨33, _⟩ => ⟨S_, .f32⟩
  | .hbm, ⟨34, _⟩ => ⟨S_, .f32⟩
  | .hbm, ⟨35, _⟩ => ⟨S8x4352x4x128, .f32⟩
  | .hbm, ⟨36, _⟩ => ⟨S8x4352x4x128, .f32⟩
  | .hbm, ⟨37, _⟩ => ⟨S8x4352x4x128, .f32⟩
  | .hbm, ⟨38, _⟩ => ⟨S8x4352x4x128, .f32⟩
  | .hbm, ⟨39, _⟩ => ⟨S8x4352x4x128, .f32⟩
  | .hbm, ⟨40, _⟩ => ⟨S8x4352x4x128, .bf16⟩
  | .hbm, ⟨41, _⟩ => ⟨S8x4352x512, .bf16⟩
  | .hbm, ⟨42, _⟩ => ⟨S8x4352x512, .bf16⟩
  | .hbm, ⟨43, _⟩ => ⟨S8x4096x1024, .bf16⟩
  | .hbm, ⟨44, _⟩ => ⟨S8x256x1024, .bf16⟩
  | .hbm, ⟨45, _⟩ => ⟨S8x4352x1024, .bf16⟩
  | .hbm, ⟨46, _⟩ => ⟨S_, .i32⟩
  | .hbm, ⟨47, _⟩ => ⟨S_, .f32⟩
  | .hbm, ⟨48, _⟩ => ⟨S8x4352x8x128, .f32⟩
  | .hbm, ⟨49, _⟩ => ⟨S8x4352x8x128, .bf16⟩
  | .hbm, ⟨50, _⟩ => ⟨S8x4352x1024, .bf16⟩
  | .hbm, ⟨51, _⟩ => ⟨S8x4352x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x4352x128, .bf16⟩
  | .local _ .vmem, ⟨7, _⟩ => ⟨S1x4352x128, .bf16⟩
  | .local _ .vmem, ⟨8, _⟩ => ⟨S1x1024x128, .bf16⟩
  | .local _ .vmem, ⟨9, _⟩ => ⟨S1x1024x128, .bf16⟩
  | _, _ => ⟨S8x4352x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v13 : Ref sig .tc := ⟨.hbm, 26, rfl⟩
abbrev main_call2_v0 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_cst_7 : Ref sig .tc := ⟨.hbm, 34, rfl⟩
abbrev main_call3_v0 : Ref sig .tc := ⟨.hbm, 35, rfl⟩
abbrev main_call3_v1 : Ref sig .tc := ⟨.hbm, 36, rfl⟩
abbrev main_v18 : Ref sig .tc := ⟨.hbm, 37, rfl⟩
abbrev main_call4_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_8 : Ref sig .tc := ⟨.hbm, 46, rfl⟩
abbrev main_call5_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 5], ![false, false, false]⟩

def k0_cond1 (i : grid0.Coords) : BitVec 1 :=
  let arg2 : BitVec 32 := BitVec.ofNat 32 (i 2).val
  let c4_i32 : BitVec 32 := 4#32
  let v0 : BitVec 1 := Scalar.cmpi .slt arg2 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c4_i32_0 : BitVec 32 := 4#32
  let v3 : BitVec 1 := Scalar.cmpi .eq arg2 c4_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference4Ideal.lean ====
abbrev S8x4352x8x96 : Shape := ⟨4, ![8, 4352, 8, 96]⟩
abbrev S8x4352x8x64 : Shape := ⟨4, ![8, 4352, 8, 64]⟩
abbrev S8x4352x8x1x96 : Shape := ⟨5, ![8, 4352, 8, 1, 96]⟩
abbrev S8x4096x8x1x96 : Shape := ⟨5, ![8, 4096, 8, 1, 96]⟩
abbrev S8x8x4352x4096x1 : Shape := ⟨5, ![8, 8, 4352, 4096, 1]⟩
abbrev S8x8x1x4096x4352 : Shape := ⟨5, ![8, 8, 1, 4096, 4352]⟩
abbrev S_ : Shape := ⟨0, ![]⟩
abbrev S8x8x1x4096 : Shape := ⟨4, ![8, 8, 1, 4096]⟩
abbrev S8x8x1x4096x1 : Shape := ⟨5, ![8, 8, 1, 4096, 1]⟩
abbrev S8x8x64x1x4096 : Shape := ⟨5, ![8, 8, 64, 1, 4096]⟩
abbrev S8x4096x1x8x64 : Shape := ⟨5, ![8, 4096, 1, 8, 64]⟩
abbrev S8x256x8x1x96 : Shape := ⟨5, ![8, 256, 8, 1, 96]⟩
abbrev S8x256x8x96 : Shape := ⟨4, ![8, 256, 8, 96]⟩
abbrev S8x256x8x64 : Shape := ⟨4, ![8, 256, 8, 64]⟩
abbrev S8x8x256x256x1 : Shape := ⟨5, ![8, 8, 256, 256, 1]⟩
abbrev S8x8x1x256x256 : Shape := ⟨5, ![8, 8, 1, 256, 256]⟩
abbrev S8x8x1x256 : Shape := ⟨4, ![8, 8, 1, 256]⟩
abbrev S8x8x1x256x1 : Shape := ⟨5, ![8, 8, 1, 256, 1]⟩
abbrev S8x8x64x1x256 : Shape := ⟨5, ![8, 8, 64, 1, 256]⟩
abbrev S8x256x1x8x64 : Shape := ⟨5, ![8, 256, 1, 8, 64]⟩
abbrev S8x4352x1x8x64 : Shape := ⟨5, ![8, 4352, 1, 8, 64]⟩
abbrev S8x4352x512 : Shape := ⟨3, ![8, 4352, 512]⟩

abbrev nBuf : Space → Nat
  | .hbm => 53
  | .vmem => 0
  | .smem => 0
  | _ => 0

abbrev bufTy : (tb : Table) → Fin (tcTables nBuf tb) → BufTy
  | .hbm, ⟨0, _⟩ => ⟨S8x4352x8x96, .f32⟩
  | .hbm, ⟨1, _⟩ => ⟨S8x4352x8x96, .f32⟩
  | .hbm, ⟨2, _⟩ => ⟨S8x4352x8x64, .f32⟩
  | .hbm, ⟨3, _⟩ => ⟨S8x4352x8x1x96, .f32⟩
  | .hbm, ⟨4, _⟩ => ⟨S8x4096x8x1x96, .f32⟩
  | .hbm, ⟨5, _⟩ => ⟨S8x8x4352x4096x1, .f32⟩
  | .hbm, ⟨6, _⟩ => ⟨S8x8x1x4096x4352, .f32⟩
  | .hbm, ⟨7, _⟩ => ⟨S_, .f32⟩
  | .hbm, ⟨8, _⟩ => ⟨S8x8x1x4096x4352, .f32⟩
  | .hbm, ⟨9, _⟩ => ⟨S8x8x1x4096x4352, .f32⟩
  | .hbm, ⟨10, _⟩ => ⟨S_, .f32⟩
  | .hbm, ⟨11, _⟩ => ⟨S8x8x1x4096, .f32⟩
  | .hbm, ⟨12, _⟩ => ⟨S_, .f32⟩
  | .hbm, ⟨13, _⟩ => ⟨S8x8x1x4096, .f32⟩
  | .hbm, ⟨14, _⟩ => ⟨S8x8x1x4096, .f32⟩
  | .hbm, ⟨15, _⟩ => ⟨S8x8x1x4096x1, .f32⟩
  | .hbm, ⟨16, _⟩ => ⟨S8x8x1x4096x4352, .f32⟩
  | .hbm, ⟨17, _⟩ => ⟨S8x8x1x4096x4352, .f32⟩
  | .hbm, ⟨18, _⟩ => ⟨S8x8x1x4096x4352, .f32⟩
  | .hbm, ⟨19, _⟩ => ⟨S_, .f32⟩
  | .hbm, ⟨20, _⟩ => ⟨S8x8x1x4096, .f32⟩
  | .hbm, ⟨21, _⟩ => ⟨S8x8x1x4096x1, .f32⟩
  | .hbm, ⟨22, _⟩ => ⟨S8x8x1x4096x4352, .f32⟩
  | .hbm, ⟨23, _⟩ => ⟨S8x8x1x4096x4352, .f32⟩
  | .hbm, ⟨24, _⟩ => ⟨S8x8x64x1x4096, .f32⟩
  | .hbm, ⟨25, _⟩ => ⟨S8x4096x1x8x64, .f32⟩
  | .hbm, ⟨26, _⟩ => ⟨S8x256x8x1x96, .f32⟩
  | .hbm, ⟨27, _⟩ => ⟨S8x256x8x96, .f32⟩
  | .hbm, ⟨28, _⟩ => ⟨S8x256x8x64, .f32⟩
  | .hbm, ⟨29, _⟩ => ⟨S8x8x256x256x1, .f32⟩
  | .hbm, ⟨30, _⟩ => ⟨S8x8x1x256x256, .f32⟩
  | .hbm, ⟨31, _⟩ => ⟨S_, .f32⟩
  | .hbm, ⟨32, _⟩ => ⟨S8x8x1x256x256, .f32⟩
  | .hbm, ⟨33, _⟩ => ⟨S8x8x1x256x256, .f32⟩
  | .hbm, ⟨34, _⟩ => ⟨S_, .f32⟩
  | .hbm, ⟨35, _⟩ => ⟨S8x8x1x256, .f32⟩
  | .hbm, ⟨36, _⟩ => ⟨S_, .f32⟩
  | .hbm, ⟨37, _⟩ => ⟨S8x8x1x256, .f32⟩
  | .hbm, ⟨38, _⟩ => ⟨S8x8x1x256, .f32⟩
  | .hbm, ⟨39, _⟩ => ⟨S8x8x1x256x1, .f32⟩
  | .hbm, ⟨40, _⟩ => ⟨S8x8x1x256x256, .f32⟩
  | .hbm, ⟨41, _⟩ => ⟨S8x8x1x256x256, .f32⟩
  | .hbm, ⟨42, _⟩ => ⟨S8x8x1x256x256, .f32⟩
  | .hbm, ⟨43, _⟩ => ⟨S_, .f32⟩
  | .hbm, ⟨44, _⟩ => ⟨S8x8x1x256, .f32⟩
  | .hbm, ⟨45, _⟩ => ⟨S8x8x1x256x1, .f32⟩
  | .hbm, ⟨46, _⟩ => ⟨S8x8x1x256x256, .f32⟩
  | .hbm, ⟨47, _⟩ => ⟨S8x8x1x256x256, .f32⟩
  | .hbm, ⟨48, _⟩ => ⟨S8x8x64x1x256, .f32⟩
  | .hbm, ⟨49, _⟩ => ⟨S8x256x1x8x64, .f32⟩
  | .hbm, ⟨50, _⟩ => ⟨S8x4352x1x8x64, .f32⟩
  | .hbm, ⟨51, _⟩ => ⟨S8x4352x512, .f32⟩
  | .hbm, ⟨52, _⟩ => ⟨S8x4352x512, .bf16⟩
  | _, _ => ⟨S8x4352x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Kernel5.lean ====
abbrev S8x4352x1024 : Shape := ⟨3, ![8, 4352, 1024]⟩
abbrev S6144 : Shape := ⟨1, ![6144]⟩
abbrev S8x6144 : Shape := ⟨2, ![8, 6144]⟩
abbrev S1024 : Shape := ⟨1, ![1024]⟩
abbrev S1024x5664 : Shape := ⟨2, ![1024, 5664]⟩
abbrev S5x1536 : Shape := ⟨2, ![5, 1536]⟩
abbrev S1536 : Shape := ⟨1, ![1536]⟩
abbrev S2x16 : Shape := ⟨2, ![2, 16]⟩
abbrev S4352x32 : Shape := ⟨2, ![4352, 32]⟩
abbrev S1x1x6x1024 : Shape := ⟨4, ![1, 1, 6, 1024]⟩
abbrev S8x1x6x1024 : Shape := ⟨4, ![8, 1, 6, 1024]⟩
abbrev S8x2x6x1024 : Shape := ⟨4, ![8, 2, 6, 1024]⟩
abbrev S1024x1024 : Shape := ⟨2, ![1024, 1024]⟩
abbrev S1024x1536 : Shape := ⟨2, ![1024, 1536]⟩
abbrev S1024x32 : Shape := ⟨2, ![1024, 32]⟩
abbrev S1024x512 : Shape := ⟨2, ![1024, 512]⟩
abbrev S_ : Shape := ⟨0, ![]⟩
abbrev S1024x128 : Shape := ⟨2, ![1024, 128]⟩
abbrev S1024x5760 : Shape := ⟨2, ![1024, 5760]⟩
abbrev S4352x32x2 : Shape := ⟨3, ![4352, 32, 2]⟩
abbrev S4352x64 : Shape := ⟨2, ![4352, 64]⟩
abbrev S4352x32x1 : Shape := ⟨3, ![4352, 32, 1]⟩
abbrev S1x4352x1x64 : Shape := ⟨4, ![1, 4352, 1, 64]⟩
abbrev S1x4352x2x64 : Shape := ⟨4, ![1, 4352, 2, 64]⟩
abbrev S4352x128 : Shape := ⟨2, ![4352, 128]⟩
abbrev S1x1024 : Shape := ⟨2, ![1, 1024]⟩
abbrev S1x1536 : Shape := ⟨2, ![1, 1536]⟩
abbrev S32 : Shape := ⟨1, ![32]⟩
abbrev S128 : Shape := ⟨1, ![128]⟩
abbrev S1x128 : Shape := ⟨2, ![1, 128]⟩
abbrev S8x4352x512 : Shape := ⟨3, ![8, 4352, 512]⟩
abbrev S8x4352x128 : Shape := ⟨3, ![8, 4352, 128]⟩
abbrev S1x8x1024 : Shape := ⟨3, ![1, 8, 1024]⟩
abbrev S1x256x1024 : Shape := ⟨3, ![1, 256, 1024]⟩
abbrev S256x128 : Shape := ⟨2, ![256, 128]⟩
abbrev S1x256x512 : Shape := ⟨3, ![1, 256, 512]⟩
abbrev S1x256x128 : Shape := ⟨3, ![1, 256, 128]⟩
abbrev S272x1536 : Shape := ⟨2, ![272, 1536]⟩
abbrev S8x1024 : Shape := ⟨2, ![8, 1024]⟩
abbrev S256x1024 : Shape := ⟨2, ![256, 1024]⟩
abbrev S272x1024 : Shape := ⟨2, ![272, 1024]⟩
abbrev S272 : Shape := ⟨1, ![272]⟩
abbrev S272x1 : Shape := ⟨2, ![272, 1]⟩
abbrev S1x1x1x1024 : Shape := ⟨4, ![1, 1, 1, 1024]⟩
abbrev S272x5760 : Shape := ⟨2, ![272, 5760]⟩
abbrev S256x5760 : Shape := ⟨2, ![256, 5760]⟩
abbrev S256x1536 : Shape := ⟨2, ![256, 1536]⟩
abbrev S256x512 : Shape := ⟨2, ![256, 512]⟩

abbrev nBuf : Space → Nat
  | .hbm => 54
  | .vmem => 34
  | .smem => 0
  | _ => 0

abbrev bufTy : (tb : Table) → Fin (tcTables nBuf tb) → BufTy
  | .hbm, ⟨0, _⟩ => ⟨S8x4352x1024, .f32⟩
  | .hbm, ⟨1, _⟩ => ⟨S6144, .f32⟩
  | .hbm, ⟨2, _⟩ => ⟨S8x6144, .f32⟩
  | .hbm, ⟨3, _⟩ => ⟨S1024, .f32⟩
  | .hbm, ⟨4, _⟩ => ⟨S1024x5664, .f32⟩
  | .hbm, ⟨5, _⟩ => ⟨S5x1536, .f32⟩
  | .hbm, ⟨6, _⟩ => ⟨S1536, .f32⟩
  | .hbm, ⟨7, _⟩ => ⟨S2x16, .f32⟩
  | .hbm, ⟨8, _⟩ => ⟨S4352x32, .f32⟩
  | .hbm, ⟨9, _⟩ => ⟨S4352x32, .f32⟩
  | .hbm, ⟨10, _⟩ => ⟨S1x1x6x1024, .f32⟩
  | .hbm, ⟨11, _⟩ => ⟨S8x1x6x1024, .f32⟩
  | .hbm, ⟨12, _⟩ => ⟨S8x1x6x1024, .f32⟩
  | .hbm, ⟨13, _⟩ => ⟨S8x2x6x1024, .f32⟩
  | .hbm, ⟨14, _⟩ => ⟨S1024x1024, .f32⟩
  | .hbm, ⟨15, _⟩ => ⟨S1024x1536, .f32⟩
  | .hbm, ⟨16, _⟩ => ⟨S1024x32, .f32⟩
  | .hbm, ⟨17, _⟩ => ⟨S1024x512, .f32⟩
  | .hbm, ⟨18, _⟩ => ⟨S1024x512, .f32⟩
  | .hbm, ⟨19, _⟩ => ⟨S1024x1024, .f32⟩
  | .hbm, ⟨20, _⟩ => ⟨S1024x1024, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x5760, .f32⟩
  | .hbm, ⟨25, _⟩ => ⟨S1024x5760, .bf16⟩
  | .hbm, ⟨26, _⟩ => ⟨S4352x32x2, .f32⟩
  | .hbm, ⟨27, _⟩ => ⟨S4352x64, .f32⟩
  | .hbm, ⟨28, _⟩ => ⟨S4352x32, .f32⟩
  | .hbm, ⟨29, _⟩ => ⟨S4352x32x1, .f32⟩
  | .hbm, ⟨30, _⟩ => ⟨S4352x32x1, .f32⟩
  | .hbm, ⟨31, _⟩ => ⟨S4352x32x2, .f32⟩
  | .hbm, ⟨32, _⟩ => ⟨S4352x64, .f32⟩
  | .hbm, ⟨33, _⟩ => ⟨S1x4352x1x64, .f32⟩
  | .hbm, ⟨34, _⟩ => ⟨S1x4352x2x64, .f32⟩
  | .hbm, ⟨35, _⟩ => ⟨S4352x128, .f32⟩
  | .hbm, ⟨36, _⟩ => ⟨S1x4352x1x64, .f32⟩
  | .hbm, ⟨37, _⟩ => ⟨S1x4352x2x64, .f32⟩
  | .hbm, ⟨38, _⟩ => ⟨S4352x128, .f32⟩
  | .hbm, ⟨39, _⟩ => ⟨S1x1024, .f32⟩
  | .hbm, ⟨40, _⟩ => ⟨S1x1536, .f32⟩
  | .hbm, ⟨41, _⟩ => ⟨S32, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S8x4352x1024, .f32⟩
  | .hbm, ⟨47, _⟩ => ⟨S8x4352x1024, .f32⟩
  | .hbm, ⟨48, _⟩ => ⟨S8x4352x512, .bf16⟩
  | .hbm, ⟨49, _⟩ => ⟨S8x4352x128, .f32⟩
  | .hbm, ⟨50, _⟩ => ⟨S8x4352x512, .bf16⟩
  | .hbm, ⟨51, _⟩ => ⟨S8x4352x512, .bf16⟩
  | .hbm, ⟨52, _⟩ => ⟨S8x4352x1024, .bf16⟩
  | .hbm, ⟨53, _⟩ => ⟨S8x4352x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x6x1024, .f32⟩
  | .local _ .vmem, ⟨7, _⟩ => ⟨S1x1x6x1024, .f32⟩
  | .local _ .vmem, ⟨8, _⟩ => ⟨S1x1024, .f32⟩
  | .local _ .vmem, ⟨9, _⟩ => ⟨S1024x5760, .bf16⟩
  | .local _ .vmem, ⟨10, _⟩ => ⟨S5x1536, .f32⟩
  | .local _ .vmem, ⟨11, _⟩ => ⟨S1x1536, .f32⟩
  | .local _ .vmem, ⟨12, _⟩ => ⟨S1x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x512, .bf16⟩
  | .local _ .vmem, ⟨22, _⟩ => ⟨S1x256x512, .bf16⟩
  | .local _ .vmem, ⟨23, _⟩ => ⟨S1x256x128, .f32⟩
  | .local _ .vmem, ⟨24, _⟩ => ⟨S1x256x128, .f32⟩
  | .local _ .vmem, ⟨25, _⟩ => ⟨S1x256x512, .bf16⟩
  | .local _ .vmem, ⟨26, _⟩ => ⟨S1x256x512, .bf16⟩
  | .local _ .vmem, ⟨27, _⟩ => ⟨S1x256x512, .bf16⟩
  | .local _ .vmem, ⟨28, _⟩ => ⟨S1x256x512, .bf16⟩
  | .local _ .vmem, ⟨29, _⟩ => ⟨S1x256x1024, .bf16⟩
  | .local _ .vmem, ⟨30, _⟩ => ⟨S1x256x1024, .bf16⟩
  | .local _ .vmem, ⟨31, _⟩ => ⟨S1x256x1024, .f32⟩
  | .local _ .vmem, ⟨32, _⟩ => ⟨S1x256x1024, .f32⟩
  | .local _ .vmem, ⟨33, _⟩ => ⟨S272x1536, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_0 : Ref sig .tc := ⟨.hbm, 42, rfl⟩
abbrev main_call1_v0 : Ref sig .tc := ⟨.hbm, 43, rfl⟩
abbrev main_v30 : Ref sig .tc := ⟨.hbm, 44, rfl⟩
abbrev main_v31 : Ref sig .tc := ⟨.hbm, 45, rfl⟩
abbrev main_v32_0 : Ref sig .tc := ⟨.hbm, 46, rfl⟩
abbrev main_v32_1 : Ref sig .tc := ⟨.hbm, 47, rfl⟩
abbrev main_v32_2 : Ref sig .tc := ⟨.hbm, 48, rfl⟩
abbrev main_v32_3 : Ref sig .tc := ⟨.hbm, 49, rfl⟩
abbrev main_v32_4 : Ref sig .tc := ⟨.hbm, 50, rfl⟩
abbrev main_v32_5 : Ref sig .tc := ⟨.hbm, 51, rfl⟩
abbrev main_v32_6 : Ref sig .tc := ⟨.hbm, 52, rfl⟩
abbrev main_v32_7 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5760 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S5x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference5Ideal.lean ====
abbrev S8x4352x1024 : Shape := ⟨3, ![8, 4352, 1024]⟩
abbrev S6144 : Shape := ⟨1, ![6144]⟩
abbrev S8x6144 : Shape := ⟨2, ![8, 6144]⟩
abbrev S1024 : Shape := ⟨1, ![1024]⟩
abbrev S1024x5664 : Shape := ⟨2, ![1024, 5664]⟩
abbrev S5x1536 : Shape := ⟨2, ![5, 1536]⟩
abbrev S1536 : Shape := ⟨1, ![1536]⟩
abbrev S2x16 : Shape := ⟨2, ![2, 16]⟩
abbrev S4352x32 : Shape := ⟨2, ![4352, 32]⟩
abbrev S8x1024 : Shape := ⟨2, ![8, 1024]⟩
abbrev S8x1x1024 : Shape := ⟨3, ![8, 1, 1024]⟩
abbrev S8x256x1024 : Shape := ⟨3, ![8, 256, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x4096x1024 : Shape := ⟨3, ![8, 4096, 1024]⟩
abbrev S8x4096 : Shape := ⟨2, ![8, 4096]⟩
abbrev S8x4096x1 : Shape := ⟨3, ![8, 4096, 1]⟩
abbrev S8x4352x5664 : Shape := ⟨3, ![8, 4352, 5664]⟩

abbrev nBuf : Space → Nat
  | .hbm => 80
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S6144, .f32⟩
  | .hbm, ⟨2, _⟩ => ⟨S8x6144, .f32⟩
  | .hbm, ⟨3, _⟩ => ⟨S1024, .f32⟩
  | .hbm, ⟨4, _⟩ => ⟨S1024x5664, .f32⟩
  | .hbm, ⟨5, _⟩ => ⟨S5x1536, .f32⟩
  | .hbm, ⟨6, _⟩ => ⟨S1536, .f32⟩
  | .hbm, ⟨7, _⟩ => ⟨S2x16, .f32⟩
  | .hbm, ⟨8, _⟩ => ⟨S4352x32, .f32⟩
  | .hbm, ⟨9, _⟩ => ⟨S4352x32, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1x1024, .f32⟩
  | .hbm, ⟨17, _⟩ => ⟨S8x1x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S8x256x1024, .f32⟩
  | .hbm, ⟨25, _⟩ => ⟨S8x256x1024, .f32⟩
  | .hbm, ⟨26, _⟩ => ⟨S_, .f32⟩
  | .hbm, ⟨27, _⟩ => ⟨S8x256, .f32⟩
  | .hbm, ⟨28, _⟩ => ⟨S8x256x1, .f32⟩
  | .hbm, ⟨29, _⟩ => ⟨S_, .f32⟩
  | .hbm, ⟨30, _⟩ => ⟨S8x256x1, .f32⟩
  | .hbm, ⟨31, _⟩ => ⟨S8x256x1, .f32⟩
  | .hbm, ⟨32, _⟩ => ⟨S_, .f32⟩
  | .hbm, ⟨33, _⟩ => ⟨S8x256x1, .f32⟩
  | .hbm, ⟨34, _⟩ => ⟨S8x256x1, .f32⟩
  | .hbm, ⟨35, _⟩ => ⟨S8x256x1, .f32⟩
  | .hbm, ⟨36, _⟩ => ⟨S8x256x1024, .f32⟩
  | .hbm, ⟨37, _⟩ => ⟨S8x256x1024, .f32⟩
  | .hbm, ⟨38, _⟩ => ⟨S1x1x1024, .f32⟩
  | .hbm, ⟨39, _⟩ => ⟨S8x256x1024, .f32⟩
  | .hbm, ⟨40, _⟩ => ⟨S8x256x1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1x1x1024, .f32⟩
  | .hbm, ⟨45, _⟩ => ⟨S8x256x1024, .f32⟩
  | .hbm, ⟨46, _⟩ => ⟨S8x256x1024, .f32⟩
  | .hbm, ⟨47, _⟩ => ⟨S1x1x1024, .f32⟩
  | .hbm, ⟨48, _⟩ => ⟨S8x256x1024, .f32⟩
  | .hbm, ⟨49, _⟩ => ⟨S8x256x1024, .f32⟩
  | .hbm, ⟨50, _⟩ => ⟨S8x4096x1024, .f32⟩
  | .hbm, ⟨51, _⟩ => ⟨S8x4096x1024, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S8x4096x1, .f32⟩
  | .hbm, ⟨62, _⟩ => ⟨S8x4096x1024, .f32⟩
  | .hbm, ⟨63, _⟩ => ⟨S8x4096x1024, .f32⟩
  | .hbm, ⟨64, _⟩ => ⟨S1x1x1024, .f32⟩
  | .hbm, ⟨65, _⟩ => ⟨S8x4096x1024, .f32⟩
  | .hbm, ⟨66, _⟩ => ⟨S8x4096x1024, .f32⟩
  | .hbm, ⟨67, _⟩ => ⟨S_, .f32⟩
  | .hbm, ⟨68, _⟩ => ⟨S8x1x1024, .f32⟩
  | .hbm, ⟨69, _⟩ => ⟨S8x1x1024, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4352x1024, .f32⟩
  | .hbm, ⟨75, _⟩ => ⟨S8x4352x5664, .f32⟩
  | .hbm, ⟨76, _⟩ => ⟨S8x4352x1024, .f32⟩
  | .hbm, ⟨77, _⟩ => ⟨S8x4352x1024, .f32⟩
  | .hbm, ⟨78, _⟩ => ⟨S8x4352x1024, .f32⟩
  | .hbm, ⟨79, _⟩ => ⟨S8x4352x1024, .bf16⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Proof.Gqa.Body.lean ====
/-
  One grid point of the grouped-query attention call: the body run on any staging buffers, in its two cases.

  A point of case A (a tile of latent queries) loads two heads' queries, the keys and the two value operands, and
  stores one whole block of 1024 rows. A point of case B (the tile of context queries) does the same over the first
  256 rows of everything, stores 256 rows, and stores zeros to the 768 rows below. Each case is run once, over any
  float values; what the stores leave is found by the run.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Tactic
public import Idealize.ShloMosaic.Lib.Ring
public import Idealize.ShloMosaic.Lib.Pipeline.FrameBody

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point works on a tile of latent queries. -/
abbrev isLatent (i : grid0.Coords) : Prop := k0_cond1 i = 1#1
/-- The point works on the tile of context queries. -/
abbrev isContext (i : grid0.Coords) : Prop := k0_cond2 i = 1#1

/-- Of the five tiles of a (batch, pair) the first four hold latent queries, -/
theorem isLatent_iff : ∀ t : Fin cfg0.N, isLatent (grid0.coords t) ↔ ¬t.val % 5 = 4 :=
  (by decide +kernel : ∀ t : Fin grid0.N, isLatent (grid0.coords t) ↔ ¬t.val % 5 = 4)
/-- and the fifth the context's. -/
theorem isContext_iff : ∀ t : Fin cfg0.N, isContext (grid0.coords t) ↔ t.val % 5 = 4 :=
  (by decide +kernel : ∀ t : Fin grid0.N, isContext (grid0.coords t) ↔ t.val % 5 = 4)

/-- The result's block is stored at every point. -/
theorem live4 : ∀ t : Fin cfg0.N, cfg0.idle 4 (grid0.coords t) = false := by decide +kernel

section run

variable (c : Dev nD) (i : grid0.Coords)
  (aq : Memref sig .tc .vmem S1x1024x256 .bf16) (hq : aq.IsWhole)
  (ak : Memref sig .tc .vmem S1x4352x128 .bf16) (hk : ak.IsWhole)
  (al : Memref sig .tc .vmem S1x4352x128 .bf16) (hl : al.IsWhole)
  (ah : Memref sig .tc .vmem S1x4352x128 .bf16) (hh : ah.IsWhole)
  (ao : Memref sig .tc .vmem S1x1024x128 .bf16) (ho : ao.IsWhole)
  (xq : Vec F S1x1024x256 .bf16) (xk xl xh : Vec F S1x4352x128 .bf16)

/-- What the body needs of its five staging buffers: the inputs at their contents, the result's at anything. -/
abbrev given : sProp 𝕄 :=
  iprop(owns (c : Thread nD τ) aq fullShare xq ∗ owns (c : Thread nD τ) ak fullShare xk
    ∗ owns (c : Thread nD τ) al fullShare xl ∗ owns (c : Thread nD τ) ah fullShare xh
    ∗ (∃ d, owns (c : Thread nD τ) ao fullShare d))

/-- What it hands back: the inputs unchanged, the result's buffer with the pieces `L` written into it. -/
abbrev left (L : List (View.Piece (Elt F) S1x1024x128 .bf16)) : sProp 𝕄 :=
  iprop(owns (c : Thread nD τ) aq fullShare xq ∗ owns (c : Thread nD τ) ak fullShare xk
    ∗ owns (c : Thread nD τ) al fullShare xl ∗ owns (c : Thread nD τ) ah fullShare xh
    ∗ (∃ f, ao.view.loc (c : Thread nD τ) ↦[ao.view.set]{fullShare} ao.view.writes (Elt F) f L))

set_option maxHeartbeats 1000000 in
/-- A tile of latent queries: the pieces stored, and the run that stores them. -/
def runLatent (hA : isLatent i) (hB : ¬isContext i) :
    { L : List (View.Piece (Elt F) S1x1024x128 .bf16) //
      ∀ (E : Set ℕ) (K : PUnit → sProp 𝕄),
        iprop(given c aq ak al ah ao xq xk xl xh ∗ (left c aq ak al ah ao xq xk xl xh L -∗ K ⟨⟩))
          ⊢ wp frame (wpE (defs₀ (F := F)) Variants.none c none) E (cc0_attn_gqa i aq hq ak hk al hl ah hh ao ho) K } := by
  refine ⟨?_, fun E K => ?run⟩
  case run =>
    simp only [cc0_attn_gqa_eq_skeleton]; unfold cc0_attn_gqa_skel
    simp only [k0_part1_eq_skeleton]
    unfold given left owns
    iintro ⟨⟨⟨%f0, %e0, H0⟩, ⟨%f1, %e1, H1⟩, ⟨%f2, %e2, H2⟩, ⟨%f3, %e3, H3⟩, ⟨%d4, %f4, -, H4⟩⟩, Hk⟩
    obtain rfl := hq.eq_unread e0; obtain rfl := hk.eq_unread e1; obtain rfl := hl.eq_unread e2; obtain rfl := hh.eq_unread e3
    sl_exec (disch := first | sl_exact hA | sl_exact hB)
    sl_step
    iapply Hk
    isplitl [H0]
    · iexists _; isplitr; · ipureintro; exact hq.read_unread _
      iexact H0
    isplitl [H1]
    · iexists _; isplitr; · ipureintro; exact hk.read_unread _
      iexact H1
    isplitl [H2]
    · iexists _; isplitr; · ipureintro; exact hl.read_unread _
      iexact H2
    isplitl [H3]
    · iexists _; isplitr; · ipureintro; exact hh.read_unread _
      iexact H3
    iexists _; iexact H4

set_option maxHeartbeats 1000000 in
/-- The tile of context queries: the pieces stored, and the run that stores them. -/
def runContext (hA : ¬isLatent i) (hB : isContext i) :
    { L : List (View.Piece (Elt F) S1x1024x128 .bf16) //
      ∀ (E : Set ℕ) (K : PUnit → sProp 𝕄),
        iprop(given c aq ak al ah ao xq xk xl xh ∗ (left c aq ak al ah ao xq xk xl xh L -∗ K ⟨⟩))
          ⊢ wp frame (wpE (defs₀ (F := F)) Variants.none c none) E (cc0_attn_gqa i aq hq ak hk al hl ah hh ao ho) K } := by
  refine ⟨?_, fun E K => ?run⟩
  case run =>
    simp only [cc0_attn_gqa_eq_skeleton]; unfold cc0_attn_gqa_skel
    simp only [k0_part2_eq_skeleton]
    unfold given left owns
    iintro ⟨⟨⟨%f0, %e0, H0⟩, ⟨%f1, %e1, H1⟩, ⟨%f2, %e2, H2⟩, ⟨%f3, %e3, H3⟩, ⟨%d4, %f4, -, H4⟩⟩, Hk⟩
    obtain rfl := hq.eq_unread e0; obtain rfl := hk.eq_unread e1; obtain rfl := hl.eq_unread e2; obtain rfl := hh.eq_unread e3
    sl_exec (disch := first | sl_exact hA | sl_exact hB)
    sl_step
    iapply Hk
    isplitl [H0]
    · iexists _; isplitr; · ipureintro; exact hq.read_unread _
      iexact H0
    isplitl [H1]
    · iexists _; isplitr; · ipureintro; exact hk.read_unread _
      iexact H1
    isplitl [H2]
    · iexists _; isplitr; · ipureintro; exact hl.read_unread _
      iexact H2
    isplitl [H3]
    · iexists _; isplitr; · ipureintro; exact hh.read_unread _
      iexact H3
    iexists _; iexact H4

/-- The pieces of a latent tile cover the result's block (one store of all of it). -/
theorem cover_latent (hA : isLatent i) (hB : ¬isContext i) (y : S1x1024x128.Idx) :
    ∃ p ∈ (runLatent c i aq hq ak hk al hl ah hh ao ho xq xk xl xh hA hB).1, y ∈ p.1.set :=
  View.cover_of_tiledL _ S1x1024x128.size (by sl_kernel_rfl) y

/-- The pieces of the context tile cover it too (256 rows, then the 768 below). -/
theorem cover_context (hA : ¬isLatent i) (hB : isContext i) (y : S1x1024x128.Idx) :
    ∃ p ∈ (runContext c i aq hq ak hk al hl ah hh ao ho xq xk xl xh hA hB).1, y ∈ p.1.set :=
  View.cover_of_tiledBy _ ![1, 256, 128] (by sl_kernel_rfl) y

end run

end Cert.KernelIdeal.Attn

end
-- ==== Proof.Gqa.Run.lean ====
/-
  The grouped-query attention call run whole: the frame's proof data, the body's obligation at every grid point, and
  the run of @main.

  The last of a (batch, pair)'s five query tiles holds only 256 rows of the array: its fetch leaves the lower 768 rows
  of the staging buffer at contents nothing names, and its write-back moves 256 rows. The proof data fill those rows
  with zeros; the body never reads them, so what it stores does not depend on the filling (`stored_any`).
-/
module

public import proofs.«01_k».proof.Proof.Gqa.Body
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging memref at point `t`. -/
abbrev mq (t : Fin cfg0.N) : Memref sig .tc .vmem S1x1024x256 .bf16 := win0_0.stage (cfg0.slots t 0)
abbrev mk (t : Fin cfg0.N) : Memref sig .tc .vmem S1x4352x128 .bf16 := win0_1.stage (cfg0.slots t 1)
abbrev ml (t : Fin cfg0.N) : Memref sig .tc .vmem S1x4352x128 .bf16 := win0_2.stage (cfg0.slots t 2)
abbrev mh (t : Fin cfg0.N) : Memref sig .tc .vmem S1x4352x128 .bf16 := win0_3.stage (cfg0.slots t 3)
abbrev mo (t : Fin cfg0.N) : Memref sig .tc .vmem S1x1024x128 .bf16 := win0_4.stage (cfg0.slots t 4)
/-- Each is a whole buffer. -/
abbrev wq (t : Fin cfg0.N) : (mq t).IsWhole := hstage0_0 ((cfg0.slots t 0).cast nbuf0_0)
abbrev wk (t : Fin cfg0.N) : (mk t).IsWhole := hstage0_1 ((cfg0.slots t 1).cast nbuf0_1)
abbrev wl (t : Fin cfg0.N) : (ml t).IsWhole := hstage0_2 ((cfg0.slots t 2).cast nbuf0_2)
abbrev wh (t : Fin cfg0.N) : (mh t).IsWhole := hstage0_3 ((cfg0.slots t 3).cast nbuf0_3)
abbrev wo (t : Fin cfg0.N) : (mo t).IsWhole := hstage0_4 ((cfg0.slots t 4).cast nbuf0_4)

/-- One staging buffer of the result, through which its contents are read. -/
abbrev VO : View sig .tc .vmem S1x1024x128 .bf16 := (Memref.whole cc0_stg4_0 : Memref sig .tc .vmem S1x1024x128 .bf16).view

/-- What the body leaves in the result's buffer at point `t`, from what the input buffers hold. -/
def stored (c : Dev nD) (t : Fin cfg0.N) (xq : Vec F S1x1024x256 .bf16) (xk xl xh : Vec F S1x4352x128 .bf16) :
    Vec F S1x1024x128 .bf16 :=
  if h : t.val % 5 = 4 then
    VO.read (Elt F) (VO.writes (Elt F) VO.junk (runContext c (grid0.coords t) (mq t) (wq t) (mk t) (wk t) (ml t) (wl t) (mh t) (wh t)
      (mo t) (wo t) xq xk xl xh (fun g => (isLatent_iff t).mp g h) ((isContext_iff t).mpr h)).1)
  else
    VO.read (Elt F) (VO.writes (Elt F) VO.junk (runLatent c (grid0.coords t) (mq t) (wq t) (mk t) (wk t) (ml t) (wl t) (mh t) (wh t)
      (mo t) (wo t) xq xk xl xh ((isLatent_iff t).mpr h) (fun g => h ((isContext_iff t).mp g))).1)

/-- The 1024 rows a latent tile stores. -/
def latentRows (xq : Vec F S1x1024x256 .bf16) (xk xl xh : Vec F S1x4352x128 .bf16) : Vec F S1x1024x128 .bf16 :=
  k0_pay1 (k0_pay4 (View.ld xq (Rect.unit ![0, 0, 0] ![1, 1024, 128] inb_S1x1024x256_S1x1024x128_0_0_0)) xk xl)
    (k0_pay5 (View.ld xq (Rect.unit ![0, 0, 128] ![1, 1024, 128] inb_S1x1024x256_S1x1024x128_0_0_128)) xk xh)
    (iota Kind.tc S1024x128 32 [1] iota_S1024x128_d1_w32) 64#32

/-- The 256 rows the context tile stores. -/
def contextRows (xq : Vec F S1x1024x256 .bf16) (xk xl xh : Vec F S1x4352x128 .bf16) : Vec F S1x256x128 .bf16 :=
  k0_pay2
    (k0_pay6 (View.ld xq (Rect.unit ![0, 0, 0] ![1, 256, 128] inb_S1x1024x256_S1x256x128_0_0_0))
      (View.ld xk (Rect.unit ![0, 0, 0] ![1, 256, 128] inb_S1x4352x128_S1x256x128_0_0_0))
      (View.ld xl (Rect.unit ![0, 0, 0] ![1, 256, 128] inb_S1x4352x128_S1x256x128_0_0_0)))
    (k0_pay7 (View.ld xq (Rect.unit ![0, 0, 128] ![1, 256, 128] inb_S1x1024x256_S1x256x128_0_0_128))
      (View.ld xk (Rect.unit ![0, 0, 0] ![1, 256, 128] inb_S1x4352x128_S1x256x128_0_0_0))
      (View.ld xh (Rect.unit ![0, 0, 0] ![1, 256, 128] inb_S1x4352x128_S1x256x128_0_0_0)))
    (iota Kind.tc S256x128 32 [1] iota_S256x128_d1_w32) 64#32

theorem stored_latent (c : Dev nD) (t : Fin cfg0.N) (h : ¬t.val % 5 = 4) (xq : Vec F S1x1024x256 .bf16)
    (xk xl xh : Vec F S1x4352x128 .bf16) : stored c t xq xk xl xh = latentRows xq xk xl xh := by
  unfold stored; rw [dif_neg h]; frame_out; rfl

theorem stored_context (c : Dev nD) (t : Fin cfg0.N) (h : t.val % 5 = 4) (xq : Vec F S1x1024x256 .bf16)
    (xk xl xh : Vec F S1x4352x128 .bf16) : stored c t xq xk xl xh
      = View.canon [⟨Rect.unit ![0, 256, 0] ![1, 768, 128] inb_S1x1024x128_S1x768x128_0_256_0, k0_pay3⟩,
          ⟨Rect.unit ![0, 0, 0] ![1, 256, 128] inb_S1x1024x128_S1x256x128_0_0_0, contextRows xq xk xl xh⟩] := by
  unfold stored; rw [dif_pos h]; frame_out; rfl

/-! ## The rows of a query block that lie in the array -/

theorem qsize : ∀ t : Fin cfg0.N, win0_0.xsize (grid0.coords t) = ![1, if t.val % 5 = 4 then 256 else 1024, 256] :=
  (by decide +kernel : ∀ t : Fin grid0.N, win0_0.xsize (grid0.coords t) = ![1, if t.val % 5 = 4 then 256 else 1024, 256])

/-- The query block of point `t` as the staging buffer holds it: the rows of the array, `d` on the rows past its end. -/
def qblk (c : Dev nD) (t : Fin cfg0.N) (d : Vec F S1x1024x256 .bf16) : Vec F S1x1024x256 .bf16 :=
  win0_0.fill (grid0.coords t) d (iblk m c 0 t)

/-- On the rows that lie in the array `d` does not matter. -/
theorem qblk_congr (c : Dev nD) (t : Fin cfg0.N) (d d' : Vec F S1x1024x256 .bf16) (j : S1x1024x256.Idx)
    (h : (j 1 : ℕ) < if t.val % 5 = 4 then 256 else 1024) : qblk m c t d j = qblk m c t d' j := by
  have hm : win0_0.moved (grid0.coords t) j = true := by
    rw [Pipeline.Window.moved_iff, qsize t]
    intro a
    have h0 : (j 0 : ℕ) < 1 := (j 0).isLt
    have h2 : (j 2 : ℕ) < 256 := (j 2).isLt
    fin_cases a
    · exact h0
    · exact h
    · exact h2
  unfold qblk Pipeline.Window.fill
  rw [dif_pos hm, dif_pos hm]

/-- So what the body stores does not depend on the filling. -/
theorem stored_any (c : Dev nD) (t : Fin cfg0.N) (d d' : Vec F S1x1024x256 .bf16) (xk xl xh : Vec F S1x4352x128 .bf16) :
    stored c t (qblk m c t d) xk xl xh = stored c t (qblk m c t d') xk xl xh := by
  by_cases h : t.val % 5 = 4
  · rw [stored_context c t h, stored_context c t h]
    unfold contextRows
    have e : ∀ (off : Fin 3 → ℕ) (hb) (o1 : off 1 = 0),
        View.ld (qblk m c t d) (Rect.unit (s := S1x1024x256) off ![1, 256, 128] hb)
          = View.ld (qblk m c t d') (Rect.unit (s := S1x1024x256) off ![1, 256, 128] hb) := by
      intro off hb o1; funext x
      refine qblk_congr m c t d d' _ ?_
      rw [if_pos h]
      have hx : (x 1 : ℕ) < 256 := (x 1).isLt
      show off 1 + 1 * (x 1 : ℕ) < 256
      omega
    rw [e _ _ rfl, e _ _ rfl]
  · rw [stored_latent c t h, stored_latent c t h]
    have e : qblk m c t d = qblk m c t d' := funext fun j => qblk_congr m c t d d' j (by
      rw [if_neg h]; exact (j 1).isLt)
    rw [e]

/-! ## The pipeline's proof data -/

/-- The zero filling. -/
abbrev zq : Vec F S1x1024x256 .bf16 := fun _ => Scalar.ofBits .bf16 0#16

/-- What the result's buffer holds after the body at point `t`. -/
def rows (c : Dev nD) (t : Fin cfg0.N) : Vec F S1x1024x128 .bf16 :=
  stored c t (qblk m c t zq) (iblk m c 1 t) (iblk m c 2 t) (iblk m c 3 t)

/-- The arrays as the region finds them; after the body each input's buffer at its block and the result's at `rows`;
    the scoped rest as invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => qblk m c t zq
    | ⟨1, _⟩ => iblk m c 1 t
    | ⟨2, _⟩ => iblk m c 2 t
    | ⟨3, _⟩ => iblk m c 3 t
    | ⟨4, _⟩ => rows m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = qblk m c t zq := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = rows m c t := by dsimp only [dats]

/-- The query buffer is freshly fetched at every point; -/
theorem before_0 (c : Dev nD) (t : Fin cfg0.N) (d) : (dats m 0 c).before 0 t d = qblk m c t d := by
  unfold Dat.before; rw [if_pos (fetch0_0 t)]
  rfl
/-- the other inputs' hold their blocks. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mq t) fullShare ((dats m 0 c).before 0 t d))
    ∗ (∃ d, owns (c : Thread nD τ) (mk t) fullShare ((dats m 0 c).before 1 t d))
    ∗ (∃ d, owns (c : Thread nD τ) (ml t) fullShare ((dats m 0 c).before 2 t d))
    ∗ (∃ d, owns (c : Thread nD τ) (mh t) fullShare ((dats m 0 c).before 3 t d))
    ∗ (∃ d, owns (c : Thread nD τ) (mo t) fullShare ((dats m 0 c).before 4 t d)))

/-- and what it returns: the two clipped windows' buffers stated on the rows their transfers move. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t)

/-- A query buffer handed back unchanged is what the obligation asks of it. -/
theorem left_q (c : Dev nD) (t : Fin cfg0.N) (d : Vec F S1x1024x256 .bf16) :
    owns (c : Thread nD τ) (mq t) fullShare (qblk m c t d) ⊢ ((dats m 0 c).leaves 0 t : sProp 𝕄) := by
  show _ ⊢ iprop(∃ d, owns (c : Thread nD τ) (mq t) fullShare (win0_0.fill (grid0.coords t) d (win0_0.cut (grid0.coords t) ((dats m 0 c).after 0 t))))
  rw [after_0]
  have e : win0_0.cut (grid0.coords t) (qblk m c t zq) = iblk m c 0 t := win0_0.cut_fill _ _ _
  rw [e]
  iintro H; iexists d; iexact H

/-- A result buffer holding `rows` is. -/
theorem left_o (c : Dev nD) (t : Fin cfg0.N) :
    owns (c : Thread nD τ) (mo t) fullShare (rows m c t) ⊢ ((dats m 0 c).leaves 4 t : sProp 𝕄) := by
  have hl : (dats m 0 c).leaves 4 t = (iprop(∃ d, owns (c : Thread nD τ) (mo t) fullShare (win0_4.fill (grid0.coords t) d (win0_4.cut (grid0.coords t) ((dats m 0 c).after 4 t)))) : sProp 𝕄) := by
    unfold Dat.leaves; rw [live4 t]; rfl
  rw [hl, after_4]
  iintro H; iexists (rows m c t); rw [win0_4.fill_cut]; iexact H

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  rw [show (dats m 0 c).leaves 1 t = owns (c : Thread nD τ) (mk t) fullShare ((dats m 0 c).after 1 t) from rfl, after_1,
    show (dats m 0 c).leaves 2 t = owns (c : Thread nD τ) (ml t) fullShare ((dats m 0 c).after 2 t) from rfl, after_2,
    show (dats m 0 c).leaves 3 t = owns (c : Thread nD τ) (mh t) fullShare ((dats m 0 c).after 3 t) from rfl, after_3]
  iintro ⟨HΦ, Ho, ⟨%d0, H0⟩, ⟨%d1, H1⟩, ⟨%d2, H2⟩, ⟨%d3, H3⟩, ⟨%d4, H4⟩⟩
  by_cases h : t.val % 5 = 4
  · iapply ((runContext c (grid0.coords t) (mq t) (wq t) (mk t) (wk t) (ml t) (wl t) (mh t) (wh t) (mo t) (wo t)
      (qblk m c t d0) (iblk m c 1 t) (iblk m c 2 t) (iblk m c 3 t)
      (fun g => (isLatent_iff t).mp g h) ((isContext_iff t).mpr h)).2 Set.univ _)
    unfold given left
    isplitl [H0 H1 H2 H3 H4]
    · isplitl [H0]; · iexact H0
      isplitl [H1]; · iexact H1
      isplitl [H2]; · iexact H2
      isplitl [H3]; · iexact H3
      iexists _; iexact H4
    iintro ⟨H0, H1, H2, H3, ⟨%e4, H4⟩⟩
    isplitl [HΦ]; · iexact HΦ
    isplitl [Ho]; · iexact Ho
    isplitl [H0]; · iapply (left_q m c t d0); iexact H0
    isplitl [H1]; · iexact H1
    isplitl [H2]; · iexact H2
    isplitl [H3]; · iexact H3
    iapply (left_o m c t)
    unfold owns; iexists _; isplitr
    swap; · iexact H4
    ipureintro
    unfold rows
    rw [stored_any m c t zq d0]
    unfold stored
    rw [dif_pos h]
    exact View.read_writes_of_cover _ _ _ _ _ (cover_context c _ _ _ _ _ _ _ _ _ _ _ _ _ _ _ _ _)
  · iapply ((runLatent c (grid0.coords t) (mq t) (wq t) (mk t) (wk t) (ml t) (wl t) (mh t) (wh t) (mo t) (wo t)
      (qblk m c t d0) (iblk m c 1 t) (iblk m c 2 t) (iblk m c 3 t)
      ((isLatent_iff t).mpr h) (fun g => h ((isContext_iff t).mp g))).2 Set.univ _)
    unfold given left
    isplitl [H0 H1 H2 H3 H4]
    · isplitl [H0]; · iexact H0
      isplitl [H1]; · iexact H1
      isplitl [H2]; · iexact H2
      isplitl [H3]; · iexact H3
      iexists _; iexact H4
    iintro ⟨H0, H1, H2, H3, ⟨%e4, H4⟩⟩
    isplitl [HΦ]; · iexact HΦ
    isplitl [Ho]; · iexact Ho
    isplitl [H0]; · iapply (left_q m c t d0); iexact H0
    isplitl [H1]; · iexact H1
    isplitl [H2]; · iexact H2
    isplitl [H3]; · iexact H3
    iapply (left_o m c t)
    unfold owns; iexists _; isplitr
    swap; · iexact H4
    ipureintro
    unfold rows
    rw [stored_any m c t zq d0]
    unfold stored
    rw [dif_neg h]
    exact View.read_writes_of_cover _ _ _ _ _ (cover_latent c _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every weakly fair execution of @main terminates, with every array of the pipeline at what the proof data compute,
    every other unscoped buffer as the region found it, and every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Attn

end
-- ==== Proof.Gqa.Same.lean ====
/-
  The frame of `Kernel` from the run of `KernelIdeal`: the two programs have the same text, so the run, written once
  over any float carrier, holds of both. Only their body tables are separate case distinctions, equal case by case.
-/
module
public import proofs.«01_k».proof.Defs
public import proofs.«01_k».proof.Proof.Gen.Kernel
public import proofs.«01_k».proof.Proof.Gen.KernelIdeal
public import proofs.«01_k».proof.Proof.Gqa.Run

@[expose] public section
set_option maxRecDepth 16384
noncomputable section
namespace Cert.KernelIdeal.Attn
open Idealize.ShloMosaic Idealize.SL.Sem

/-- The body tables agree. -/
theorem defs₀_eq : (@Kernel.defs₀ Bits _ Cert.Kernel.Gen.facts) = @KernelIdeal.defs₀ Bits _ Cert.KernelIdeal.Gen.facts := by
  funext k
  cases k
  · funext l a
    match l, a with
    | ⟨0, _⟩, a => rfl
    | ⟨n + 1, h⟩, _ => exact absurd h (Nat.not_lt.2 (Nat.le_add_left _ _))
  all_goals rfl

/-- So do the label tables. -/
theorem defs_eq : (@Kernel.defs Bits _ Cert.Kernel.Gen.facts) = @KernelIdeal.defs Bits _ Cert.KernelIdeal.Gen.facts  :=
  congrArg (Pipeline.defs (Kernel.pcfgs (F := Bits))) defs₀_eq
set_option maxHeartbeats 2000000 in
/-- `Kernel`'s frame. -/
theorem quiescent : Cert.quiescent_Kernel (hKernel := Cert.Kernel.Gen.facts) := fun m ρ _ => by
  have h := Cert.KernelIdeal.Attn.frame (F := Bits) m ρ
  have e := defs_eq
  generalize Kernel.defs (F := Bits) = D at e ⊢
  subst e
  exact h
end Cert.KernelIdeal.Attn
end
-- ==== Proof.Softmax.lean ====
/-
  The mathematics of one attention row, over extended reals. `soft` is the reference's: exponentials of the scores less
  their greatest, divided by their sum, then the weighted sum of the values. `mix` is the kernel's: powers of two of
  scores given in units of 1/log 2, the values' weighted sum and the weights' own sum taken first and divided once.
  On real scores they agree (`mix_eq_soft`), whatever the values are.
-/
module

public import Idealize.ShloMosaic.PureOps.Ideal
public import Idealize.ShloMosaic.Lib.Pointwise

@[expose] public section

noncomputable section

namespace Cert.Softmax

open Idealize.ShloMosaic

/-- The least float as an extended real. -/
theorem lowest : Ideal.ofBits .f32 0xFF800000#32 = ⊥ := by simp [Ideal.ofBits, Ideal.ieee]
theorem eighth : Ideal.ofBits .f32 0x3E000000#32 = ((1 / 8 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem ninetysix : Ideal.ofBits .f32 0x42C00000#32 = ((96 : ℝ) : EReal) := by
  simp [Ideal.ofBits, Ideal.ieee, -EReal.coe_mul]; norm_num

/-- A pointwise maximum at an index. -/
theorem maximumf_at {s : Shape} (x y : FVec Ideal s .f32) (j : s.Idx) : maximumf x y j = max (x j) (y j) := rfl

variable {n : ℕ}

/-- The greatest score of a row. -/
def peak (s : Fin n → EReal) : EReal := Finset.fold max (Ideal.ofBits .f32 0xFF800000#32) s Finset.univ

/-- The kernel's row: the weighted sum of `v` over the weighted sum of `w`. -/
def mix (s v w : Fin n → EReal) : EReal :=
  Ideal.div (∑ l, Ideal.exp2 (s l - peak s) * v l) (∑ l, Ideal.exp2 (s l - peak s) * w l)

/-- The reference's row: the values weighted by the softmax of the scores. -/
def soft (s v : Fin n → EReal) : EReal :=
  ∑ l, v l * Ideal.div (Ideal.exp (s l - max (Ideal.ofBits .f32 0xFF800000#32) (peak s)))
    (∑ l', Ideal.exp (s l' - max (Ideal.ofBits .f32 0xFF800000#32) (peak s)))

/-- The greatest of real scores, where `i` is a place it is taken. -/
theorem peak_coe (f : Fin n → ℝ) (i : Fin n) (h : ∀ l, f l ≤ f i) : peak (fun l => (f l : EReal)) = (f i : EReal) := by
  unfold peak
  rw [lowest]
  show Finset.univ.sup (fun l => (f l : EReal)) = _
  exact le_antisymm (Finset.sup_le fun l _ => EReal.coe_le_coe_iff.2 (h l))
    (Finset.le_sup (f := fun l => (f l : EReal)) (Finset.mem_univ i))

/-- A nonnegative finite factor goes through a sum of extended reals. -/
theorem sum_mul_real {ι : Type} (S : Finset ι) (f : ι → EReal) (c : ℝ) (hc : 0 ≤ c) :
    (∑ l ∈ S, f l) * (c : EReal) = ∑ l ∈ S, f l * (c : EReal) := by
  classical
  induction S using Finset.induction_on with
  | empty => simp
  | insert a S ha ih =>
    rw [Finset.sum_insert ha, Finset.sum_insert ha,
      EReal.right_distrib_of_nonneg_of_ne_top (EReal.coe_nonneg.2 hc) (EReal.coe_ne_top c), ih]

/-- A sum of reals read as extended reals. -/
theorem sum_coe {ι : Type} (S : Finset ι) (f : ι → ℝ) : (∑ l ∈ S, (f l : EReal)) = ((∑ l ∈ S, f l : ℝ) : EReal) := by
  classical
  induction S using Finset.induction_on with
  | empty => simp
  | insert a S ha ih => rw [Finset.sum_insert ha, Finset.sum_insert ha, ih, EReal.coe_add]

/-- The kernel's row is the reference's: on real scores `a`, given to the kernel in units of 1/log 2. -/
theorem mix_eq_soft (hn : 0 < n) (a : Fin n → ℝ) (s2 s v w : Fin n → EReal)
    (h2 : ∀ l, s2 l = ((a l * (1 / Real.log 2) : ℝ) : EReal)) (hs : ∀ l, s l = (a l : EReal)) (hw : ∀ l, w l = 1) :
    mix s2 v w = soft s v := by
  haveI : Nonempty (Fin n) := ⟨⟨0, hn⟩⟩
  obtain ⟨i, hi⟩ := Finite.exists_max a
  have hlog : 0 < Real.log 2 := Real.log_pos (by norm_num)
  have hc : 0 < 1 / Real.log 2 := by positivity
  have e2 : peak s2 = ((a i * (1 / Real.log 2) : ℝ) : EReal) := by
    rw [show s2 = fun l => ((a l * (1 / Real.log 2) : ℝ) : EReal) from funext h2]
    exact peak_coe _ i fun l => mul_le_mul_of_nonneg_right (hi l) hc.le
  have e1 : peak s = ((a i : ℝ) : EReal) := by
    rw [show s = fun l => (a l : EReal) from funext hs]; exact peak_coe a i hi
  have x2 : ∀ l, Ideal.exp2 (s2 l - peak s2) = ((Real.exp (a l - a i) : ℝ) : EReal) := fun l => by
    rw [h2, e2, ← EReal.coe_sub, Ideal.exp2_coe]
    congr 1
    change (2 : ℝ) ^ (a l * (1 / Real.log 2) - a i * (1 / Real.log 2) : ℝ) = _
    rw [Real.rpow_def_of_pos (by norm_num : (0 : ℝ) < 2)]
    congr 1
    field_simp
  have x1 : ∀ l, Ideal.exp (s l - max (Ideal.ofBits .f32 0xFF800000#32) (peak s)) = ((Real.exp (a l - a i) : ℝ) : EReal) := fun l => by
    rw [hs, e1, lowest, max_eq_right bot_le, ← EReal.coe_sub, Ideal.exp_coe]
  unfold mix soft
  simp only [x2, x1, hw, mul_one]
  rw [sum_coe]
  have hZ : 0 < ∑ l, Real.exp (a l - a i) := Finset.sum_pos (fun l _ => Real.exp_pos _) Finset.univ_nonempty
  simp only [Ideal.div_coe hZ.ne']
  rw [sum_mul_real _ _ _ (by positivity)]
  exact Finset.sum_congr rfl fun l _ => by rw [mul_comm (v l), mul_right_comm]

/-- A product of real rows is real. -/
theorem dot_coe {d : ℕ} (x y : Fin d → ℝ) : (∑ i, (x i : EReal) * (y i : EReal)) = ((∑ i, x i * y i : ℝ) : EReal) := by
  rw [← sum_coe]; exact Finset.sum_congr rfl fun i _ => (EReal.coe_mul _ _).symm

end Cert.Softmax

end
-- ==== Proof.Gqa.Read.lean ====
/- What the kernel stores for one tile of queries, read at an index: a weighted mean of the values. -/
module
public import proofs.«01_k».proof.Proof.Gqa.Run
public import proofs.«01_k».proof.Proof.Softmax
public import Idealize.ShloMosaic.Lib.Claim
@[expose] public section
set_option maxRecDepth 16384
noncomputable section
namespace Cert.KernelIdeal.Attn
open Cert.KernelIdeal Cert.KernelIdeal.Gen
open Idealize.ShloMosaic Idealize.ShloMosaic.TcCoe Idealize.SL.Sem

private theorem lane_lt (e : Fin 128) (h : (e : ℕ) < 64) : IntOp.cmpi .slt (BitVec.ofNat 32 ↑e) 64#32 = 1#1 := by
  revert e; decide
private theorem lane_ge (e : Fin 128) (h : ¬ (e : ℕ) < 64) : IntOp.cmpi .slt (BitVec.ofNat 32 ↑e) 64#32 = 0#1 := by
  revert e; decide

/-- A latent tile: the first 64 lanes are the mean of the low values under the first head's scores, the others that of
    the high values under the second head's. -/
theorem latentRows_at (xq : Vec Ideal S1x1024x256 .bf16) (xk xl xh : Vec Ideal S1x4352x128 .bf16) (r : Fin 1024) (e : Fin 128) :
    latentRows xq xk xl xh (ix3 0 r e) =
      if (e : ℕ) < 64 then
        Softmax.mix (fun l : Fin 4352 => ∑ x : Fin 128, xq (ix3 0 r ⟨x, by omega⟩) * xk (ix3 0 l x))
          (fun l => xl (ix3 0 l e)) (fun l => xl (ix3 0 l 64))
      else
        Softmax.mix (fun l : Fin 4352 => ∑ x : Fin 128, xq (ix3 0 r ⟨128 + x, by omega⟩) * xk (ix3 0 l x))
          (fun l => xh (ix3 0 l e)) (fun l => xh (ix3 0 l 0)) := by
  pointwise [latentRows, k0_pay1, k0_pay4, k0_pay5]
  by_cases h : (e : ℕ) < 64
  · rw [if_pos h, lane_lt e h]; rfl
  · rw [if_neg h, lane_ge e h]; rfl

/-- A context tile: the same over the first 256 keys. -/
theorem contextRows_at (xq : Vec Ideal S1x1024x256 .bf16) (xk xl xh : Vec Ideal S1x4352x128 .bf16) (r : Fin 256) (e : Fin 128) :
    contextRows xq xk xl xh (ix3 0 r e) =
      if (e : ℕ) < 64 then
        Softmax.mix (fun l : Fin 256 => ∑ x : Fin 128, xq (ix3 0 ⟨r, by omega⟩ ⟨x, by omega⟩) * xk (ix3 0 ⟨l, by omega⟩ x))
          (fun l => xl (ix3 0 ⟨l, by omega⟩ e)) (fun l => xl (ix3 0 ⟨l, by omega⟩ 64))
      else
        Softmax.mix (fun l : Fin 256 => ∑ x : Fin 128, xq (ix3 0 ⟨r, by omega⟩ ⟨128 + x, by omega⟩) * xk (ix3 0 ⟨l, by omega⟩ x))
          (fun l => xh (ix3 0 ⟨l, by omega⟩ e)) (fun l => xh (ix3 0 ⟨l, by omega⟩ 0)) := by
  pointwise [contextRows, k0_pay2, k0_pay6, k0_pay7]
  by_cases h : (e : ℕ) < 64
  · rw [if_pos h, lane_lt e h]; rfl
  · rw [if_neg h, lane_ge e h]; rfl

end Cert.KernelIdeal.Attn
end
-- ==== Proof.Gqa.Blocks.lean ====
/- The blocks of the call's arrays at a grid point, read at an index. -/
module

public import proofs.«01_k».proof.Proof.Gqa.Run

@[expose] public section

set_option maxRecDepth 16384

noncomputable section

namespace Cert.KernelIdeal.Attn

open Cert.KernelIdeal Cert.KernelIdeal.Gen
open Idealize.ShloMosaic Idealize.ShloMosaic.TcCoe Idealize.SL.Sem

/-! ## The blocks -/

section Blocks
variable (m : (ℓ : Loc nD τ sig) → Buf (Elt Ideal) ℓ)

theorem idx : ∀ t : Fin cfg0.N, win0_0.index t = ![(t : ℕ) / 20, t % 5, t / 5 % 4]
    ∧ win0_1.index t = ![(t : ℕ) / 20, 0, 0] ∧ win0_2.index t = ![(t : ℕ) / 20, 0, 0]
    ∧ win0_3.index t = ![(t : ℕ) / 20, 0, 0] ∧ win0_4.index t = ![(t : ℕ) / 20, t % 5, t / 5 % 4]
    ∧ win0_4.xsize (grid0.coords t) = ![1, if t.val % 5 = 4 then 256 else 1024, 128] :=
  (by decide +kernel : ∀ t : Fin grid0.N, _)

/-- The batch of a grid point, -/
def batch (t : Fin cfg0.N) : Fin 8 := ⟨(t : ℕ) / 20, by have : (t:ℕ) < 160 := t.isLt; omega⟩
/-- its pair of heads. -/
def pair (t : Fin cfg0.N) : Fin 4 := ⟨(t : ℕ) / 5 % 4, by omega⟩

theorem iblk1 (c : Dev nD) (t : Fin cfg0.N) (l : Fin 4352) (x : Fin 128) :
    iblk m c 1 t (ix3 0 l x) = V m c main_v17 (ix3 (batch t) l x) := by
  unfold iblk
  generalize V m c = A
  blk_ext [idx t, batch]
theorem iblk2 (c : Dev nD) (t : Fin cfg0.N) (l : Fin 4352) (x : Fin 128) :
    iblk m c 2 t (ix3 0 l x) = V m c main_v32 (ix3 (batch t) l x) := by
  unfold iblk
  generalize V m c = A
  blk_ext [idx t, batch]
theorem iblk3 (c : Dev nD) (t : Fin cfg0.N) (l : Fin 4352) (x : Fin 128) :
    iblk m c 3 t (ix3 0 l x) = V m c main_v33 (ix3 (batch t) l x) := by
  unfold iblk
  generalize V m c = A
  blk_ext [idx t, batch]
/-- The query rows of a tile that lie in the array. -/
theorem qblk_at (c : Dev nD) (t : Fin cfg0.N) (r : Fin 1024) (x : Fin 256) (h : (r : ℕ) < if t.val % 5 = 4 then 256 else 1024) :
    qblk m c t zq (ix3 0 r x) = V m c main_v37 (ix3 (batch t)
      ⟨1024 * (t % 5) + r, by split at h <;> omega⟩ ⟨256 * (t / 5 % 4) + x, by omega⟩) := by
  have hm : win0_0.moved (grid0.coords t) (ix3 0 r x) = true := by
    rw [Pipeline.Window.moved_iff, qsize t]
    intro a
    fin_cases a
    · exact Nat.one_pos
    · exact h
    · exact x.isLt
  unfold qblk Pipeline.Window.fill
  rw [dif_pos hm]
  blk_simp [iblk]
  blk_ext [idx t, batch]

/-- The context tile's result holds, in its first 256 rows, the rows computed. -/
theorem stored_context_at (c : Dev nD) (t : Fin cfg0.N) (h : t.val % 5 = 4) (xq : Vec Ideal S1x1024x256 .bf16)
    (xk xl xh : Vec Ideal S1x4352x128 .bf16) (r : Fin 256) (e : Fin 128) :
    stored c t xq xk xl xh (ix3 0 ⟨r, by omega⟩ e) = contextRows xq xk xl xh (ix3 0 r e) := by
  rw [stored_context c t h, View.canon_cons_of_not_mem]
  · have key := View.canon_cons_emb (L := []) (Rect.unit (s := S1x1024x128) ![0, 0, 0] ![1, 256, 128] inb_S1x1024x128_S1x256x128_0_0_0) (contextRows xq xk xl xh) (ix3 0 r e)
    refine Eq.trans (congrArg _ ?_) key
    idx_ext
  · rw [Rect.mem_set_unit]
    intro g
    have := (g 1).1
    have hr : (256 : ℕ) ≤ (r : ℕ) := this
    omega
end Blocks
end Cert.KernelIdeal.Attn
end
-- ==== Proof.Gqa.Prep.lean ====
/- What the host lines hand the attention kernel: the queries of a pair of head groups side by side, scaled, one of the
   two halves of the 128 lanes emptied; the keys of the two groups side by side; the values with a column of ones in
   the half that is not used. -/
module
public import proofs.«01_k».proof.Proof.Gqa.Run
public import proofs.«01_k».proof.Proof.Softmax
public import Idealize.ShloMosaic.Lib.Claim
@[expose] public section
set_option maxRecDepth 16384
noncomputable section
namespace Cert.KernelIdeal.Attn
open Cert.KernelIdeal Cert.KernelIdeal.Gen
open Idealize.ShloMosaic Idealize.ShloMosaic.TcCoe Idealize.SL.Sem

/-- The queries, heads `j` and `j + 4` side by side, times the scale over log 2. -/
def scaled (q : FVec Ideal S8x4352x8x64 .f32) : FVec Ideal S8x4352x4x128 .f32 :=
  mulf (shapeCast S8x4352x4x128 (transpose S8x4352x4x2x64 [0, 1, 3, 2, 4]
      (shapeCast S8x4352x2x4x64 q shapeCasts_S8x4352x8x64_S8x4352x2x4x64) transposes_S8x4352x2x4x64_S8x4352x4x2x64_0_1_3_2_4)
      shapeCasts_S8x4352x4x2x64_S8x4352x4x128)
    (broadcastInDim S8x4352x4x128 ![] bcast_S_S8x4352x4x128
      (Host.divf (constant (F := Ideal) S_ .f32 0x3E000000#32) (Host.log (constant (F := Ideal) S_ .f32 0x40000000#32))))

/-- Which lanes are the first 64. -/
def firstHalf : IVec S8x4352x4x128 1 :=
  cmpi .slt (iotaInDim S8x4352x4x128 32 3) (broadcastInDim S8x4352x4x128 ![] bcast_S_S8x4352x4x128 (constantI S_ 32 64#32))

/-- Two query rows per pair, one for each head of the pair. -/
def pairRows (a b : FVec Ideal S8x4352x4x1x128 .f32) : FVec Ideal S8x4352x4x2x128 .f32 :=
  concatenate S8x4352x4x2x128 3 [⟨S8x4352x4x1x128, a⟩, ⟨S8x4352x4x1x128, b⟩] concatenates_S8x4352x4x1x128_S8x4352x4x1x128_S8x4352x4x2x128_d3

/-- The two rows, each with the half of the other head emptied. -/
def pairs (s : FVec Ideal S8x4352x4x128 .f32) : FVec Ideal S8x4352x4x2x128 .f32 :=
  pairRows
    (broadcastInDim S8x4352x4x1x128 ![0, 1, 2, 4] bcast_S8x4352x4x128_S8x4352x4x1x128_0_1_2_4
      (select firstHalf s (broadcastInDim S8x4352x4x128 ![] bcast_S_S8x4352x4x128 (constant (F := Ideal) S_ .f32 0x00000000#32))))
    (broadcastInDim S8x4352x4x1x128 ![0, 1, 2, 4] bcast_S8x4352x4x128_S8x4352x4x1x128_0_1_2_4
      (select firstHalf (broadcastInDim S8x4352x4x128 ![] bcast_S_S8x4352x4x128 (constant (F := Ideal) S_ .f32 0x00000000#32)) s))

/-- The latent rows first, the context rows after them. -/
def latentFirst (a : FVec Ideal S8x4096x1024 .bf16) (b : FVec Ideal S8x256x1024 .bf16) : FVec Ideal S8x4352x1024 .bf16 :=
  concatenate S8x4352x1024 1 [⟨S8x4096x1024, a⟩, ⟨S8x256x1024, b⟩] concatenates_S8x4096x1024_S8x256x1024_S8x4352x1024_d1

/-- The pairs in rows of 1024 lanes. -/
def wide (p : FVec Ideal S8x4352x4x2x128 .f32) : FVec Ideal S8x4352x1024 .bf16 :=
  shapeCast S8x4352x1024 (truncf .bf16 p bitsLt_bf16_f32) shapeCasts_S8x4352x4x2x128_S8x4352x1024

/-- The array of queries the kernel is called on. -/
def queries (q : FVec Ideal S8x4352x8x64 .f32) : FVec Ideal S8x4352x1024 .bf16 :=
  latentFirst (extractStridedSlice S8x4096x1024 ![0, 256, 0] (wide (pairs (scaled q))) slices_S8x4352x1024_S8x4096x1024_0_256_0)
    (extractStridedSlice S8x256x1024 ![0, 0, 0] (wide (pairs (scaled q))) slices_S8x4352x1024_S8x256x1024_0_0_0)

/-- The array of keys. -/
def keys (k : FVec Ideal S8x4352x2x64 .f32) : FVec Ideal S8x4352x128 .bf16 :=
  truncf .bf16 (shapeCast S8x4352x128 k shapeCasts_S8x4352x2x64_S8x4352x128) bitsLt_bf16_f32

/-- One at the lanes whose number is `n`, nought at the others. -/
def oneAt (n : BitVec 32) : FVec Ideal S8x4352x1x128 .f32 :=
  select (cmpi .eq (iotaInDim S8x4352x1x128 32 3) (broadcastInDim S8x4352x1x128 ![] bcast_S_S8x4352x1x128 (constantI S_ 32 n)))
    (broadcastInDim S8x4352x1x128 ![] bcast_S_S8x4352x1x128 (constant (F := Ideal) S_ .f32 0x3F800000#32))
    (broadcastInDim S8x4352x1x128 ![] bcast_S_S8x4352x1x128 (constant (F := Ideal) S_ .f32 0x00000000#32))

/-- Which lanes of the values are the first 64. -/
def firstLanes : IVec S8x4352x1x128 1 :=
  cmpi .slt (iotaInDim S8x4352x1x128 32 3) (broadcastInDim S8x4352x1x128 ![] bcast_S_S8x4352x1x128 (constantI S_ 32 64#32))

/-- The values of the first group, then a one. -/
def valuesLow (v : FVec Ideal S8x4352x2x64 .f32) : FVec Ideal S8x4352x128 .bf16 :=
  shapeCast S8x4352x128 (truncf .bf16 (select firstLanes (shapeCast S8x4352x1x128 v shapeCasts_S8x4352x2x64_S8x4352x1x128)
    (oneAt 64#32)) bitsLt_bf16_f32) shapeCasts_S8x4352x1x128_S8x4352x128

/-- A one first, the values of the second group in the second half. -/
def valuesHigh (v : FVec Ideal S8x4352x2x64 .f32) : FVec Ideal S8x4352x128 .bf16 :=
  shapeCast S8x4352x128 (truncf .bf16 (select firstLanes (oneAt 0#32)
    (shapeCast S8x4352x1x128 v shapeCasts_S8x4352x2x64_S8x4352x1x128)) bitsLt_bf16_f32) shapeCasts_S8x4352x1x128_S8x4352x128

section Entry
variable (m : (ℓ : Loc nD τ sig) → Buf (Elt Ideal) ℓ)

theorem V_keys (c : Dev nD) : V m c main_v17 = keys (m ((c : Thread nD τ).loc main_arg1)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

theorem V_valuesLow (c : Dev nD) : V m c main_v32 = valuesLow (m ((c : Thread nD τ).loc main_arg2)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

theorem V_valuesHigh (c : Dev nD) : V m c main_v33 = valuesHigh (m ((c : Thread nD τ).loc main_arg2)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

theorem V_queries (c : Dev nD) : V m c main_v37 = queries (m ((c : Thread nD τ).loc main_arg0)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  unfold queries wide pairs
  refine congrArg₂ latentFirst ?_ ?_
  · after_results_simp
    refine congrArg (fun p : FVec Ideal S8x4352x1024 .bf16 => extractStridedSlice S8x4096x1024 ![0, 256, 0] p slices_S8x4352x1024_S8x4096x1024_0_256_0) ?_
    refine congrArg (fun p : FVec Ideal S8x4352x4x2x128 .bf16 => shapeCast S8x4352x1024 p shapeCasts_S8x4352x4x2x128_S8x4352x1024) ?_
    refine congrArg (fun p : FVec Ideal S8x4352x4x2x128 .f32 => truncf .bf16 p bitsLt_bf16_f32) ?_
    refine congrArg₂ pairRows ?_ ?_
    · after_results_simp <;> rfl
    · after_results_simp <;> rfl
  · after_results_simp
    refine congrArg (fun p : FVec Ideal S8x4352x1024 .bf16 => extractStridedSlice S8x256x1024 ![0, 0, 0] p slices_S8x4352x1024_S8x256x1024_0_0_0) ?_
    refine congrArg (fun p : FVec Ideal S8x4352x4x2x128 .bf16 => shapeCast S8x4352x1024 p shapeCasts_S8x4352x4x2x128_S8x4352x1024) ?_
    refine congrArg (fun p : FVec Ideal S8x4352x4x2x128 .f32 => truncf .bf16 p bitsLt_bf16_f32) ?_
    refine congrArg₂ pairRows ?_ ?_
    · after_results_simp <;> rfl
    · after_results_simp <;> rfl
end Entry

/-! Read at an index. -/

theorem lane_lt (e : Fin 128) (h : (e : ℕ) < 64) : IntOp.cmpi .slt (BitVec.ofNat 32 ↑e) 64#32 = 1#1 := by
  revert e; decide
theorem lane_ge (e : Fin 128) (h : ¬ (e : ℕ) < 64) : IntOp.cmpi .slt (BitVec.ofNat 32 ↑e) 64#32 = 0#1 := by
  revert e; decide

/-- Of a pair's two rows the first keeps the first half of the lanes, the second the other half. -/
theorem half_select (i : Fin 2) (x : Fin 128) (A : EReal) :
    (if h : (i : ℕ) < 1 then Scalar.select (IntOp.cmpi .slt (BitVec.ofNat 32 ↑x) 64#32) A 0
      else Scalar.select (IntOp.cmpi .slt (BitVec.ofNat 32 ↑x) 64#32) 0 A) = if ((x : ℕ) < 64 ↔ (i : ℕ) = 0) then A else 0 := by
  by_cases h : (x : ℕ) < 64
  · rw [lane_lt x h]
    by_cases hi : (i : ℕ) < 1
    · rw [dif_pos hi, if_pos (iff_of_true h (by omega))]; rfl
    · rw [dif_neg hi, if_neg (fun g => hi (by have := g.mp h; omega))]; rfl
  · rw [lane_ge x h]
    by_cases hi : (i : ℕ) < 1
    · rw [dif_pos hi, if_neg (fun g => h (g.mpr (by omega)))]; rfl
    · rw [dif_neg hi, if_pos (iff_of_false h (by omega))]; rfl

/-- The queries of row `n`, pair `j`, the pair's head `i`, lane `x`: its own half of the lanes holds the scaled head. -/
theorem wide_at (q : FVec Ideal S8x4352x8x64 .f32) (b : Fin 8) (n : Fin 4352) (j : Fin 4) (i : Fin 2) (x : Fin 128) :
    wide (pairs (scaled q)) (ix3 b n ⟨256 * j + 128 * i + x, by omega⟩) = if ((x : ℕ) < 64 ↔ (i : ℕ) = 0) then
      q (ix4 b n ⟨4 * (x / 64) + j, by omega⟩ ⟨x % 64, by omega⟩) * Ideal.div (Ideal.ofBits .f32 0x3E000000#32) (Ideal.log (Ideal.ofBits .f32 0x40000000#32))
      else 0 := by
  pointwise [wide, pairs, pairRows, firstHalf, scaled]
  rw [show q (ix4 b n ⟨4 * (x / 64) + j, by omega⟩ ⟨x % 64, by omega⟩) = q (ix4 b n ⟨x / 64 * 4 + j, by omega⟩ ⟨x % 64, by omega⟩) from by
    congr 2; ext; simp only; omega]
  exact half_select i x _

/-- The rows of the query array are the latent rows, then the context rows. -/
theorem queries_at (q : FVec Ideal S8x4352x8x64 .f32) (b : Fin 8) (n : Fin 4352) (x : Fin 1024) :
    queries q (ix3 b n x) = if h : (n : ℕ) < 4096 then wide (pairs (scaled q)) (ix3 b ⟨256 + n, by omega⟩ x)
      else wide (pairs (scaled q)) (ix3 b ⟨n - 4096, by omega⟩ x) := by
  generalize hw : wide (pairs (scaled q)) = w
  unfold queries
  rw [hw]
  pointwise [latentFirst]

theorem keys_at (k : FVec Ideal S8x4352x2x64 .f32) (b : Fin 8) (n : Fin 4352) (x : Fin 128) :
    keys k (ix3 b n x) = k (ix4 b n ⟨x / 64, by omega⟩ ⟨x % 64, by omega⟩) := by
  pointwise [keys]

theorem valuesLow_at (k : FVec Ideal S8x4352x2x64 .f32) (b : Fin 8) (n : Fin 4352) (x : Fin 128) (h : (x : ℕ) < 64) :
    valuesLow k (ix3 b n x) = k (ix4 b n ⟨x / 64, by omega⟩ ⟨x % 64, by omega⟩) := by
  pointwise [valuesLow, firstLanes, oneAt]
  rw [lane_lt x h]; rfl

theorem valuesLow_one (k : FVec Ideal S8x4352x2x64 .f32) (b : Fin 8) (n : Fin 4352) :
    valuesLow k (ix3 b n 64) = 1 := by
  have e : ∀ x : Fin 128, valuesLow k (ix3 b n x) = Scalar.select (IntOp.cmpi .slt (BitVec.ofNat 32 ↑x) 64#32)
      (k (ix4 b n ⟨x / 64, by omega⟩ ⟨x % 64, by omega⟩)) (Scalar.select (IntOp.cmpi .eq (BitVec.ofNat 32 ↑x) 64#32) (1 : EReal) 0) := by
    intro x
    pointwise [valuesLow, firstLanes, oneAt]
  exact e 64

theorem valuesHigh_at (k : FVec Ideal S8x4352x2x64 .f32) (b : Fin 8) (n : Fin 4352) (x : Fin 128) (h : ¬ (x : ℕ) < 64) :
    valuesHigh k (ix3 b n x) = k (ix4 b n ⟨x / 64, by omega⟩ ⟨x % 64, by omega⟩) := by
  pointwise [valuesHigh, firstLanes, oneAt]
  rw [lane_ge x h]; rfl

theorem valuesHigh_one (k : FVec Ideal S8x4352x2x64 .f32) (b : Fin 8) (n : Fin 4352) :
    valuesHigh k (ix3 b n 0) = 1 := by
  have e : ∀ x : Fin 128, valuesHigh k (ix3 b n x) = Scalar.select (IntOp.cmpi .slt (BitVec.ofNat 32 ↑x) 64#32)
      (Scalar.select (IntOp.cmpi .eq (BitVec.ofNat 32 ↑x) 0#32) (1 : EReal) 0) (k (ix4 b n ⟨x / 64, by omega⟩ ⟨x % 64, by omega⟩)) := by
    intro x
    pointwise [valuesHigh, firstLanes, oneAt]
  exact e 0
end Cert.KernelIdeal.Attn
end
-- ==== Proof.Gqa.Score.lean ====
/- The kernel's scores are the reference's, in units of 1/log 2: of the 128 lanes of a query row one half is nought, the
   other holds the head, scaled. -/
module

public import proofs.«01_k».proof.Proof.Gqa.Prep

@[expose] public section

noncomputable section

namespace Cert.KernelIdeal.Attn

open Cert.KernelIdeal Cert.KernelIdeal.Gen
open Idealize.ShloMosaic

/-- The kernel's scale: an eighth over log 2. -/
theorem scale_eq : Ideal.div (Ideal.ofBits .f32 0x3E000000#32) (Ideal.log (Ideal.ofBits .f32 0x40000000#32))
    = ((1 / 8 * (1 / Real.log 2) : ℝ) : EReal) := by
  have hlog : 0 < Real.log 2 := Real.log_pos (by norm_num)
  rw [Softmax.eighth, Softmax.two, Ideal.log_coe, if_neg (by norm_num), Ideal.div_coe hlog.ne', ← EReal.coe_mul]

/-- A sum over 128 lanes of which only one half counts. -/
theorem half_sum (i : Fin 2) (A B : Fin 128 → EReal) :
    (∑ x : Fin 128, (if ((x : ℕ) < 64 ↔ (i : ℕ) = 0) then A x else 0) * B x)
      = ∑ x : Fin 64, A ⟨64 * i + x, by omega⟩ * B ⟨64 * i + x, by omega⟩ := by
  rw [show (∑ x : Fin 128, (if ((x : ℕ) < 64 ↔ (i : ℕ) = 0) then A x else 0) * B x)
      = ∑ x : Fin (64 + 64), (if ((x : ℕ) < 64 ↔ (i : ℕ) = 0) then A x else 0) * B x from rfl, Fin.sum_univ_add]
  by_cases hi : (i : ℕ) = 0
  · have e : ∀ x : Fin 64, ((((Fin.natAdd 64 x : Fin (64 + 64)) : ℕ) < 64) ↔ (i : ℕ) = 0) = False := fun x =>
      eq_false (fun g => absurd (g.mpr hi) (by simp))
    have e' : ∀ x : Fin 64, ((((Fin.castAdd 64 x : Fin (64 + 64)) : ℕ) < 64) ↔ (i : ℕ) = 0) = True := fun x =>
      eq_true (iff_of_true (by simp) hi)
    simp only [e, e', if_true, if_false, zero_mul, Finset.sum_const_zero, add_zero]
    refine Finset.sum_congr rfl fun x _ => ?_
    rw [show (Fin.castAdd 64 x : Fin 128) = ⟨64 * i + x, by omega⟩ from Fin.ext (by simp [hi])]
  · have e : ∀ x : Fin 64, ((((Fin.castAdd 64 x : Fin (64 + 64)) : ℕ) < 64) ↔ (i : ℕ) = 0) = False := fun x =>
      eq_false (fun g => hi (g.mp (by simp)))
    have e' : ∀ x : Fin 64, ((((Fin.natAdd 64 x : Fin (64 + 64)) : ℕ) < 64) ↔ (i : ℕ) = 0) = True := fun x =>
      eq_true (iff_of_false (by simp) hi)
    simp only [e, e', if_true, if_false, zero_mul, Finset.sum_const_zero, zero_add]
    refine Finset.sum_congr rfl fun x _ => ?_
    rw [show (Fin.natAdd 64 x : Fin 128) = ⟨64 * i + x, by omega⟩ from Fin.ext (by simp; omega)]

/-- The score of query row `n`, head `j` of the group `i`, at key `l`, as a real number. -/
def score (Q : S8x4352x8x64.Idx → ℝ) (K : S8x4352x2x64.Idx → ℝ) (b : Fin 8) (n : Fin 4352) (j : Fin 4) (i : Fin 2) (l : Fin 4352) : ℝ :=
  (∑ x : Fin 64, K (ix4 b l i x) * Q (ix4 b n ⟨4 * i + j, by omega⟩ x)) * (1 / 8)

variable (q : FVec Ideal S8x4352x8x64 .f32) (k : FVec Ideal S8x4352x2x64 .f32)
variable (Q : S8x4352x8x64.Idx → ℝ) (K : S8x4352x2x64.Idx → ℝ) (hq : ∀ i, q i = (Q i : EReal)) (hk : ∀ i, k i = (K i : EReal))

include hq hk in
/-- The reference's score. -/
theorem ref_score (b : Fin 8) (n : Fin 4352) (j : Fin 4) (i : Fin 2) (l : Fin 4352) :
    (∑ x : Fin 64, k (ix4 b l i x) * q (ix4 b n ⟨4 * i + j, by omega⟩ x)) * Ideal.ofBits .f32 0x3E000000#32
      = (score Q K b n j i l : EReal) := by
  simp only [hq, hk]
  rw [Softmax.dot_coe, Softmax.eighth, ← EReal.coe_mul]; rfl

include hq hk in
/-- The kernel's score. -/
theorem kernel_score (b : Fin 8) (n : Fin 4352) (j : Fin 4) (i : Fin 2) (l : Fin 4352) :
    (∑ x : Fin 128, wide (pairs (scaled q)) (ix3 b n ⟨256 * j + 128 * i + x, by omega⟩) * keys k (ix3 b l x))
      = ((score Q K b n j i l * (1 / Real.log 2) : ℝ) : EReal) := by
  simp only [wide_at, keys_at]
  rw [half_sum i (fun x => q (ix4 b n ⟨4 * (x / 64) + j, by omega⟩ ⟨x % 64, by omega⟩) * Ideal.div (Ideal.ofBits .f32 0x3E000000#32) (Ideal.log (Ideal.ofBits .f32 0x40000000#32)))
    (fun x => k (ix4 b l ⟨x / 64, by omega⟩ ⟨x % 64, by omega⟩))]
  have e : ∀ x : Fin 64, q (ix4 b n ⟨4 * ((64 * i + x) / 64) + j, by omega⟩ ⟨(64 * i + x) % 64, by omega⟩)
      = (Q (ix4 b n ⟨4 * i + j, by omega⟩ x) : EReal) := fun x => by
    rw [hq]
    congr 3
    · exact Fin.ext (by simp only; omega)
    · exact Fin.ext (by simp only; omega)
  have e' : ∀ x : Fin 64, k (ix4 b l ⟨(64 * i + x) / 64, by omega⟩ ⟨(64 * i + x) % 64, by omega⟩)
      = (K (ix4 b l i x) : EReal) := fun x => by
    rw [hk]
    congr 3
    · exact Fin.ext (by simp only; omega)
    · exact Fin.ext (by simp only; omega)
  simp only [e, e', scale_eq, ← EReal.coe_mul]
  rw [Softmax.sum_coe]
  congr 1
  unfold score
  rw [Finset.sum_mul, Finset.sum_mul]
  exact Finset.sum_congr rfl fun x _ => by ring

end Cert.KernelIdeal.Attn

end
-- ==== Proof.Gqa.Ref.lean ====
/-
  The grouped-query reference read at an index: its two halves (latent queries over every key, context queries over the
  context keys) named stage by stage, and each result element as one softmax row (`ref_at`).
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Attn

open Cert.ReferenceIdeal Cert.ReferenceIdeal.Gen Cert.ReferenceIdeal.Value
open Idealize.ShloMosaic Idealize.ShloMosaic.TcCoe Idealize.SL.Sem

section
variable {F : FTy → Type} [FloatOps F]

/-! ## Latent queries -/

/-- The scaled scores, query against key. -/
def latScores (q : FVec F S8x4096x2x4x64 .f32) (k : FVec F S8x4352x2x64 .f32) : FVec F S8x2x4x4096x4352 .f32 :=
  mulf (transpose S8x2x4x4096x4352 [0, 1, 4, 3, 2]
      (Host.dotGeneral dot_S8x4352x2x64_S8x4096x2x4x64_S8x2x4352x4096x4_3_4_1_13_02_02 none k q)
      transposes_S8x2x4352x4096x4_S8x2x4x4096x4352_0_1_4_3_2)
    (broadcastInDim S8x2x4x4096x4352 ![] bcast_S_S8x2x4x4096x4352 (constant S_ .f32 0x3E000000#32))

/-- The greatest score of each row. -/
def latPeaks (s : FVec F S8x2x4x4096x4352 .f32) : FVec F S8x2x4x4096 .f32 :=
  maximumf (broadcastInDim S8x2x4x4096 ![] bcast_S_S8x2x4x4096 (constant S_ .f32 0xFF800000#32))
    (Host.reduce FloatOps.maximumf s (constant S_ .f32 0xFF800000#32) reducesTo_S8x2x4x4096x4352_S8x2x4x4096_d4 h_S_)

/-- The exponentials of the scores less `p`. -/
def latExps (s : FVec F S8x2x4x4096x4352 .f32) (p : FVec F S8x2x4x4096 .f32) : FVec F S8x2x4x4096x4352 .f32 :=
  Host.exp (subf s (broadcastInDim S8x2x4x4096x4352 ![0, 1, 2, 3, 4] bcast_S8x2x4x4096x1_S8x2x4x4096x4352_0_1_2_3_4
    (broadcastInDim S8x2x4x4096x1 ![0, 1, 2, 3] bcast_S8x2x4x4096_S8x2x4x4096x1_0_1_2_3 p)))

/-- The exponentials over their row's sum. -/
def latProbs (x : FVec F S8x2x4x4096x4352 .f32) : FVec F S8x2x4x4096x4352 .f32 :=
  Host.divf x (broadcastInDim S8x2x4x4096x4352 ![0, 1, 2, 3, 4] bcast_S8x2x4x4096x1_S8x2x4x4096x4352_0_1_2_3_4
    (broadcastInDim S8x2x4x4096x1 ![0, 1, 2, 3] bcast_S8x2x4x4096_S8x2x4x4096x1_0_1_2_3
      (Host.reduceAdd x (constant S_ .f32 0x00000000#32) reducesTo_S8x2x4x4096x4352_S8x2x4x4096_d4 h_S_)))

/-- The values weighted and summed. -/
def latOut (p : FVec F S8x2x4x4096x4352 .f32) (v : FVec F S8x4352x2x64 .f32) : FVec F S8x4096x4x2x64 .f32 :=
  transpose S8x4096x4x2x64 [0, 4, 3, 1, 2]
    (Host.dotGeneral dot_S8x4352x2x64_S8x2x4x4096x4352_S8x2x64x4x4096_1_4_3_23_02_01 none v p)
    transposes_S8x2x64x4x4096_S8x4096x4x2x64_0_4_3_1_2

/-! ## Context queries -/

/-- The scaled scores, query against key. -/
def ctxScores (q : FVec F S8x256x2x4x64 .f32) (k : FVec F S8x256x2x64 .f32) : FVec F S8x2x4x256x256 .f32 :=
  mulf (transpose S8x2x4x256x256 [0, 1, 4, 3, 2]
      (Host.dotGeneral dot_S8x256x2x64_S8x256x2x4x64_S8x2x256x256x4_3_4_1_13_02_02 none k q)
      transposes_S8x2x256x256x4_S8x2x4x256x256_0_1_4_3_2)
    (broadcastInDim S8x2x4x256x256 ![] bcast_S_S8x2x4x256x256 (constant S_ .f32 0x3E000000#32))

/-- The greatest score of each row. -/
def ctxPeaks (s : FVec F S8x2x4x256x256 .f32) : FVec F S8x2x4x256 .f32 :=
  maximumf (broadcastInDim S8x2x4x256 ![] bcast_S_S8x2x4x256 (constant S_ .f32 0xFF800000#32))
    (Host.reduce FloatOps.maximumf s (constant S_ .f32 0xFF800000#32) reducesTo_S8x2x4x256x256_S8x2x4x256_d4 h_S_)

/-- The exponentials of the scores less `p`. -/
def ctxExps (s : FVec F S8x2x4x256x256 .f32) (p : FVec F S8x2x4x256 .f32) : FVec F S8x2x4x256x256 .f32 :=
  Host.exp (subf s (broadcastInDim S8x2x4x256x256 ![0, 1, 2, 3, 4] bcast_S8x2x4x256x1_S8x2x4x256x256_0_1_2_3_4
    (broadcastInDim S8x2x4x256x1 ![0, 1, 2, 3] bcast_S8x2x4x256_S8x2x4x256x1_0_1_2_3 p)))

/-- The exponentials over their row's sum. -/
def ctxProbs (x : FVec F S8x2x4x256x256 .f32) : FVec F S8x2x4x256x256 .f32 :=
  Host.divf x (broadcastInDim S8x2x4x256x256 ![0, 1, 2, 3, 4] bcast_S8x2x4x256x1_S8x2x4x256x256_0_1_2_3_4
    (broadcastInDim S8x2x4x256x1 ![0, 1, 2, 3] bcast_S8x2x4x256_S8x2x4x256x1_0_1_2_3
      (Host.reduceAdd x (constant S_ .f32 0x00000000#32) reducesTo_S8x2x4x256x256_S8x2x4x256_d4 h_S_)))

/-- The values weighted and summed. -/
def ctxOut (p : FVec F S8x2x4x256x256 .f32) (v : FVec F S8x256x2x64 .f32) : FVec F S8x256x4x2x64 .f32 :=
  transpose S8x256x4x2x64 [0, 4, 3, 1, 2]
    (Host.dotGeneral dot_S8x256x2x64_S8x2x4x256x256_S8x2x64x4x256_1_4_3_23_02_01 none v p)
    transposes_S8x2x64x4x256_S8x256x4x2x64_0_4_3_1_2

/-! ## The two together -/

/-- The queries with their heads in groups. -/
def groups (q : FVec F S8x4352x8x64 .f32) : FVec F S8x4352x2x4x64 .f32 := shapeCast _ q shapeCasts_S8x4352x8x64_S8x4352x2x4x64

/-- The latent half over the arguments. -/
def latent (q : FVec F S8x4352x8x64 .f32) (k v : FVec F S8x4352x2x64 .f32) : FVec F S8x4096x4x2x64 .f32 :=
  latOut (latProbs (latExps (latScores (extractStridedSlice S8x4096x2x4x64 ![0, 256, 0, 0, 0] (groups q) slices_S8x4352x2x4x64_S8x4096x2x4x64_0_256_0_0_0) k)
    (latPeaks (latScores (extractStridedSlice S8x4096x2x4x64 ![0, 256, 0, 0, 0] (groups q) slices_S8x4352x2x4x64_S8x4096x2x4x64_0_256_0_0_0) k)))) v

/-- The context half over context queries, keys and values. -/
def context (q : FVec F S8x256x2x4x64 .f32) (k v : FVec F S8x256x2x64 .f32) : FVec F S8x256x4x2x64 .f32 :=
  ctxOut (ctxProbs (ctxExps (ctxScores q k) (ctxPeaks (ctxScores q k)))) v

/-- The result: latent rows, then context rows, heads side by side. -/
def joined (X : FVec F S8x4096x4x2x64 .f32) (Y : FVec F S8x256x4x2x64 .f32) : FVec F S8x4352x4x2x64 .f32 :=
  concatenate S8x4352x4x2x64 1 [⟨S8x4096x4x2x64, X⟩, ⟨S8x256x4x2x64, Y⟩] concatenates_S8x4096x4x2x64_S8x256x4x2x64_S8x4352x4x2x64_d1

def ref (q : FVec F S8x4352x8x64 .f32) (k v : FVec F S8x4352x2x64 .f32) : FVec F S8x4352x512 .bf16 :=
  truncf .bf16 (shapeCast _ (joined (latent q k v)
    (context (extractStridedSlice S8x256x2x4x64 ![0, 0, 0, 0, 0] (groups q) slices_S8x4352x2x4x64_S8x256x2x4x64_0_0_0_0_0)
      (extractStridedSlice S8x256x2x64 ![0, 0, 0, 0] k slices_S8x4352x2x64_S8x256x2x64_0_0_0_0)
      (extractStridedSlice S8x256x2x64 ![0, 0, 0, 0] v slices_S8x4352x2x64_S8x256x2x64_0_0_0_0)))
    shapeCasts_S8x4352x4x2x64_S8x4352x512) bitsLt_bf16_f32

set_option maxHeartbeats 1000000 in
/-- The run's result term is `ref` of the arguments. -/
theorem res_eq (m : (ℓ : Loc nD τ sig) → Buf (Elt F) ℓ) (c : Dev nD) :
    res_main_v41 m c = ref (m ((c.tc : Thread nD τ).loc main_arg0)) (m ((c.tc : Thread nD τ).loc main_arg1)) (m ((c.tc : Thread nD τ).loc main_arg2)) := by
  unfold res_main_v41 ref joined latent context groups latOut latProbs latExps latPeaks latScores ctxOut ctxProbs ctxExps ctxPeaks ctxScores
  rfl

end

/-! ## Read at an index -/

theorem latScores_at (q : FVec Ideal S8x4096x2x4x64 .f32) (k : FVec Ideal S8x4352x2x64 .f32) (b : Fin 8) (g : Fin 2) (r : Fin 4) (n : Fin 4096) (l : Fin 4352) :
    latScores q k (ix5 b g r n l) = (∑ x : Fin 64, k (ix4 b l g x) * q (ix5 b n g r x)) * Ideal.ofBits .f32 0x3E000000#32 := by
  pointwise [latScores]

theorem latMax_at (s : FVec Ideal S8x2x4x4096x4352 .f32) (b : Fin 8) (g : Fin 2) (r : Fin 4) (n : Fin 4096) :
    Host.reduce FloatOps.maximumf s (constant S_ .f32 0xFF800000#32) reducesTo_S8x2x4x4096x4352_S8x2x4x4096_d4 h_S_ (ix4 b g r n) = Softmax.peak fun l : Fin 4352 => s (ix5 b g r n l) := by
  pointwise; rfl

theorem latLow_at (b : Fin 8) (g : Fin 2) (r : Fin 4) (n : Fin 4096) :
    (broadcastInDim S8x2x4x4096 ![] bcast_S_S8x2x4x4096 (constant S_ .f32 0xFF800000#32) : FVec Ideal S8x2x4x4096 .f32) (ix4 b g r n) = Ideal.ofBits .f32 0xFF800000#32 := by
  pointwise

theorem latPeaks_at (s : FVec Ideal S8x2x4x4096x4352 .f32) (b : Fin 8) (g : Fin 2) (r : Fin 4) (n : Fin 4096) :
    latPeaks s (ix4 b g r n) = max (Ideal.ofBits .f32 0xFF800000#32) (Softmax.peak fun l : Fin 4352 => s (ix5 b g r n l)) := by
  unfold latPeaks
  rw [Softmax.maximumf_at, latLow_at, latMax_at]

theorem latExps_at (s : FVec Ideal S8x2x4x4096x4352 .f32) (p : FVec Ideal S8x2x4x4096 .f32) (b : Fin 8) (g : Fin 2) (r : Fin 4) (n : Fin 4096) (l : Fin 4352) :
    latExps s p (ix5 b g r n l) = Ideal.exp (s (ix5 b g r n l) - p (ix4 b g r n)) := by
  pointwise [latExps]

theorem latProbs_at (x : FVec Ideal S8x2x4x4096x4352 .f32) (b : Fin 8) (g : Fin 2) (r : Fin 4) (n : Fin 4096) (l : Fin 4352) :
    latProbs x (ix5 b g r n l) = Ideal.div (x (ix5 b g r n l)) (∑ l', x (ix5 b g r n l')) := by
  pointwise [latProbs]

theorem latOut_at (p : FVec Ideal S8x2x4x4096x4352 .f32) (v : FVec Ideal S8x4352x2x64 .f32) (b : Fin 8) (g : Fin 2) (r : Fin 4) (n : Fin 4096) (e : Fin 64) :
    latOut p v (ix5 b n r g e) = ∑ l : Fin 4352, v (ix4 b l g e) * p (ix5 b g r n l) := by
  pointwise [latOut]

/-- The half at an index: the softmax row of its scores over its values. -/
theorem lat_at (q : FVec Ideal S8x4096x2x4x64 .f32) (k : FVec Ideal S8x4352x2x64 .f32) (v : FVec Ideal S8x4352x2x64 .f32) (b : Fin 8) (g : Fin 2) (r : Fin 4) (n : Fin 4096) (e : Fin 64) :
    latOut (latProbs (latExps (latScores q k) (latPeaks (latScores q k)))) v (ix5 b n r g e)
      = Softmax.soft (fun l : Fin 4352 => (∑ x : Fin 64, k (ix4 b l g x) * q (ix5 b n g r x)) * Ideal.ofBits .f32 0x3E000000#32) (fun l => v (ix4 b l g e)) := by
  rw [latOut_at]
  simp only [latProbs_at, latExps_at, latPeaks_at, latScores_at]
  rfl

theorem ctxScores_at (q : FVec Ideal S8x256x2x4x64 .f32) (k : FVec Ideal S8x256x2x64 .f32) (b : Fin 8) (g : Fin 2) (r : Fin 4) (n : Fin 256) (l : Fin 256) :
    ctxScores q k (ix5 b g r n l) = (∑ x : Fin 64, k (ix4 b l g x) * q (ix5 b n g r x)) * Ideal.ofBits .f32 0x3E000000#32 := by
  pointwise [ctxScores]

theorem ctxMax_at (s : FVec Ideal S8x2x4x256x256 .f32) (b : Fin 8) (g : Fin 2) (r : Fin 4) (n : Fin 256) :
    Host.reduce FloatOps.maximumf s (constant S_ .f32 0xFF800000#32) reducesTo_S8x2x4x256x256_S8x2x4x256_d4 h_S_ (ix4 b g r n) = Softmax.peak fun l : Fin 256 => s (ix5 b g r n l) := by
  pointwise; rfl

theorem ctxLow_at (b : Fin 8) (g : Fin 2) (r : Fin 4) (n : Fin 256) :
    (broadcastInDim S8x2x4x256 ![] bcast_S_S8x2x4x256 (constant S_ .f32 0xFF800000#32) : FVec Ideal S8x2x4x256 .f32) (ix4 b g r n) = Ideal.ofBits .f32 0xFF800000#32 := by
  pointwise

theorem ctxPeaks_at (s : FVec Ideal S8x2x4x256x256 .f32) (b : Fin 8) (g : Fin 2) (r : Fin 4) (n : Fin 256) :
    ctxPeaks s (ix4 b g r n) = max (Ideal.ofBits .f32 0xFF800000#32) (Softmax.peak fun l : Fin 256 => s (ix5 b g r n l)) := by
  unfold ctxPeaks
  rw [Softmax.maximumf_at, ctxLow_at, ctxMax_at]

theorem ctxExps_at (s : FVec Ideal S8x2x4x256x256 .f32) (p : FVec Ideal S8x2x4x256 .f32) (b : Fin 8) (g : Fin 2) (r : Fin 4) (n : Fin 256) (l : Fin 256) :
    ctxExps s p (ix5 b g r n l) = Ideal.exp (s (ix5 b g r n l) - p (ix4 b g r n)) := by
  pointwise [ctxExps]

theorem ctxProbs_at (x : FVec Ideal S8x2x4x256x256 .f32) (b : Fin 8) (g : Fin 2) (r : Fin 4) (n : Fin 256) (l : Fin 256) :
    ctxProbs x (ix5 b g r n l) = Ideal.div (x (ix5 b g r n l)) (∑ l', x (ix5 b g r n l')) := by
  pointwise [ctxProbs]

theorem ctxOut_at (p : FVec Ideal S8x2x4x256x256 .f32) (v : FVec Ideal S8x256x2x64 .f32) (b : Fin 8) (g : Fin 2) (r : Fin 4) (n : Fin 256) (e : Fin 64) :
    ctxOut p v (ix5 b n r g e) = ∑ l : Fin 256, v (ix4 b l g e) * p (ix5 b g r n l) := by
  pointwise [ctxOut]

/-- The half at an index: the softmax row of its scores over its values. -/
theorem ctx_at (q : FVec Ideal S8x256x2x4x64 .f32) (k : FVec Ideal S8x256x2x64 .f32) (v : FVec Ideal S8x256x2x64 .f32) (b : Fin 8) (g : Fin 2) (r : Fin 4) (n : Fin 256) (e : Fin 64) :
    ctxOut (ctxProbs (ctxExps (ctxScores q k) (ctxPeaks (ctxScores q k)))) v (ix5 b n r g e)
      = Softmax.soft (fun l : Fin 256 => (∑ x : Fin 64, k (ix4 b l g x) * q (ix5 b n g r x)) * Ideal.ofBits .f32 0x3E000000#32) (fun l => v (ix4 b l g e)) := by
  rw [ctxOut_at]
  simp only [ctxProbs_at, ctxExps_at, ctxPeaks_at, ctxScores_at]
  rfl

theorem joined_at (X : FVec Ideal S8x4096x4x2x64 .f32) (Y : FVec Ideal S8x256x4x2x64 .f32) (b : Fin 8) (n : Fin 4352) (r : Fin 4) (g : Fin 2) (e : Fin 64) :
    joined X Y (ix5 b n r g e) = if h : (n : ℕ) < 4096 then X (ix5 b ⟨n, h⟩ r g e) else Y (ix5 b ⟨n - 4096, by omega⟩ r g e) := by
  pointwise [joined]

theorem groups_at (q : FVec Ideal S8x4352x8x64 .f32) (b : Fin 8) (n : Fin 4352) (g : Fin 2) (r : Fin 4) (x : Fin 64) :
    groups q (ix5 b n g r x) = q (ix4 b n ⟨4 * g + r, by omega⟩ x) := by
  pointwise [groups]
  exact congrArg q (by idx_ext)

theorem flat_at (X : FVec Ideal S8x4352x4x2x64 .f32) (b : Fin 8) (n : Fin 4352) (j : Fin 512) :
    (truncf .bf16 (shapeCast S8x4352x512 X shapeCasts_S8x4352x4x2x64_S8x4352x512) bitsLt_bf16_f32 : FVec Ideal S8x4352x512 .bf16) (ix3 b n j)
      = X (ix5 b n ⟨j / 128, by omega⟩ ⟨j / 64 % 2, by omega⟩ ⟨j % 64, by omega⟩) := by
  pointwise

/-- A latent row of the reference: query token `256 + n`. -/
theorem latent_at (q : FVec Ideal S8x4352x8x64 .f32) (k v : FVec Ideal S8x4352x2x64 .f32) (b : Fin 8) (n : Fin 4096) (r : Fin 4) (g : Fin 2) (e : Fin 64) :
    latent q k v (ix5 b n r g e)
      = Softmax.soft (fun l : Fin 4352 => (∑ x : Fin 64, k (ix4 b l g x) * q (ix4 b ⟨256 + n, by omega⟩ ⟨4 * g + r, by omega⟩ x)) * Ideal.ofBits .f32 0x3E000000#32)
          (fun l => v (ix4 b l g e)) := by
  unfold latent
  rw [lat_at]
  have h : ∀ x : Fin 64, extractStridedSlice S8x4096x2x4x64 ![0, 256, 0, 0, 0] (groups q) slices_S8x4352x2x4x64_S8x4096x2x4x64_0_256_0_0_0 (ix5 b n g r x)
      = q (ix4 b ⟨256 + n, by omega⟩ ⟨4 * g + r, by omega⟩ x) := fun x => by
    pointwise
    exact groups_at q b _ g r x
  simp only [h]

/-- A context row of the reference, over the context keys. -/
theorem context_at (q : FVec Ideal S8x4352x8x64 .f32) (k v : FVec Ideal S8x4352x2x64 .f32) (b : Fin 8) (n : Fin 256) (r : Fin 4) (g : Fin 2) (e : Fin 64) :
    context (extractStridedSlice S8x256x2x4x64 ![0, 0, 0, 0, 0] (groups q) slices_S8x4352x2x4x64_S8x256x2x4x64_0_0_0_0_0)
      (extractStridedSlice S8x256x2x64 ![0, 0, 0, 0] k slices_S8x4352x2x64_S8x256x2x64_0_0_0_0)
      (extractStridedSlice S8x256x2x64 ![0, 0, 0, 0] v slices_S8x4352x2x64_S8x256x2x64_0_0_0_0) (ix5 b n r g e)
      = Softmax.soft (fun l : Fin 256 => (∑ x : Fin 64, k (ix4 b ⟨l, by omega⟩ g x) * q (ix4 b ⟨n, by omega⟩ ⟨4 * g + r, by omega⟩ x)) * Ideal.ofBits .f32 0x3E000000#32)
          (fun l => v (ix4 b ⟨l, by omega⟩ g e)) := by
  unfold context
  rw [ctx_at]
  have hq : ∀ x : Fin 64, extractStridedSlice S8x256x2x4x64 ![0, 0, 0, 0, 0] (groups q) slices_S8x4352x2x4x64_S8x256x2x4x64_0_0_0_0_0 (ix5 b n g r x)
      = q (ix4 b ⟨n, by omega⟩ ⟨4 * g + r, by omega⟩ x) := fun x => by
    pointwise
    exact groups_at q b _ g r x
  have hk : ∀ (k : FVec Ideal S8x4352x2x64 .f32) (l : Fin 256) (x : Fin 64), extractStridedSlice S8x256x2x64 ![0, 0, 0, 0] k slices_S8x4352x2x64_S8x256x2x64_0_0_0_0 (ix4 b l g x)
      = k (ix4 b ⟨l, by omega⟩ g x) := fun k l x => by
    pointwise
  simp only [hq, hk]

/-- The reference at an index: lanes `128 r + 64 g + e` of a token hold head `(g, r)`. -/
theorem ref_at (q : FVec Ideal S8x4352x8x64 .f32) (k v : FVec Ideal S8x4352x2x64 .f32) (b : Fin 8) (n : Fin 4352) (j : Fin 512) :
    ref q k v (ix3 b n j) = if h : (n : ℕ) < 4096 then
        Softmax.soft (fun l : Fin 4352 => (∑ x : Fin 64, k (ix4 b l ⟨j / 64 % 2, by omega⟩ x) * q (ix4 b ⟨256 + n, by omega⟩ ⟨4 * (j / 64 % 2) + j / 128, by omega⟩ x)) * Ideal.ofBits .f32 0x3E000000#32)
          (fun l => v (ix4 b l ⟨j / 64 % 2, by omega⟩ ⟨j % 64, by omega⟩))
      else
        Softmax.soft (fun l : Fin 256 => (∑ x : Fin 64, k (ix4 b ⟨l, by omega⟩ ⟨j / 64 % 2, by omega⟩ x) * q (ix4 b ⟨n - 4096, by omega⟩ ⟨4 * (j / 64 % 2) + j / 128, by omega⟩ x)) * Ideal.ofBits .f32 0x3E000000#32)
          (fun l => v (ix4 b ⟨l, by omega⟩ ⟨j / 64 % 2, by omega⟩ ⟨j % 64, by omega⟩)) := by
  unfold ref
  rw [flat_at, joined_at]
  split
  · exact latent_at q k v b _ _ _ _
  · exact context_at q k v b _ _ _ _

end Cert.ReferenceIdeal.Attn

end
-- ==== Proof.Gqa.Value.lean ====
/- What the call leaves in its result array is the reference of its arguments, on real queries and keys. -/
module

public import proofs.«01_k».proof.Proof.Gqa.Read
public import proofs.«01_k».proof.Proof.Gqa.Blocks
public import proofs.«01_k».proof.Proof.Gqa.Score
public import proofs.«01_k».proof.Proof.Gqa.Ref

@[expose] public section

set_option maxRecDepth 16384

noncomputable section

namespace Cert.KernelIdeal.Attn

open Cert.KernelIdeal Cert.KernelIdeal.Gen
open Idealize.ShloMosaic Idealize.ShloMosaic.TcCoe Idealize.SL.Sem

/-! ## A row of the kernel's result, from the arrays -/

section Rows
variable (q : FVec Ideal S8x4352x8x64 .f32) (k v : FVec Ideal S8x4352x2x64 .f32)
variable (Q : S8x4352x8x64.Idx → ℝ) (K : S8x4352x2x64.Idx → ℝ) (hq : ∀ i, q i = (Q i : EReal)) (hk : ∀ i, k i = (K i : EReal))

include hq hk in
/-- `N` of the keys, at the query row `n`: the kernel's mean under the scores of the pair `j`'s head `i` is the
    reference's row. -/
theorem mean_eq (N : ℕ) (hN : 0 < N) (hN' : N ≤ 4352) (b : Fin 8) (n : Fin 4352) (j : Fin 4) (i : Fin 2)
    (val w : Fin N → EReal) (hw : ∀ l, w l = 1) :
    Softmax.mix (fun l : Fin N => ∑ x : Fin 128, wide (pairs (scaled q)) (ix3 b n ⟨256 * j + 128 * i + x, by omega⟩)
        * keys k (ix3 b ⟨l, by omega⟩ x)) val w
      = Softmax.soft (fun l : Fin N => (∑ x : Fin 64, k (ix4 b ⟨l, by omega⟩ i x) * q (ix4 b n ⟨4 * i + j, by omega⟩ x))
        * Ideal.ofBits .f32 0x3E000000#32) val :=
  Softmax.mix_eq_soft hN (fun l => score Q K b n j i ⟨l, by omega⟩) _ _ _ _
    (fun l => kernel_score q k Q K hq hk b n j i ⟨l, by omega⟩) (fun l => ref_score q k Q K hq hk b n j i ⟨l, by omega⟩) hw
end Rows

/-! ## The reference's row, by group, head and lane -/

theorem ref_row (q : FVec Ideal S8x4352x8x64 .f32) (k v : FVec Ideal S8x4352x2x64 .f32) (b : Fin 8) (n : Fin 4352) (j : Fin 4) (i : Fin 2) (d : Fin 64) :
    ReferenceIdeal.Attn.ref q k v (ix3 b n ⟨128 * j + (64 * i + d), by omega⟩) = if h : (n : ℕ) < 4096 then
      Softmax.soft (fun l : Fin 4352 => (∑ x : Fin 64, k (ix4 b l i x) * q (ix4 b ⟨256 + n, by omega⟩ ⟨4 * i + j, by omega⟩ x)) * Ideal.ofBits .f32 0x3E000000#32)
        (fun l => v (ix4 b l i d))
    else Softmax.soft (fun l : Fin 256 => (∑ x : Fin 64, k (ix4 b ⟨l, by omega⟩ i x) * q (ix4 b ⟨n - 4096, by omega⟩ ⟨4 * i + j, by omega⟩ x)) * Ideal.ofBits .f32 0x3E000000#32)
        (fun l => v (ix4 b ⟨l, by omega⟩ i d)) := by
  rw [ReferenceIdeal.Attn.ref_at]
  have h1 : (128 * (j : ℕ) + (64 * (i : ℕ) + (d : ℕ))) / 64 % 2 = i := by omega
  have h2 : (128 * (j : ℕ) + (64 * (i : ℕ) + (d : ℕ))) / 128 = j := by omega
  have h3 : (128 * (j : ℕ) + (64 * (i : ℕ) + (d : ℕ))) % 64 = d := by omega
  simp only [h1, h2, h3]

/-- Two means of the same terms. -/
theorem mix_congr {N : ℕ} {s s' v v' w w' : Fin N → EReal} (hs : ∀ l, s l = s' l) (hv : ∀ l, v l = v' l) (hw : ∀ l, w l = w' l) :
    Softmax.mix s v w = Softmax.mix s' v' w' := by
  rw [funext hs, funext hv, funext hw]

section Call
variable (m : (ℓ : Loc nD τ sig) → Buf (Elt Ideal) ℓ) (c : Dev nD)

/-- The three argument arrays. -/
abbrev argQ : FVec Ideal S8x4352x8x64 .f32 := m ((c : Thread nD τ).loc main_arg0)
abbrev argK : FVec Ideal S8x4352x2x64 .f32 := m ((c : Thread nD τ).loc main_arg1)
abbrev argV : FVec Ideal S8x4352x2x64 .f32 := m ((c : Thread nD τ).loc main_arg2)

theorem key_at (t : Fin cfg0.N) (l : Fin 4352) (x : Fin 128) : iblk m c 1 t (ix3 0 l x) = keys (argK m c) (ix3 (batch t) l x) := by
  rw [iblk1, V_keys]
theorem low_at (t : Fin cfg0.N) (l : Fin 4352) (x : Fin 128) : iblk m c 2 t (ix3 0 l x) = valuesLow (argV m c) (ix3 (batch t) l x) := by
  rw [iblk2, V_valuesLow]
theorem high_at (t : Fin cfg0.N) (l : Fin 4352) (x : Fin 128) : iblk m c 3 t (ix3 0 l x) = valuesHigh (argV m c) (ix3 (batch t) l x) := by
  rw [iblk3, V_valuesHigh]

/-- A latent tile's query rows. -/
theorem query_latent (t : Fin cfg0.N) (h : ¬ t.val % 5 = 4) (r : Fin 1024) (i : Fin 2) (x : Fin 128) :
    qblk m c t zq (ix3 0 r ⟨128 * i + x, by omega⟩) = wide (pairs (scaled (argQ m c)))
      (ix3 (batch t) ⟨256 + (1024 * (t % 5) + r), by omega⟩ ⟨256 * pair t + 128 * i + x, by have := (pair t).isLt; omega⟩) := by
  rw [qblk_at m c t r _ (by rw [if_neg h]; exact r.isLt), V_queries, queries_at, dif_pos (by simp only; omega)]
  congr 2; simp only [pair, Nat.add_assoc]
/-- The context tile's. -/
theorem query_context (t : Fin cfg0.N) (h : t.val % 5 = 4) (r : Fin 256) (i : Fin 2) (x : Fin 128) :
    qblk m c t zq (ix3 0 ⟨r, by omega⟩ ⟨128 * i + x, by omega⟩) = wide (pairs (scaled (argQ m c)))
      (ix3 (batch t) ⟨1024 * (t % 5) + r - 4096, by omega⟩ ⟨256 * pair t + 128 * i + x, by have := (pair t).isLt; omega⟩) := by
  rw [qblk_at m c t _ _ (by rw [if_pos h]; exact r.isLt), V_queries, queries_at, dif_neg (by simp only; omega)]
  congr 2; simp only [pair, Nat.add_assoc]

variable (Q : S8x4352x8x64.Idx → ℝ) (K : S8x4352x2x64.Idx → ℝ) (hq : ∀ i, argQ m c i = (Q i : EReal)) (hk : ∀ i, argK m c i = (K i : EReal))

include hq hk in
theorem latent_at (t : Fin cfg0.N) (h : ¬ t.val % 5 = 4) (r : Fin 1024) (i : Fin 2) (d : Fin 64) :
    rows m c t (ix3 0 r ⟨64 * i + d, by omega⟩) = ReferenceIdeal.Attn.ref (argQ m c) (argK m c) (argV m c)
      (ix3 (batch t) ⟨1024 * (t % 5) + r, by omega⟩ ⟨128 * pair t + (64 * i + d), by have := (pair t).isLt; omega⟩) := by
  have hx : ∀ (i : Fin 2) (l : Fin 4352), (∑ x : Fin 128, qblk m c t zq (ix3 0 r ⟨128 * i + x, by omega⟩) * iblk m c 1 t (ix3 0 l x))
      = ∑ x : Fin 128, wide (pairs (scaled (argQ m c))) (ix3 (batch t) ⟨256 + (1024 * (t % 5) + r), by omega⟩ ⟨256 * pair t + 128 * i + x, by have := (pair t).isLt; omega⟩)
        * keys (argK m c) (ix3 (batch t) l x) := fun i l =>
    Finset.sum_congr rfl fun x _ => congrArg₂ (· * ·) (query_latent m c t h r i x) (key_at m c t l x)
  unfold rows
  rw [stored_latent c t h, latentRows_at, ref_row, dif_pos (by simp only; omega)]
  rcases Fin.exists_fin_two.mp ⟨i, rfl⟩ with rfl | rfl
  · rw [if_pos (by simp only [Fin.val_zero]; omega)]
    refine Eq.trans ?_ (mean_eq (argQ m c) (argK m c) Q K hq hk 4352 (by omega) le_rfl (batch t) _ (pair t) 0 _ (fun _ => 1) (fun _ => rfl))
    refine mix_congr (fun l => ?_) (fun l => ?_) (fun l => ?_)
    · rw [← hx 0 l]
      refine Finset.sum_congr rfl fun x _ => ?_
      congr 3; exact Fin.ext (by simp)
    · rw [low_at, valuesLow_at _ _ _ _ (by simp only [Fin.val_zero]; omega)]
      congr 2 <;> exact Fin.ext (by simp; try omega)
    · rw [low_at, valuesLow_one]
  · rw [if_neg (by simp only [Fin.val_one]; omega)]
    refine Eq.trans ?_ (mean_eq (argQ m c) (argK m c) Q K hq hk 4352 (by omega) le_rfl (batch t) _ (pair t) 1 _ (fun _ => 1) (fun _ => rfl))
    refine mix_congr (fun l => ?_) (fun l => ?_) (fun l => ?_)
    · rw [← hx 1 l]
      refine Finset.sum_congr rfl fun x _ => ?_
      congr 3
    · rw [high_at, valuesHigh_at _ _ _ _ (by simp only [Fin.val_one]; omega)]
      congr 2 <;> exact Fin.ext (by simp; try omega)
    · rw [high_at, valuesHigh_one]

include hq hk in
theorem context_at (t : Fin cfg0.N) (h : t.val % 5 = 4) (r : Fin 256) (i : Fin 2) (d : Fin 64) :
    rows m c t (ix3 0 ⟨r, by omega⟩ ⟨64 * i + d, by omega⟩) = ReferenceIdeal.Attn.ref (argQ m c) (argK m c) (argV m c)
      (ix3 (batch t) ⟨1024 * (t % 5) + r, by omega⟩ ⟨128 * pair t + (64 * i + d), by have := (pair t).isLt; omega⟩) := by
  have hx : ∀ (i : Fin 2) (l : Fin 256), (∑ x : Fin 128, qblk m c t zq (ix3 0 ⟨r, by omega⟩ ⟨128 * i + x, by omega⟩) * iblk m c 1 t (ix3 0 ⟨l, by omega⟩ x))
      = ∑ x : Fin 128, wide (pairs (scaled (argQ m c))) (ix3 (batch t) ⟨1024 * (t % 5) + r - 4096, by omega⟩ ⟨256 * pair t + 128 * i + x, by have := (pair t).isLt; omega⟩)
        * keys (argK m c) (ix3 (batch t) ⟨l, by omega⟩ x) := fun i l =>
    Finset.sum_congr rfl fun x _ => congrArg₂ (· * ·) (query_context m c t h r i x) (key_at m c t ⟨l, by omega⟩ x)
  unfold rows
  rw [stored_context_at c t h, contextRows_at, ref_row, dif_neg (by simp only; omega)]
  rcases Fin.exists_fin_two.mp ⟨i, rfl⟩ with rfl | rfl
  · rw [if_pos (by simp only [Fin.val_zero]; omega)]
    refine Eq.trans ?_ (mean_eq (argQ m c) (argK m c) Q K hq hk 256 (by omega) (by omega) (batch t) _ (pair t) 0 _ (fun _ => 1) (fun _ => rfl))
    refine mix_congr (fun l => ?_) (fun l => ?_) (fun l => ?_)
    · rw [← hx 0 l]
      refine Finset.sum_congr rfl fun x _ => ?_
      congr 3; exact Fin.ext (by simp)
    · rw [low_at, valuesLow_at _ _ _ _ (by simp only [Fin.val_zero]; omega)]
      congr 2 <;> exact Fin.ext (by simp; try omega)
    · rw [low_at, valuesLow_one]
  · rw [if_neg (by simp only [Fin.val_one]; omega)]
    refine Eq.trans ?_ (mean_eq (argQ m c) (argK m c) Q K hq hk 256 (by omega) (by omega) (batch t) _ (pair t) 1 _ (fun _ => 1) (fun _ => rfl))
    refine mix_congr (fun l => ?_) (fun l => ?_) (fun l => ?_)
    · rw [← hx 1 l]
      refine Finset.sum_congr rfl fun x _ => ?_
      congr 3
    · rw [high_at, valuesHigh_at _ _ _ _ (by simp only [Fin.val_one]; omega)]
      congr 2 <;> exact Fin.ext (by simp; try omega)
    · rw [high_at, valuesHigh_one]

include hq hk in
/-- The result array whole. -/
theorem final : (dats m 0 c).arrAt 4 cfg0.N = ReferenceIdeal.Attn.ref (argQ m c) (argK m c) (argV m c) := by
  refine (dats m 0 c).arrAt_eq_of_covers 4 _ (by decide +kernel) fun t hf y => ?_
  blk_simp
  rw [after_4]
  have hs : win0_4.xsize (grid0.coords t) = ![1, if t.val % 5 = 4 then 256 else 1024, 128] := (idx t).2.2.2.2.2
  have h0 : (y 0 : ℕ) < win0_4.xsize (grid0.coords t) 0 := (y 0).isLt
  have h1 : (y 1 : ℕ) < win0_4.xsize (grid0.coords t) 1 := (y 1).isLt
  have h2 : (y 2 : ℕ) < win0_4.xsize (grid0.coords t) 2 := (y 2).isLt
  rw [hs] at h0 h1 h2
  replace h0 : (y 0 : ℕ) < 1 := h0
  replace h1 : (y 1 : ℕ) < if t.val % 5 = 4 then 256 else 1024 := h1
  replace h2 : (y 2 : ℕ) < 128 := h2
  have hr : (y 1 : ℕ) < 1024 := by split at h1 <;> omega
  have hx : (cfg0.win 4).xinj (cfg0.grid.coords t) y
      = ix3 (n0 := 1) (n1 := 1024) (n2 := 128) 0 ⟨y 1, hr⟩ ⟨64 * (⟨(y 2 : ℕ) / 64, by omega⟩ : Fin 2) + (⟨(y 2 : ℕ) % 64, by omega⟩ : Fin 64), by omega⟩ := by
    funext a
    fin_cases a
    · exact Fin.ext (by show (y 0 : ℕ) = 0; omega)
    · exact Fin.ext (by show (y 1 : ℕ) = y 1; rfl)
    · exact Fin.ext (by show (y 2 : ℕ) = 64 * ((y 2 : ℕ) / 64) + (y 2 : ℕ) % 64; omega)
  have he : (win0_4.blk t).view.emb y = ix3 (n0 := 8) (n1 := 4352) (n2 := 512) (batch t) ⟨1024 * (t % 5) + y 1, by split at h1 <;> omega⟩
      ⟨128 * pair t + (64 * (⟨(y 2 : ℕ) / 64, by omega⟩ : Fin 2) + (⟨(y 2 : ℕ) % 64, by omega⟩ : Fin 64)), by have := (pair t).isLt; omega⟩ := by
    have hi := (idx t).2.2.2.2.1
    funext a
    fin_cases a
    · refine Fin.ext ?_
      show win0_4.index t 0 * 1 + 1 * (y 0 : ℕ) = (t : ℕ) / 20
      rw [hi]; show (t : ℕ) / 20 * 1 + 1 * (y 0 : ℕ) = _; omega
    · refine Fin.ext ?_
      show win0_4.index t 1 * 1024 + 1 * (y 1 : ℕ) = 1024 * (t % 5) + (y 1 : ℕ)
      rw [hi]; show (t : ℕ) % 5 * 1024 + 1 * (y 1 : ℕ) = _; omega
    · refine Fin.ext ?_
      show win0_4.index t 2 * 128 + 1 * (y 2 : ℕ) = 128 * ((t : ℕ) / 5 % 4) + (64 * ((y 2 : ℕ) / 64) + (y 2 : ℕ) % 64)
      rw [hi]; show (t : ℕ) / 5 % 4 * 128 + 1 * (y 2 : ℕ) = _; omega
  rw [hx, he]
  by_cases h : t.val % 5 = 4
  · rw [if_pos h] at h1
    exact context_at m c Q K hq hk t h ⟨y 1, h1⟩ _ _
  · exact latent_at m c Q K hq hk t h ⟨y 1, hr⟩ _ _

include hq hk in
/-- So the result buffer ends at the reference. -/
theorem result_eq (r : PUnit × MemSt nD τ sig (Elt Ideal)) (h : Pipeline.FramePost cfgs (dats m) 0 (V m) r) :
    r.2.mem ((c.tc : Thread nD τ).loc main_v38) = ReferenceIdeal.Attn.ref (argQ m c) (argK m c) (argV m c) := by
  have post : r.2.mem ((c.tc : Thread nD τ).loc main_v38) = (dats m 0 c).arrAt 4 cfg0.N := (h c).1 4
  exact post.trans (final m c Q K hq hk)
end Call
end Cert.KernelIdeal.Attn
end
-- ==== Proof.Finite.lean ====
/- The precondition read back: where an array's magnitudes are all below infinity, its entries are real numbers. -/
module

public import Idealize.ShloMosaic.PureOps.Ideal
public import Idealize.ShloMosaic.Lib.Pointwise
public import Idealize.ShloMosaic.Lib.ReduceAll

@[expose] public section

noncomputable section

namespace Cert.Finite

open Idealize.ShloMosaic

/-- Infinity as an extended real. -/
theorem infinity : Ideal.ofBits .f32 0x7F800000#32 = ⊤ := by simp [Ideal.ofBits, Ideal.ieee]

/-- A magnitude below infinity belongs to a real number. -/
theorem real_of_abs_lt (x : EReal) (h : Ideal.cmp .olt (max x (-x)) (Ideal.ofBits .f32 0x7F800000#32) = 1#1) :
    ∃ r : ℝ, x = (r : EReal) := by
  rw [infinity] at h
  induction x using EReal.rec with
  | bot => exact absurd h (by simp [Ideal.cmp])
  | coe r => exact ⟨r, rfl⟩
  | top => exact absurd h (by simp [Ideal.cmp])

/-- An array that passes the test is an array of real numbers. -/
theorem real_of_all {s u : Shape} {axes : List (Fin s.rank)} (x : FVec Ideal s .f32) (b : FVec Ideal s .f32)
    (hb : ∀ i, b i = Ideal.ofBits .f32 0x7F800000#32) (init : u.Idx → BitVec 1) (t : Shape) [Subsingleton t.Idx]
    (h : s.ReducesTo axes t) (hu : 0 < u.numel) (j : t.Idx)
    (e : Host.reduce IntOp.andi (cmpf .olt (Host.absf x) b) init h hu j = 1#1) : ∃ X : s.Idx → ℝ, ∀ i, x i = (X i : EReal) := by
  have key : ∀ i, ∃ r : ℝ, x i = (r : EReal) := fun i => by
    have hi := Host.reduce_andi_all _ _ _ _ j e i
    refine real_of_abs_lt (x i) ?_
    rw [← hb i]
    exact hi
  exact ⟨fun i => (key i).choose, fun i => (key i).choose_spec⟩

end Cert.Finite

end
-- ==== Proof.Gqa.Claims.lean ====
/- The claims about the grouped-query call: the reference's frame, and the equality of the two results. -/
module

public import proofs.«01_k».proof.Defs
public import proofs.«01_k».proof.Proof.Gqa.Value
public import proofs.«01_k».proof.Proof.Finite
public import proofs.«01_k».proof.Proof.Gen.Pre_finite

@[expose] public section

set_option maxRecDepth 16384

noncomputable section

namespace Cert.KernelIdeal.Attn

open Idealize.ShloMosaic Idealize.ShloMosaic.TcCoe Idealize.SL.Sem

/-- The reference's arguments end unchanged; it has no semaphore. -/
theorem frame_ref (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2))
      ∧ r.2.sem = fun _ => 0) :=
  (θ_run ReferenceIdeal.defs _ _).mono (fun r h => ⟨fun c => (h c).2, sem_eq_zero_of_no_sems (by decide) r.2⟩)
    (ReferenceIdeal.Value.run m g)

/-- The precondition: the queries and keys are real. -/
theorem real_args (m : (ℓ : Loc KernelIdeal.nD KernelIdeal.τ KernelIdeal.sig) → Buf (Elt Ideal) ℓ)
    (h : Cert.Pre_KernelIdeal_finite (hPre_finite := Cert.Pre_finite.Gen.facts) m) (c : Dev KernelIdeal.nD) :
    (∃ Q : KernelIdeal.S8x4352x8x64.Idx → ℝ, ∀ i, argQ m c i = (Q i : EReal)) ∧ ∃ K : KernelIdeal.S8x4352x2x64.Idx → ℝ, ∀ i, argK m c i = (K i : EReal) := by
  have e := congrFun (h c) (Shape.Idx.first Cert.Pre_finite.Gen.h_S_)
  obtain ⟨e1, e2⟩ := IntOp.andi_eq_one.1 e
  haveI : Subsingleton Cert.Pre_finite.S_.Idx := ⟨fun a b => funext fun i => i.elim0⟩
  exact ⟨Finite.real_of_all _ _ (fun _ => rfl) _ Cert.Pre_finite.S_ _ _ _ e1, Finite.real_of_all _ _ (fun _ => rfl) _ Cert.Pre_finite.S_ _ _ _ e2⟩

/-- Equal arguments give equal results. -/
theorem ref_congr {q q' : FVec Ideal ReferenceIdeal.S8x4352x8x64 .f32} {k k' v v' : FVec Ideal ReferenceIdeal.S8x4352x2x64 .f32} (e0 : q = q') (e1 : k = k')
    (e2 : v = v') : ReferenceIdeal.Attn.ref q k v = ReferenceIdeal.Attn.ref q' k' v' := by
  subst e0 e1 e2
  rfl

/-- The call and the reference end with one array. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => ReferenceIdeal.Attn.ref (argQ m c) (argK m c) (argV m c), ?_, ?_⟩
  · refine (θ_run KernelIdeal.defs _ _).mono (fun r h c => ⟨?_, h.2.1 c⟩) (θ_run_and (run_main m g) (frame m g))
    obtain ⟨⟨Q, hQ⟩, ⟨K, hK⟩⟩ := real_args m hpre c
    exact result_eq m c Q K hQ hK r h.1.1
  · refine (θ_run ReferenceIdeal.defs _ _).mono (fun r h c => ⟨?_, (h c).2⟩) (ReferenceIdeal.Value.run m' g')
    obtain ⟨a0, a1, a2⟩ := hagree c
    exact ((h c).1.trans (ReferenceIdeal.Attn.res_eq m' c)).trans (ref_congr a0 a1 a2)

end Cert.KernelIdeal.Attn

end
-- ==== Proof.Mla.Body.lean ====
/-
  One grid point of the latent attention call: the body run on any staging buffers, in its two cases.

  A point of case A (a tile of latent queries) loads two heads' queries, their keys and the two value operands, and
  stores one whole block of 1024 rows. A point of case B (the tile of context queries) does the same over the first
  256 rows of everything, stores 256 rows, and stores zeros to the 768 rows below. Each case is run once, over any
  float values; what the stores leave is found by the run.
-/
module

public import proofs.«01_k».proof.Proof.Gen.Kernel4Ideal.Frame
public import proofs.«01_k».proof.Proof.Gen.Kernel4Ideal.Skeleton
public import proofs.«01_k».proof.Proof.Gen.Kernel4Ideal.Points
public import Idealize.ShloMosaic.Lib.Tactic
public import Idealize.ShloMosaic.Lib.Ring
public import Idealize.ShloMosaic.Lib.Pipeline.FrameBody

@[expose] public section

set_option maxRecDepth 16384

noncomputable section

namespace Cert.Kernel4Ideal.Attn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point works on a tile of latent queries. -/
abbrev isLatent (i : grid0.Coords) : Prop := k0_cond1 i = 1#1
/-- The point works on the tile of context queries. -/
abbrev isContext (i : grid0.Coords) : Prop := k0_cond2 i = 1#1

/-- Of the five tiles of a (batch, pair) the first four hold latent queries, -/
theorem isLatent_iff : ∀ t : Fin cfg0.N, isLatent (grid0.coords t) ↔ ¬t.val % 5 = 4 :=
  (by decide +kernel : ∀ t : Fin grid0.N, isLatent (grid0.coords t) ↔ ¬t.val % 5 = 4)
/-- and the fifth the context's. -/
theorem isContext_iff : ∀ t : Fin cfg0.N, isContext (grid0.coords t) ↔ t.val % 5 = 4 :=
  (by decide +kernel : ∀ t : Fin grid0.N, isContext (grid0.coords t) ↔ t.val % 5 = 4)

/-- The result's block is stored at every point. -/
theorem live4 : ∀ t : Fin cfg0.N, cfg0.idle 4 (grid0.coords t) = false := by decide +kernel

section run

variable (c : Dev nD) (i : grid0.Coords)
  (aq : Memref sig .tc .vmem S1x1024x256 .bf16) (hq : aq.IsWhole)
  (ak : Memref sig .tc .vmem S1x4352x256 .bf16) (hk : ak.IsWhole)
  (al : Memref sig .tc .vmem S1x4352x128 .bf16) (hl : al.IsWhole)
  (ah : Memref sig .tc .vmem S1x4352x128 .bf16) (hh : ah.IsWhole)
  (ao : Memref sig .tc .vmem S1x1024x128 .bf16) (ho : ao.IsWhole)
  (xq : Vec F S1x1024x256 .bf16) (xk : Vec F S1x4352x256 .bf16) (xl xh : Vec F S1x4352x128 .bf16)

/-- What the body needs of its five staging buffers: the inputs at their contents, the result's at anything. -/
abbrev given : sProp 𝕄 :=
  iprop(owns (c : Thread nD τ) aq fullShare xq ∗ owns (c : Thread nD τ) ak fullShare xk
    ∗ owns (c : Thread nD τ) al fullShare xl ∗ owns (c : Thread nD τ) ah fullShare xh
    ∗ (∃ d, owns (c : Thread nD τ) ao fullShare d))

/-- What it hands back: the inputs unchanged, the result's buffer with the pieces `L` written into it. -/
abbrev left (L : List (View.Piece (Elt F) S1x1024x128 .bf16)) : sProp 𝕄 :=
  iprop(owns (c : Thread nD τ) aq fullShare xq ∗ owns (c : Thread nD τ) ak fullShare xk
    ∗ owns (c : Thread nD τ) al fullShare xl ∗ owns (c : Thread nD τ) ah fullShare xh
    ∗ (∃ f, ao.view.loc (c : Thread nD τ) ↦[ao.view.set]{fullShare} ao.view.writes (Elt F) f L))

set_option maxHeartbeats 1000000 in
/-- A tile of latent queries: the pieces stored, and the run that stores them. -/
def runLatent (hA : isLatent i) (hB : ¬isContext i) :
    { L : List (View.Piece (Elt F) S1x1024x128 .bf16) //
      ∀ (E : Set ℕ) (K : PUnit → sProp 𝕄),
        iprop(given c aq ak al ah ao xq xk xl xh ∗ (left c aq ak al ah ao xq xk xl xh L -∗ K ⟨⟩))
          ⊢ wp frame (wpE (defs₀ (F := F)) Variants.none c none) E (cc0_attn_mla i aq hq ak hk al hl ah hh ao ho) K } := by
  refine ⟨?_, fun E K => ?run⟩
  case run =>
    simp only [cc0_attn_mla_eq_skeleton]; unfold cc0_attn_mla_skel
    simp only [k0_part1_eq_skeleton]
    unfold given left owns
    iintro ⟨⟨⟨%f0, %e0, H0⟩, ⟨%f1, %e1, H1⟩, ⟨%f2, %e2, H2⟩, ⟨%f3, %e3, H3⟩, ⟨%d4, %f4, -, H4⟩⟩, Hk⟩
    obtain rfl := hq.eq_unread e0; obtain rfl := hk.eq_unread e1; obtain rfl := hl.eq_unread e2; obtain rfl := hh.eq_unread e3
    sl_exec (disch := first | sl_exact hA | sl_exact hB)
    sl_step
    iapply Hk
    isplitl [H0]
    · iexists _; isplitr; · ipureintro; exact hq.read_unread _
      iexact H0
    isplitl [H1]
    · iexists _; isplitr; · ipureintro; exact hk.read_unread _
      iexact H1
    isplitl [H2]
    · iexists _; isplitr; · ipureintro; exact hl.read_unread _
      iexact H2
    isplitl [H3]
    · iexists _; isplitr; · ipureintro; exact hh.read_unread _
      iexact H3
    iexists _; iexact H4

set_option maxHeartbeats 1000000 in
/-- The tile of context queries: the pieces stored, and the run that stores them. -/
def runContext (hA : ¬isLatent i) (hB : isContext i) :
    { L : List (View.Piece (Elt F) S1x1024x128 .bf16) //
      ∀ (E : Set ℕ) (K : PUnit → sProp 𝕄),
        iprop(given c aq ak al ah ao xq xk xl xh ∗ (left c aq ak al ah ao xq xk xl xh L -∗ K ⟨⟩))
          ⊢ wp frame (wpE (defs₀ (F := F)) Variants.none c none) E (cc0_attn_mla i aq hq ak hk al hl ah hh ao ho) K } := by
  refine ⟨?_, fun E K => ?run⟩
  case run =>
    simp only [cc0_attn_mla_eq_skeleton]; unfold cc0_attn_mla_skel
    simp only [k0_part2_eq_skeleton]
    unfold given left owns
    iintro ⟨⟨⟨%f0, %e0, H0⟩, ⟨%f1, %e1, H1⟩, ⟨%f2, %e2, H2⟩, ⟨%f3, %e3, H3⟩, ⟨%d4, %f4, -, H4⟩⟩, Hk⟩
    obtain rfl := hq.eq_unread e0; obtain rfl := hk.eq_unread e1; obtain rfl := hl.eq_unread e2; obtain rfl := hh.eq_unread e3
    sl_exec (disch := first | sl_exact hA | sl_exact hB)
    sl_step
    iapply Hk
    isplitl [H0]
    · iexists _; isplitr; · ipureintro; exact hq.read_unread _
      iexact H0
    isplitl [H1]
    · iexists _; isplitr; · ipureintro; exact hk.read_unread _
      iexact H1
    isplitl [H2]
    · iexists _; isplitr; · ipureintro; exact hl.read_unread _
      iexact H2
    isplitl [H3]
    · iexists _; isplitr; · ipureintro; exact hh.read_unread _
      iexact H3
    iexists _; iexact H4

/-- The pieces of a latent tile cover the result's block (one store of all of it). -/
theorem cover_latent (hA : isLatent i) (hB : ¬isContext i) (y : S1x1024x128.Idx) :
    ∃ p ∈ (runLatent c i aq hq ak hk al hl ah hh ao ho xq xk xl xh hA hB).1, y ∈ p.1.set :=
  View.cover_of_tiledL _ S1x1024x128.size (by sl_kernel_rfl) y

/-- The pieces of the context tile cover it too (256 rows, then the 768 below). -/
theorem cover_context (hA : ¬isLatent i) (hB : isContext i) (y : S1x1024x128.Idx) :
    ∃ p ∈ (runContext c i aq hq ak hk al hl ah hh ao ho xq xk xl xh hA hB).1, y ∈ p.1.set :=
  View.cover_of_tiledBy _ ![1, 256, 128] (by sl_kernel_rfl) y

end run

end Cert.Kernel4Ideal.Attn

end
-- ==== Proof.Mla.Run.lean ====
/-
  The latent attention call run whole: the frame's proof data, the body's obligation at every grid point, and
  the run of @main.

  The last of a (batch, pair)'s five query tiles holds only 256 rows of the array: its fetch leaves the lower 768 rows
  of the staging buffer at contents nothing names, and its write-back moves 256 rows. The proof data fill those rows
  with zeros; the body never reads them, so what it stores does not depend on the filling (`stored_any`).
-/
module

public import proofs.«01_k».proof.Proof.Mla.Body
public import Idealize.ShloMosaic.Lib.Pipeline.ValueKit
public import Idealize.ShloMosaic.Lib.Pointwise

@[expose] public section

set_option maxRecDepth 16384

noncomputable section

namespace Cert.Kernel4Ideal.Attn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging memref at point `t`. -/
abbrev mq (t : Fin cfg0.N) : Memref sig .tc .vmem S1x1024x256 .bf16 := win0_0.stage (cfg0.slots t 0)
abbrev mk (t : Fin cfg0.N) : Memref sig .tc .vmem S1x4352x256 .bf16 := win0_1.stage (cfg0.slots t 1)
abbrev ml (t : Fin cfg0.N) : Memref sig .tc .vmem S1x4352x128 .bf16 := win0_2.stage (cfg0.slots t 2)
abbrev mh (t : Fin cfg0.N) : Memref sig .tc .vmem S1x4352x128 .bf16 := win0_3.stage (cfg0.slots t 3)
abbrev mo (t : Fin cfg0.N) : Memref sig .tc .vmem S1x1024x128 .bf16 := win0_4.stage (cfg0.slots t 4)
/-- Each is a whole buffer. -/
abbrev wq (t : Fin cfg0.N) : (mq t).IsWhole := hstage0_0 ((cfg0.slots t 0).cast nbuf0_0)
abbrev wk (t : Fin cfg0.N) : (mk t).IsWhole := hstage0_1 ((cfg0.slots t 1).cast nbuf0_1)
abbrev wl (t : Fin cfg0.N) : (ml t).IsWhole := hstage0_2 ((cfg0.slots t 2).cast nbuf0_2)
abbrev wh (t : Fin cfg0.N) : (mh t).IsWhole := hstage0_3 ((cfg0.slots t 3).cast nbuf0_3)
abbrev wo (t : Fin cfg0.N) : (mo t).IsWhole := hstage0_4 ((cfg0.slots t 4).cast nbuf0_4)

/-- One staging buffer of the result, through which its contents are read. -/
abbrev VO : View sig .tc .vmem S1x1024x128 .bf16 := (Memref.whole cc0_stg4_0 : Memref sig .tc .vmem S1x1024x128 .bf16).view

/-- What the body leaves in the result's buffer at point `t`, from what the input buffers hold. -/
def stored (c : Dev nD) (t : Fin cfg0.N) (xq : Vec F S1x1024x256 .bf16) (xk : Vec F S1x4352x256 .bf16) (xl xh : Vec F S1x4352x128 .bf16) :
    Vec F S1x1024x128 .bf16 :=
  if h : t.val % 5 = 4 then
    VO.read (Elt F) (VO.writes (Elt F) VO.junk (runContext c (grid0.coords t) (mq t) (wq t) (mk t) (wk t) (ml t) (wl t) (mh t) (wh t)
      (mo t) (wo t) xq xk xl xh (fun g => (isLatent_iff t).mp g h) ((isContext_iff t).mpr h)).1)
  else
    VO.read (Elt F) (VO.writes (Elt F) VO.junk (runLatent c (grid0.coords t) (mq t) (wq t) (mk t) (wk t) (ml t) (wl t) (mh t) (wh t)
      (mo t) (wo t) xq xk xl xh ((isLatent_iff t).mpr h) (fun g => h ((isContext_iff t).mp g))).1)

/-- The 1024 rows a latent tile stores. -/
def latentRows (xq : Vec F S1x1024x256 .bf16) (xk : Vec F S1x4352x256 .bf16) (xl xh : Vec F S1x4352x128 .bf16) : Vec F S1x1024x128 .bf16 :=
  k0_pay1 (k0_pay4 (View.ld xq (Rect.unit ![0, 0, 0] ![1, 1024, 128] inb_S1x1024x256_S1x1024x128_0_0_0)) (View.ld xk (Rect.unit ![0, 0, 0] ![1, 4352, 128] inb_S1x4352x256_S1x4352x128_0_0_0)) xl)
    (k0_pay5 (View.ld xq (Rect.unit ![0, 0, 128] ![1, 1024, 128] inb_S1x1024x256_S1x1024x128_0_0_128)) (View.ld xk (Rect.unit ![0, 0, 128] ![1, 4352, 128] inb_S1x4352x256_S1x4352x128_0_0_128)) xh)
    (iota Kind.tc S1024x128 32 [1] iota_S1024x128_d1_w32) 64#32

/-- The 256 rows the context tile stores. -/
def contextRows (xq : Vec F S1x1024x256 .bf16) (xk : Vec F S1x4352x256 .bf16) (xl xh : Vec F S1x4352x128 .bf16) : Vec F S1x256x128 .bf16 :=
  k0_pay2
    (k0_pay6 (View.ld xq (Rect.unit ![0, 0, 0] ![1, 256, 128] inb_S1x1024x256_S1x256x128_0_0_0))
      (View.ld xk (Rect.unit ![0, 0, 0] ![1, 256, 128] inb_S1x4352x256_S1x256x128_0_0_0))
      (View.ld xl (Rect.unit ![0, 0, 0] ![1, 256, 128] inb_S1x4352x128_S1x256x128_0_0_0)))
    (k0_pay7 (View.ld xq (Rect.unit ![0, 0, 128] ![1, 256, 128] inb_S1x1024x256_S1x256x128_0_0_128))
      (View.ld xk (Rect.unit ![0, 0, 128] ![1, 256, 128] inb_S1x4352x256_S1x256x128_0_0_128))
      (View.ld xh (Rect.unit ![0, 0, 0] ![1, 256, 128] inb_S1x4352x128_S1x256x128_0_0_0)))
    (iota Kind.tc S256x128 32 [1] iota_S256x128_d1_w32) 64#32

theorem stored_latent (c : Dev nD) (t : Fin cfg0.N) (h : ¬t.val % 5 = 4) (xq : Vec F S1x1024x256 .bf16)
    (xk : Vec F S1x4352x256 .bf16) (xl xh : Vec F S1x4352x128 .bf16) : stored c t xq xk xl xh = latentRows xq xk xl xh := by
  unfold stored; rw [dif_neg h]; frame_out; rfl

theorem stored_context (c : Dev nD) (t : Fin cfg0.N) (h : t.val % 5 = 4) (xq : Vec F S1x1024x256 .bf16)
    (xk : Vec F S1x4352x256 .bf16) (xl xh : Vec F S1x4352x128 .bf16) : stored c t xq xk xl xh
      = View.canon [⟨Rect.unit ![0, 256, 0] ![1, 768, 128] inb_S1x1024x128_S1x768x128_0_256_0, k0_pay3⟩,
          ⟨Rect.unit ![0, 0, 0] ![1, 256, 128] inb_S1x1024x128_S1x256x128_0_0_0, contextRows xq xk xl xh⟩] := by
  unfold stored; rw [dif_pos h]; frame_out; rfl

/-! ## The rows of a query block that lie in the array -/

theorem qsize : ∀ t : Fin cfg0.N, win0_0.xsize (grid0.coords t) = ![1, if t.val % 5 = 4 then 256 else 1024, 256] :=
  (by decide +kernel : ∀ t : Fin grid0.N, win0_0.xsize (grid0.coords t) = ![1, if t.val % 5 = 4 then 256 else 1024, 256])

/-- The query block of point `t` as the staging buffer holds it: the rows of the array, `d` on the rows past its end. -/
def qblk (c : Dev nD) (t : Fin cfg0.N) (d : Vec F S1x1024x256 .bf16) : Vec F S1x1024x256 .bf16 :=
  win0_0.fill (grid0.coords t) d (iblk m c 0 t)

/-- On the rows that lie in the array `d` does not matter. -/
theorem qblk_congr (c : Dev nD) (t : Fin cfg0.N) (d d' : Vec F S1x1024x256 .bf16) (j : S1x1024x256.Idx)
    (h : (j 1 : ℕ) < if t.val % 5 = 4 then 256 else 1024) : qblk m c t d j = qblk m c t d' j := by
  have hm : win0_0.moved (grid0.coords t) j = true := by
    rw [Pipeline.Window.moved_iff, qsize t]
    intro a
    have h0 : (j 0 : ℕ) < 1 := (j 0).isLt
    have h2 : (j 2 : ℕ) < 256 := (j 2).isLt
    fin_cases a
    · exact h0
    · exact h
    · exact h2
  unfold qblk Pipeline.Window.fill
  rw [dif_pos hm, dif_pos hm]

/-- So what the body stores does not depend on the filling. -/
theorem stored_any (c : Dev nD) (t : Fin cfg0.N) (d d' : Vec F S1x1024x256 .bf16) (xk : Vec F S1x4352x256 .bf16) (xl xh : Vec F S1x4352x128 .bf16) :
    stored c t (qblk m c t d) xk xl xh = stored c t (qblk m c t d') xk xl xh := by
  by_cases h : t.val % 5 = 4
  · rw [stored_context c t h, stored_context c t h]
    unfold contextRows
    have e : ∀ (off : Fin 3 → ℕ) (hb) (o1 : off 1 = 0),
        View.ld (qblk m c t d) (Rect.unit (s := S1x1024x256) off ![1, 256, 128] hb)
          = View.ld (qblk m c t d') (Rect.unit (s := S1x1024x256) off ![1, 256, 128] hb) := by
      intro off hb o1; funext x
      refine qblk_congr m c t d d' _ ?_
      rw [if_pos h]
      have hx : (x 1 : ℕ) < 256 := (x 1).isLt
      show off 1 + 1 * (x 1 : ℕ) < 256
      omega
    rw [e _ _ rfl, e _ _ rfl]
  · rw [stored_latent c t h, stored_latent c t h]
    have e : qblk m c t d = qblk m c t d' := funext fun j => qblk_congr m c t d d' j (by
      rw [if_neg h]; exact (j 1).isLt)
    rw [e]

/-! ## The pipeline's proof data -/

/-- The zero filling. -/
abbrev zq : Vec F S1x1024x256 .bf16 := fun _ => Scalar.ofBits .bf16 0#16

/-- What the result's buffer holds after the body at point `t`. -/
def rows (c : Dev nD) (t : Fin cfg0.N) : Vec F S1x1024x128 .bf16 :=
  stored c t (qblk m c t zq) (iblk m c 1 t) (iblk m c 2 t) (iblk m c 3 t)

/-- The arrays as the region finds them; after the body each input's buffer at its block and the result's at `rows`;
    the scoped rest as invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => qblk m c t zq
    | ⟨1, _⟩ => iblk m c 1 t
    | ⟨2, _⟩ => iblk m c 2 t
    | ⟨3, _⟩ => iblk m c 3 t
    | ⟨4, _⟩ => rows m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = qblk m c t zq := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = rows m c t := by dsimp only [dats]

/-- The query buffer is freshly fetched at every point; -/
theorem before_0 (c : Dev nD) (t : Fin cfg0.N) (d) : (dats m 0 c).before 0 t d = qblk m c t d := by
  unfold Dat.before; rw [if_pos (fetch0_0 t)]
  rfl
/-- the other inputs' hold their blocks. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mq t) fullShare ((dats m 0 c).before 0 t d))
    ∗ (∃ d, owns (c : Thread nD τ) (mk t) fullShare ((dats m 0 c).before 1 t d))
    ∗ (∃ d, owns (c : Thread nD τ) (ml t) fullShare ((dats m 0 c).before 2 t d))
    ∗ (∃ d, owns (c : Thread nD τ) (mh t) fullShare ((dats m 0 c).before 3 t d))
    ∗ (∃ d, owns (c : Thread nD τ) (mo t) fullShare ((dats m 0 c).before 4 t d)))

/-- and what it returns: the two clipped windows' buffers stated on the rows their transfers move. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t)

/-- A query buffer handed back unchanged is what the obligation asks of it. -/
theorem left_q (c : Dev nD) (t : Fin cfg0.N) (d : Vec F S1x1024x256 .bf16) :
    owns (c : Thread nD τ) (mq t) fullShare (qblk m c t d) ⊢ ((dats m 0 c).leaves 0 t : sProp 𝕄) := by
  show _ ⊢ iprop(∃ d, owns (c : Thread nD τ) (mq t) fullShare (win0_0.fill (grid0.coords t) d (win0_0.cut (grid0.coords t) ((dats m 0 c).after 0 t))))
  rw [after_0]
  have e : win0_0.cut (grid0.coords t) (qblk m c t zq) = iblk m c 0 t := win0_0.cut_fill _ _ _
  rw [e]
  iintro H; iexists d; iexact H

/-- A result buffer holding `rows` is. -/
theorem left_o (c : Dev nD) (t : Fin cfg0.N) :
    owns (c : Thread nD τ) (mo t) fullShare (rows m c t) ⊢ ((dats m 0 c).leaves 4 t : sProp 𝕄) := by
  have hl : (dats m 0 c).leaves 4 t = (iprop(∃ d, owns (c : Thread nD τ) (mo t) fullShare (win0_4.fill (grid0.coords t) d (win0_4.cut (grid0.coords t) ((dats m 0 c).after 4 t)))) : sProp 𝕄) := by
    unfold Dat.leaves; rw [live4 t]; rfl
  rw [hl, after_4]
  iintro H; iexists (rows m c t); rw [win0_4.fill_cut]; iexact H

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  rw [show (dats m 0 c).leaves 1 t = owns (c : Thread nD τ) (mk t) fullShare ((dats m 0 c).after 1 t) from rfl, after_1,
    show (dats m 0 c).leaves 2 t = owns (c : Thread nD τ) (ml t) fullShare ((dats m 0 c).after 2 t) from rfl, after_2,
    show (dats m 0 c).leaves 3 t = owns (c : Thread nD τ) (mh t) fullShare ((dats m 0 c).after 3 t) from rfl, after_3]
  iintro ⟨HΦ, Ho, ⟨%d0, H0⟩, ⟨%d1, H1⟩, ⟨%d2, H2⟩, ⟨%d3, H3⟩, ⟨%d4, H4⟩⟩
  by_cases h : t.val % 5 = 4
  · iapply ((runContext c (grid0.coords t) (mq t) (wq t) (mk t) (wk t) (ml t) (wl t) (mh t) (wh t) (mo t) (wo t)
      (qblk m c t d0) (iblk m c 1 t) (iblk m c 2 t) (iblk m c 3 t)
      (fun g => (isLatent_iff t).mp g h) ((isContext_iff t).mpr h)).2 Set.univ _)
    unfold given left
    isplitl [H0 H1 H2 H3 H4]
    · isplitl [H0]; · iexact H0
      isplitl [H1]; · iexact H1
      isplitl [H2]; · iexact H2
      isplitl [H3]; · iexact H3
      iexists _; iexact H4
    iintro ⟨H0, H1, H2, H3, ⟨%e4, H4⟩⟩
    isplitl [HΦ]; · iexact HΦ
    isplitl [Ho]; · iexact Ho
    isplitl [H0]; · iapply (left_q m c t d0); iexact H0
    isplitl [H1]; · iexact H1
    isplitl [H2]; · iexact H2
    isplitl [H3]; · iexact H3
    iapply (left_o m c t)
    unfold owns; iexists _; isplitr
    swap; · iexact H4
    ipureintro
    unfold rows
    rw [stored_any m c t zq d0]
    unfold stored
    rw [dif_pos h]
    exact View.read_writes_of_cover _ _ _ _ _ (cover_context c _ _ _ _ _ _ _ _ _ _ _ _ _ _ _ _ _)
  · iapply ((runLatent c (grid0.coords t) (mq t) (wq t) (mk t) (wk t) (ml t) (wl t) (mh t) (wh t) (mo t) (wo t)
      (qblk m c t d0) (iblk m c 1 t) (iblk m c 2 t) (iblk m c 3 t)
      ((isLatent_iff t).mpr h) (fun g => h ((isContext_iff t).mp g))).2 Set.univ _)
    unfold given left
    isplitl [H0 H1 H2 H3 H4]
    · isplitl [H0]; · iexact H0
      isplitl [H1]; · iexact H1
      isplitl [H2]; · iexact H2
      isplitl [H3]; · iexact H3
      iexists _; iexact H4
    iintro ⟨H0, H1, H2, H3, ⟨%e4, H4⟩⟩
    isplitl [HΦ]; · iexact HΦ
    isplitl [Ho]; · iexact Ho
    isplitl [H0]; · iapply (left_q m c t d0); iexact H0
    isplitl [H1]; · iexact H1
    isplitl [H2]; · iexact H2
    isplitl [H3]; · iexact H3
    iapply (left_o m c t)
    unfold owns; iexists _; isplitr
    swap; · iexact H4
    ipureintro
    unfold rows
    rw [stored_any m c t zq d0]
    unfold stored
    rw [dif_neg h]
    exact View.read_writes_of_cover _ _ _ _ _ (cover_latent c _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every weakly fair execution of @main terminates, with every array of the pipeline at what the proof data compute,
    every other unscoped buffer as the region found it, and every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel4Ideal.Attn

end
-- ==== Proof.Mla.Same.lean ====
/-
  The frame of `Kernel4` from the run of `Kernel4Ideal`: the two programs have the same text, so the run, written once
  over any float carrier, holds of both. Only their body tables are separate case distinctions, equal case by case.
-/
module
public import proofs.«01_k».proof.Defs
public import proofs.«01_k».proof.Proof.Gen.Kernel4
public import proofs.«01_k».proof.Proof.Gen.Kernel4Ideal
public import proofs.«01_k».proof.Proof.Mla.Run

@[expose] public section
set_option maxRecDepth 16384
noncomputable section
namespace Cert.Kernel4Ideal.Attn
open Idealize.ShloMosaic Idealize.SL.Sem

/-- The body tables agree. -/
theorem defs₀_eq : (@Kernel4.defs₀ Bits _ Cert.Kernel4.Gen.facts) = @Kernel4Ideal.defs₀ Bits _ Cert.Kernel4Ideal.Gen.facts := by
  funext k
  cases k
  · funext l a
    match l, a with
    | ⟨0, _⟩, a => rfl
    | ⟨n + 1, h⟩, _ => exact absurd h (Nat.not_lt.2 (Nat.le_add_left _ _))
  all_goals rfl

/-- So do the label tables. -/
theorem defs_eq : (@Kernel4.defs Bits _ Cert.Kernel4.Gen.facts) = @Kernel4Ideal.defs Bits _ Cert.Kernel4Ideal.Gen.facts  :=
  congrArg (Pipeline.defs (Kernel4.pcfgs (F := Bits))) defs₀_eq
set_option maxHeartbeats 2000000 in
/-- `Kernel4`'s frame. -/
theorem quiescent : Cert.quiescent_Kernel4 (hKernel4 := Cert.Kernel4.Gen.facts) := fun m ρ _ => by
  have h := Cert.Kernel4Ideal.Attn.frame (F := Bits) m ρ
  have e := defs_eq
  generalize Kernel4.defs (F := Bits) = D at e ⊢
  subst e
  exact h
end Cert.Kernel4Ideal.Attn
end
-- ==== Proof.Mla.Read.lean ====
/- What the kernel stores for one tile of queries, read at an index: a weighted mean of the values. -/
module
public import proofs.«01_k».proof.Proof.Mla.Run
public import proofs.«01_k».proof.Proof.Softmax
public import Idealize.ShloMosaic.Lib.Claim
@[expose] public section
set_option maxRecDepth 16384
noncomputable section
namespace Cert.Kernel4Ideal.Attn
open Cert.Kernel4Ideal Cert.Kernel4Ideal.Gen
open Idealize.ShloMosaic Idealize.ShloMosaic.TcCoe Idealize.SL.Sem

private theorem lane_lt (e : Fin 128) (h : (e : ℕ) < 64) : IntOp.cmpi .slt (BitVec.ofNat 32 ↑e) 64#32 = 1#1 := by
  revert e; decide
private theorem lane_ge (e : Fin 128) (h : ¬ (e : ℕ) < 64) : IntOp.cmpi .slt (BitVec.ofNat 32 ↑e) 64#32 = 0#1 := by
  revert e; decide

/-- A latent tile: the first 64 lanes are the mean of the low values under the first head's scores, the others that of
    the high values under the second head's. -/
theorem latentRows_at (xq : Vec Ideal S1x1024x256 .bf16) (xk : Vec Ideal S1x4352x256 .bf16) (xl xh : Vec Ideal S1x4352x128 .bf16) (r : Fin 1024) (e : Fin 128) :
    latentRows xq xk xl xh (ix3 0 r e) =
      if (e : ℕ) < 64 then
        Softmax.mix (fun l : Fin 4352 => ∑ x : Fin 128, xq (ix3 0 r ⟨x, by omega⟩) * xk (ix3 0 l ⟨x, by omega⟩))
          (fun l => xl (ix3 0 l e)) (fun l => xl (ix3 0 l 64))
      else
        Softmax.mix (fun l : Fin 4352 => ∑ x : Fin 128, xq (ix3 0 r ⟨128 + x, by omega⟩) * xk (ix3 0 l ⟨128 + x, by omega⟩))
          (fun l => xh (ix3 0 l e)) (fun l => xh (ix3 0 l 0)) := by
  pointwise [latentRows, k0_pay1, k0_pay4, k0_pay5]
  by_cases h : (e : ℕ) < 64
  · rw [if_pos h, lane_lt e h]; rfl
  · rw [if_neg h, lane_ge e h]; rfl

/-- A context tile: the same over the first 256 keys. -/
theorem contextRows_at (xq : Vec Ideal S1x1024x256 .bf16) (xk : Vec Ideal S1x4352x256 .bf16) (xl xh : Vec Ideal S1x4352x128 .bf16) (r : Fin 256) (e : Fin 128) :
    contextRows xq xk xl xh (ix3 0 r e) =
      if (e : ℕ) < 64 then
        Softmax.mix (fun l : Fin 256 => ∑ x : Fin 128, xq (ix3 0 ⟨r, by omega⟩ ⟨x, by omega⟩) * xk (ix3 0 ⟨l, by omega⟩ ⟨x, by omega⟩))
          (fun l => xl (ix3 0 ⟨l, by omega⟩ e)) (fun l => xl (ix3 0 ⟨l, by omega⟩ 64))
      else
        Softmax.mix (fun l : Fin 256 => ∑ x : Fin 128, xq (ix3 0 ⟨r, by omega⟩ ⟨128 + x, by omega⟩) * xk (ix3 0 ⟨l, by omega⟩ ⟨128 + x, by omega⟩))
          (fun l => xh (ix3 0 ⟨l, by omega⟩ e)) (fun l => xh (ix3 0 ⟨l, by omega⟩ 0)) := by
  pointwise [contextRows, k0_pay2, k0_pay6, k0_pay7]
  by_cases h : (e : ℕ) < 64
  · rw [if_pos h, lane_lt e h]; rfl
  · rw [if_neg h, lane_ge e h]; rfl

end Cert.Kernel4Ideal.Attn
end
-- ==== Proof.Mla.Blocks.lean ====
/- The blocks of the call's arrays at a grid point, read at an index. -/
module

public import proofs.«01_k».proof.Proof.Mla.Run

@[expose] public section

set_option maxRecDepth 16384

noncomputable section

namespace Cert.Kernel4Ideal.Attn

open Cert.Kernel4Ideal Cert.Kernel4Ideal.Gen
open Idealize.ShloMosaic Idealize.ShloMosaic.TcCoe Idealize.SL.Sem

/-! ## The blocks -/

section Blocks
variable (m : (ℓ : Loc nD τ sig) → Buf (Elt Ideal) ℓ)

theorem idx : ∀ t : Fin cfg0.N, win0_0.index t = ![(t : ℕ) / 20, t % 5, t / 5 % 4]
    ∧ win0_1.index t = ![(t : ℕ) / 20, 0, t / 5 % 4] ∧ win0_2.index t = ![(t : ℕ) / 20, 0, t / 5 % 4]
    ∧ win0_3.index t = ![(t : ℕ) / 20, 0, t / 5 % 4] ∧ win0_4.index t = ![(t : ℕ) / 20, t % 5, t / 5 % 4]
    ∧ win0_4.xsize (grid0.coords t) = ![1, if t.val % 5 = 4 then 256 else 1024, 128] :=
  (by decide +kernel : ∀ t : Fin grid0.N, _)

/-- The batch of a grid point, -/
def batch (t : Fin cfg0.N) : Fin 8 := ⟨(t : ℕ) / 20, by have : (t:ℕ) < 160 := t.isLt; omega⟩
/-- its pair of heads. -/
def pair (t : Fin cfg0.N) : Fin 4 := ⟨(t : ℕ) / 5 % 4, by omega⟩

/-- The key block: all positions of a pair of heads. -/
theorem iblk1 (c : Dev nD) (t : Fin cfg0.N) (l : Fin 4352) (x : Fin 256) :
    iblk m c 1 t (ix3 0 l x) = V m c main_v28 (ix3 (batch t) l ⟨256 * (t / 5 % 4) + x, by omega⟩) := by
  have he : (win0_1.blk t).view.emb (ix3 (n0 := 1) (n1 := 4352) (n2 := 256) 0 l x)
      = ix3 (n0 := 8) (n1 := 4352) (n2 := 1024) (batch t) l ⟨256 * (t / 5 % 4) + x, by omega⟩ := by
    have hi := (idx t).2.1
    funext a
    fin_cases a
    · refine Fin.ext ?_
      show win0_1.index t 0 * 1 + 1 * 0 = (t : ℕ) / 20
      rw [hi]; show (t : ℕ) / 20 * 1 + 1 * 0 = _; omega
    · refine Fin.ext ?_
      show win0_1.index t 1 * 4352 + 1 * (l : ℕ) = (l : ℕ)
      rw [hi]; show 0 * 4352 + 1 * (l : ℕ) = _; omega
    · refine Fin.ext ?_
      show win0_1.index t 2 * 256 + 1 * (x : ℕ) = 256 * ((t : ℕ) / 5 % 4) + (x : ℕ)
      rw [hi]; show (t : ℕ) / 5 % 4 * 256 + 1 * (x : ℕ) = _; omega
  unfold iblk
  rw [View.read_apply]
  generalize V m c = A
  refine (cast_eq _ _).trans ?_
  exact congrArg (A main_v28) he

/-- The first value block, likewise. -/
theorem iblk2 (c : Dev nD) (t : Fin cfg0.N) (l : Fin 4352) (x : Fin 128) :
    iblk m c 2 t (ix3 0 l x) = V m c main_v21 (ix3 (batch t) l ⟨128 * (t / 5 % 4) + x, by omega⟩) := by
  have he : (win0_2.blk t).view.emb (ix3 (n0 := 1) (n1 := 4352) (n2 := 128) 0 l x)
      = ix3 (n0 := 8) (n1 := 4352) (n2 := 512) (batch t) l ⟨128 * (t / 5 % 4) + x, by omega⟩ := by
    have hi := (idx t).2.2.1
    funext a
    fin_cases a
    · refine Fin.ext ?_
      show win0_2.index t 0 * 1 + 1 * 0 = (t : ℕ) / 20
      rw [hi]; show (t : ℕ) / 20 * 1 + 1 * 0 = _; omega
    · refine Fin.ext ?_
      show win0_2.index t 1 * 4352 + 1 * (l : ℕ) = (l : ℕ)
      rw [hi]; show 0 * 4352 + 1 * (l : ℕ) = _; omega
    · refine Fin.ext ?_
      show win0_2.index t 2 * 128 + 1 * (x : ℕ) = 128 * ((t : ℕ) / 5 % 4) + (x : ℕ)
      rw [hi]; show (t : ℕ) / 5 % 4 * 128 + 1 * (x : ℕ) = _; omega
  unfold iblk
  rw [View.read_apply]
  generalize V m c = A
  refine (cast_eq _ _).trans ?_
  exact congrArg (A main_v21) he

/-- The second value block, likewise. -/
theorem iblk3 (c : Dev nD) (t : Fin cfg0.N) (l : Fin 4352) (x : Fin 128) :
    iblk m c 3 t (ix3 0 l x) = V m c main_v22 (ix3 (batch t) l ⟨128 * (t / 5 % 4) + x, by omega⟩) := by
  have he : (win0_3.blk t).view.emb (ix3 (n0 := 1) (n1 := 4352) (n2 := 128) 0 l x)
      = ix3 (n0 := 8) (n1 := 4352) (n2 := 512) (batch t) l ⟨128 * (t / 5 % 4) + x, by omega⟩ := by
    have hi := (idx t).2.2.2.1
    funext a
    fin_cases a
    · refine Fin.ext ?_
      show win0_3.index t 0 * 1 + 1 * 0 = (t : ℕ) / 20
      rw [hi]; show (t : ℕ) / 20 * 1 + 1 * 0 = _; omega
    · refine Fin.ext ?_
      show win0_3.index t 1 * 4352 + 1 * (l : ℕ) = (l : ℕ)
      rw [hi]; show 0 * 4352 + 1 * (l : ℕ) = _; omega
    · refine Fin.ext ?_
      show win0_3.index t 2 * 128 + 1 * (x : ℕ) = 128 * ((t : ℕ) / 5 % 4) + (x : ℕ)
      rw [hi]; show (t : ℕ) / 5 % 4 * 128 + 1 * (x : ℕ) = _; omega
  unfold iblk
  rw [View.read_apply]
  generalize V m c = A
  refine (cast_eq _ _).trans ?_
  exact congrArg (A main_v22) he

/-- The query rows of a tile that lie in the array. -/
theorem qblk_at (c : Dev nD) (t : Fin cfg0.N) (r : Fin 1024) (x : Fin 256) (h : (r : ℕ) < if t.val % 5 = 4 then 256 else 1024) :
    qblk m c t zq (ix3 0 r x) = V m c main_v25 (ix3 (batch t)
      ⟨1024 * (t % 5) + r, by split at h <;> omega⟩ ⟨256 * (t / 5 % 4) + x, by omega⟩) := by
  have hm : win0_0.moved (grid0.coords t) (ix3 0 r x) = true := by
    rw [Pipeline.Window.moved_iff, qsize t]
    intro a
    fin_cases a
    · exact Nat.one_pos
    · exact h
    · exact x.isLt
  unfold qblk Pipeline.Window.fill
  rw [dif_pos hm]
  blk_simp [iblk]
  blk_ext [idx t, batch]

/-- The context tile's result holds, in its first 256 rows, the rows computed. -/
theorem stored_context_at (c : Dev nD) (t : Fin cfg0.N) (h : t.val % 5 = 4) (xq : Vec Ideal S1x1024x256 .bf16)
    (xk : Vec Ideal S1x4352x256 .bf16) (xl xh : Vec Ideal S1x4352x128 .bf16) (r : Fin 256) (e : Fin 128) :
    stored c t xq xk xl xh (ix3 0 ⟨r, by omega⟩ e) = contextRows xq xk xl xh (ix3 0 r e) := by
  rw [stored_context c t h, View.canon_cons_of_not_mem]
  · have key := View.canon_cons_emb (L := []) (Rect.unit (s := S1x1024x128) ![0, 0, 0] ![1, 256, 128] inb_S1x1024x128_S1x256x128_0_0_0) (contextRows xq xk xl xh) (ix3 0 r e)
    refine Eq.trans (congrArg _ ?_) key
    idx_ext
  · rw [Rect.mem_set_unit]
    intro g
    have := (g 1).1
    have hr : (256 : ℕ) ≤ (r : ℕ) := this
    omega
end Blocks
end Cert.Kernel4Ideal.Attn
end
-- ==== Proof.Mla.Prep.lean ====
/- What the host lines hand the attention kernel: the scaled queries and the keys, each head's 96 lanes with 32 empty
   ones after them; the values of two heads side by side with a column of ones in the half that is not used. -/
module
public import proofs.«01_k».proof.Proof.Mla.Run
public import proofs.«01_k».proof.Proof.Softmax
public import Idealize.ShloMosaic.Lib.Claim
@[expose] public section
set_option maxRecDepth 16384
noncomputable section
namespace Cert.Kernel4Ideal.Attn
open Cert.Kernel4Ideal Cert.Kernel4Ideal.Gen
open Idealize.ShloMosaic Idealize.ShloMosaic.TcCoe Idealize.SL.Sem

/-- The queries times the scale over log 2. -/
def scaled (q : FVec Ideal S8x4352x8x96 .f32) : FVec Ideal S8x4352x8x96 .f32 :=
  mulf q (broadcastInDim S8x4352x8x96 ![] bcast_S_S8x4352x8x96
    (Host.divf (constant (F := Ideal) S_ .f32 0x3DD105EC#32) (Host.log (constant (F := Ideal) S_ .f32 0x40000000#32))))

/-- Each head's 96 lanes with 32 empty ones after them. -/
def padded (a : FVec Ideal S8x4352x8x96 .f32) : FVec Ideal S8x4352x8x128 .f32 :=
  pad S8x4352x8x128 ![0, 0, 0, 0] ![0, 0, 0, 32] ![0, 0, 0, 0] a (sitofp .f32 (constantI S_ 32 0#32))
    pads_S8x4352x8x96_S8x4352x8x128_000_000_000_0320 h_S_

/-- Heads of 96 lanes as rows of 1024, 128 for each head. -/
def wide (a : FVec Ideal S8x4352x8x96 .f32) : FVec Ideal S8x4352x1024 .bf16 :=
  shapeCast S8x4352x1024 (truncf .bf16 (padded a) bitsLt_bf16_f32) shapeCasts_S8x4352x8x128_S8x4352x1024

/-- The latent rows first, the context rows after them. -/
def latentFirst (a : FVec Ideal S8x4096x1024 .bf16) (b : FVec Ideal S8x256x1024 .bf16) : FVec Ideal S8x4352x1024 .bf16 :=
  concatenate S8x4352x1024 1 [⟨S8x4096x1024, a⟩, ⟨S8x256x1024, b⟩] concatenates_S8x4096x1024_S8x256x1024_S8x4352x1024_d1

/-- The array of queries the kernel is called on. -/
def queries (q : FVec Ideal S8x4352x8x96 .f32) : FVec Ideal S8x4352x1024 .bf16 :=
  latentFirst (extractStridedSlice S8x4096x1024 ![0, 256, 0] (wide (scaled q)) slices_S8x4352x1024_S8x4096x1024_0_256_0)
    (extractStridedSlice S8x256x1024 ![0, 0, 0] (wide (scaled q)) slices_S8x4352x1024_S8x256x1024_0_0_0)

/-- One at the lanes whose number is `n`, nought at the others. -/
def oneAt (n : BitVec 32) : FVec Ideal S8x4352x4x128 .f32 :=
  select (cmpi .eq (iotaInDim S8x4352x4x128 32 3) (broadcastInDim S8x4352x4x128 ![] bcast_S_S8x4352x4x128 (constantI S_ 32 n)))
    (broadcastInDim S8x4352x4x128 ![] bcast_S_S8x4352x4x128 (constant (F := Ideal) S_ .f32 0x3F800000#32))
    (broadcastInDim S8x4352x4x128 ![] bcast_S_S8x4352x4x128 (constant (F := Ideal) S_ .f32 0x00000000#32))

/-- Which lanes of the values are the first 64. -/
def firstLanes : IVec S8x4352x4x128 1 :=
  cmpi .slt (iotaInDim S8x4352x4x128 32 3) (broadcastInDim S8x4352x4x128 ![] bcast_S_S8x4352x4x128 (constantI S_ 32 64#32))

/-- The values of the even heads, a one after each. -/
def valuesLow (v : FVec Ideal S8x4352x8x64 .f32) : FVec Ideal S8x4352x512 .bf16 :=
  shapeCast S8x4352x512 (truncf .bf16 (select firstLanes (shapeCast S8x4352x4x128 v shapeCasts_S8x4352x8x64_S8x4352x4x128)
    (oneAt 64#32)) bitsLt_bf16_f32) shapeCasts_S8x4352x4x128_S8x4352x512

/-- A one before each of the odd heads. -/
def valuesHigh (v : FVec Ideal S8x4352x8x64 .f32) : FVec Ideal S8x4352x512 .bf16 :=
  shapeCast S8x4352x512 (truncf .bf16 (select firstLanes (oneAt 0#32)
    (shapeCast S8x4352x4x128 v shapeCasts_S8x4352x8x64_S8x4352x4x128)) bitsLt_bf16_f32) shapeCasts_S8x4352x4x128_S8x4352x512

section Entry
variable (m : (ℓ : Loc nD τ sig) → Buf (Elt Ideal) ℓ)

theorem V_valuesLow (c : Dev nD) : V m c main_v21 = valuesLow (m ((c : Thread nD τ).loc main_arg2)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

theorem V_valuesHigh (c : Dev nD) : V m c main_v22 = valuesHigh (m ((c : Thread nD τ).loc main_arg2)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

theorem V_keys (c : Dev nD) : V m c main_v28 = wide (m ((c : Thread nD τ).loc main_arg1)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  unfold wide
  refine congrArg (fun p : FVec Ideal S8x4352x8x128 .bf16 => shapeCast S8x4352x1024 p shapeCasts_S8x4352x8x128_S8x4352x1024) ?_
  refine congrArg (fun p : FVec Ideal S8x4352x8x128 .f32 => truncf .bf16 p bitsLt_bf16_f32) ?_
  rfl

theorem V_queries (c : Dev nD) : V m c main_v25 = queries (m ((c : Thread nD τ).loc main_arg0)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  unfold queries wide
  refine congrArg₂ latentFirst ?_ ?_
  · after_results_simp
    refine congrArg (fun p : FVec Ideal S8x4352x1024 .bf16 => extractStridedSlice S8x4096x1024 ![0, 256, 0] p slices_S8x4352x1024_S8x4096x1024_0_256_0) ?_
    refine congrArg (fun p : FVec Ideal S8x4352x8x128 .bf16 => shapeCast S8x4352x1024 p shapeCasts_S8x4352x8x128_S8x4352x1024) ?_
    refine congrArg (fun p : FVec Ideal S8x4352x8x128 .f32 => truncf .bf16 p bitsLt_bf16_f32) ?_
    rfl
  · after_results_simp
    refine congrArg (fun p : FVec Ideal S8x4352x1024 .bf16 => extractStridedSlice S8x256x1024 ![0, 0, 0] p slices_S8x4352x1024_S8x256x1024_0_0_0) ?_
    refine congrArg (fun p : FVec Ideal S8x4352x8x128 .bf16 => shapeCast S8x4352x1024 p shapeCasts_S8x4352x8x128_S8x4352x1024) ?_
    refine congrArg (fun p : FVec Ideal S8x4352x8x128 .f32 => truncf .bf16 p bitsLt_bf16_f32) ?_
    rfl
end Entry

/-! Read at an index. -/

theorem lane_lt (e : Fin 128) (h : (e : ℕ) < 64) : IntOp.cmpi .slt (BitVec.ofNat 32 ↑e) 64#32 = 1#1 := by
  revert e; decide
theorem lane_ge (e : Fin 128) (h : ¬ (e : ℕ) < 64) : IntOp.cmpi .slt (BitVec.ofNat 32 ↑e) 64#32 = 0#1 := by
  revert e; decide

theorem padded_at (a : FVec Ideal S8x4352x8x96 .f32) (b : Fin 8) (n : Fin 4352) (g : Fin 8) (x : Fin 128) :
    padded a (ix4 b n g x) = if h : (x : ℕ) < 96 then a (ix4 b n g ⟨x, h⟩) else 0 := by
  have z : FloatOps.sitofp (F := Ideal) FTy.f32 0#32 = (0 : EReal) := by
    show (((0#32 : BitVec 32).toInt : ℝ) : EReal) = 0
    simp
  pointwise [padded]
  rw [z]

/-- Of a row's 1024 lanes the head `g` has 128: its own 96, then nought. -/
theorem wide_at (a : FVec Ideal S8x4352x8x96 .f32) (b : Fin 8) (n : Fin 4352) (g : Fin 8) (x : Fin 128) :
    wide a (ix3 b n ⟨128 * g + x, by omega⟩) = if h : (x : ℕ) < 96 then a (ix4 b n g ⟨x, h⟩) else 0 := by
  generalize hp : padded a = p
  have e : wide a (ix3 b n ⟨128 * g + x, by omega⟩) = p (ix4 b n g x) := by
    unfold wide
    rw [hp]
    pointwise
  rw [e, ← hp, padded_at]

theorem scaled_at (q : FVec Ideal S8x4352x8x96 .f32) (b : Fin 8) (n : Fin 4352) (g : Fin 8) (x : Fin 96) :
    scaled q (ix4 b n g x) = q (ix4 b n g x) * Ideal.div (Ideal.ofBits .f32 0x3DD105EC#32) (Ideal.log (Ideal.ofBits .f32 0x40000000#32)) := by
  pointwise [scaled]

/-- The rows of the query array are the latent rows, then the context rows. -/
theorem queries_at (q : FVec Ideal S8x4352x8x96 .f32) (b : Fin 8) (n : Fin 4352) (x : Fin 1024) :
    queries q (ix3 b n x) = if h : (n : ℕ) < 4096 then wide (scaled q) (ix3 b ⟨256 + n, by omega⟩ x)
      else wide (scaled q) (ix3 b ⟨n - 4096, by omega⟩ x) := by
  generalize hw : wide (scaled q) = w
  unfold queries
  rw [hw]
  pointwise [latentFirst]

/-- Of a pair's 128 lanes of the low values the first 64 are the even head's, -/
theorem valuesLow_at (v : FVec Ideal S8x4352x8x64 .f32) (b : Fin 8) (n : Fin 4352) (j : Fin 4) (x : Fin 128) (h : (x : ℕ) < 64) :
    valuesLow v (ix3 b n ⟨128 * j + x, by omega⟩) = v (ix4 b n ⟨2 * j, by omega⟩ ⟨x, h⟩) := by
  have e : valuesLow v (ix3 b n ⟨128 * j + x, by omega⟩) = Scalar.select (IntOp.cmpi .slt (BitVec.ofNat 32 ↑x) 64#32)
      (v (ix4 b n ⟨j * 2 + x / 64, by omega⟩ ⟨x % 64, by omega⟩)) (Scalar.select (IntOp.cmpi .eq (BitVec.ofNat 32 ↑x) 64#32) (1 : EReal) 0) := by
    pointwise [valuesLow, firstLanes, oneAt]
  rw [e, lane_lt x h]
  show v _ = v _
  congr 2 <;> exact Fin.ext (by simp only; omega)

/-- and the next lane is one. -/
theorem valuesLow_one (v : FVec Ideal S8x4352x8x64 .f32) (b : Fin 8) (n : Fin 4352) (j : Fin 4) :
    valuesLow v (ix3 b n ⟨128 * j + (64 : Fin 128), by omega⟩) = 1 := by
  have e : ∀ x : Fin 128, valuesLow v (ix3 b n ⟨128 * j + x, by omega⟩) = Scalar.select (IntOp.cmpi .slt (BitVec.ofNat 32 ↑x) 64#32)
      (v (ix4 b n ⟨j * 2 + x / 64, by omega⟩ ⟨x % 64, by omega⟩)) (Scalar.select (IntOp.cmpi .eq (BitVec.ofNat 32 ↑x) 64#32) (1 : EReal) 0) := by
    intro x
    pointwise [valuesLow, firstLanes, oneAt]
  exact e 64

/-- Of the high values the last 64 lanes are the odd head's, -/
theorem valuesHigh_at (v : FVec Ideal S8x4352x8x64 .f32) (b : Fin 8) (n : Fin 4352) (j : Fin 4) (x : Fin 128) (h : ¬ (x : ℕ) < 64) :
    valuesHigh v (ix3 b n ⟨128 * j + x, by omega⟩) = v (ix4 b n ⟨2 * j + 1, by omega⟩ ⟨x - 64, by omega⟩) := by
  have e : valuesHigh v (ix3 b n ⟨128 * j + x, by omega⟩) = Scalar.select (IntOp.cmpi .slt (BitVec.ofNat 32 ↑x) 64#32)
      (Scalar.select (IntOp.cmpi .eq (BitVec.ofNat 32 ↑x) 0#32) (1 : EReal) 0) (v (ix4 b n ⟨j * 2 + x / 64, by omega⟩ ⟨x % 64, by omega⟩)) := by
    pointwise [valuesHigh, firstLanes, oneAt]
  rw [e, lane_ge x h]
  show v _ = v _
  congr 2 <;> exact Fin.ext (by simp only; omega)

/-- and the first lane is one. -/
theorem valuesHigh_one (v : FVec Ideal S8x4352x8x64 .f32) (b : Fin 8) (n : Fin 4352) (j : Fin 4) :
    valuesHigh v (ix3 b n ⟨128 * j + (0 : Fin 128), by omega⟩) = 1 := by
  have e : ∀ x : Fin 128, valuesHigh v (ix3 b n ⟨128 * j + x, by omega⟩) = Scalar.select (IntOp.cmpi .slt (BitVec.ofNat 32 ↑x) 64#32)
      (Scalar.select (IntOp.cmpi .eq (BitVec.ofNat 32 ↑x) 0#32) (1 : EReal) 0) (v (ix4 b n ⟨j * 2 + x / 64, by omega⟩ ⟨x % 64, by omega⟩)) := by
    intro x
    pointwise [valuesHigh, firstLanes, oneAt]
  exact e 0
end Cert.Kernel4Ideal.Attn
end
-- ==== Proof.Mla.Score.lean ====
/- The kernel's scores are the reference's, in units of 1/log 2: of the 128 lanes of a query row the last 32 are nought,
   the others hold the head, scaled. -/
module

public import proofs.«01_k».proof.Proof.Mla.Prep

@[expose] public section

noncomputable section

namespace Cert.Kernel4Ideal.Attn

open Cert.Kernel4Ideal Cert.Kernel4Ideal.Gen
open Idealize.ShloMosaic

/-- The scale both programs multiply by, the float nearest 1/√96, as a real number. -/
def scale : ℝ := 13698540 / 134217728

theorem scale_word : Ideal.ofBits .f32 0x3DD105EC#32 = ((scale : ℝ) : EReal) := by
  unfold scale
  simp [Ideal.ofBits, Ideal.ieee, -EReal.coe_mul]; norm_num

/-- The kernel's: that over log 2. -/
theorem scale_eq : Ideal.div (Ideal.ofBits .f32 0x3DD105EC#32) (Ideal.log (Ideal.ofBits .f32 0x40000000#32))
    = ((scale * (1 / Real.log 2) : ℝ) : EReal) := by
  have hlog : 0 < Real.log 2 := Real.log_pos (by norm_num)
  rw [scale_word, Softmax.two, Ideal.log_coe, if_neg (by norm_num), Ideal.div_coe hlog.ne', ← EReal.coe_mul]

/-- A sum over 128 lanes of which only the first 96 count. -/
theorem filled_sum (A B : Fin 96 → EReal) :
    (∑ x : Fin 128, (if h : (x : ℕ) < 96 then A ⟨x, h⟩ else 0) * (if h : (x : ℕ) < 96 then B ⟨x, h⟩ else 0))
      = ∑ x : Fin 96, A x * B x := by
  rw [show (∑ x : Fin 128, (if h : (x : ℕ) < 96 then A ⟨x, h⟩ else 0) * (if h : (x : ℕ) < 96 then B ⟨x, h⟩ else 0))
      = ∑ x : Fin (96 + 32), (if h : (x : ℕ) < 96 then A ⟨x, h⟩ else 0) * (if h : (x : ℕ) < 96 then B ⟨x, h⟩ else 0) from rfl,
    Fin.sum_univ_add]
  have e : ∀ x : Fin 32, ((if h : ((Fin.natAdd 96 x : Fin (96 + 32)) : ℕ) < 96 then A ⟨_, h⟩ else 0)
      * (if h : ((Fin.natAdd 96 x : Fin (96 + 32)) : ℕ) < 96 then B ⟨_, h⟩ else 0)) = 0 := fun x => by
    rw [dif_neg (by simp), zero_mul]
  have e' : ∀ x : Fin 96, ((if h : ((Fin.castAdd 32 x : Fin (96 + 32)) : ℕ) < 96 then A ⟨_, h⟩ else 0)
      * (if h : ((Fin.castAdd 32 x : Fin (96 + 32)) : ℕ) < 96 then B ⟨_, h⟩ else 0)) = A x * B x := fun x => by
    rw [dif_pos (by simp), dif_pos (by simp)]; rfl
  simp only [e, e', Finset.sum_const_zero, add_zero]

/-- The score of query row `n` of the head `g` at key `l`, as a real number. -/
def score (Q K : S8x4352x8x96.Idx → ℝ) (b : Fin 8) (n : Fin 4352) (g : Fin 8) (l : Fin 4352) : ℝ :=
  (∑ x : Fin 96, K (ix4 b l g x) * Q (ix4 b n g x)) * scale

variable (q k : FVec Ideal S8x4352x8x96 .f32)
variable (Q K : S8x4352x8x96.Idx → ℝ) (hq : ∀ i, q i = (Q i : EReal)) (hk : ∀ i, k i = (K i : EReal))

include hq hk in
/-- The reference's score. -/
theorem ref_score (b : Fin 8) (n : Fin 4352) (g : Fin 8) (l : Fin 4352) :
    (∑ x : Fin 96, k (ix4 b l g x) * q (ix4 b n g x)) * Ideal.ofBits .f32 0x3DD105EC#32 = (score Q K b n g l : EReal) := by
  simp only [hq, hk]
  rw [Softmax.dot_coe, scale_word, ← EReal.coe_mul]; rfl

include hq hk in
/-- The kernel's score. -/
theorem kernel_score (b : Fin 8) (n : Fin 4352) (g : Fin 8) (l : Fin 4352) :
    (∑ x : Fin 128, wide (scaled q) (ix3 b n ⟨128 * g + x, by omega⟩) * wide k (ix3 b l ⟨128 * g + x, by omega⟩))
      = ((score Q K b n g l * (1 / Real.log 2) : ℝ) : EReal) := by
  simp only [wide_at]
  rw [filled_sum (fun x => scaled q (ix4 b n g x)) (fun x => k (ix4 b l g x))]
  simp only [scaled_at, hq, hk, scale_eq, ← EReal.coe_mul]
  rw [Softmax.sum_coe]
  congr 1
  unfold score
  rw [Finset.sum_mul, Finset.sum_mul]
  exact Finset.sum_congr rfl fun x _ => by ring

end Cert.Kernel4Ideal.Attn

end
-- ==== Proof.Mla.Ref.lean ====
/-
  The latent-attention reference read at an index: its two halves (latent queries over every key, context queries over the
  context keys) named stage by stage, and each result element as one softmax row (`ref_at`).
-/
module

public import proofs.«01_k».proof.Proof.Gen.Reference4Ideal.Run
public import proofs.«01_k».proof.Proof.Softmax
public import Idealize.ShloMosaic.Lib.Pointwise

@[expose] public section

set_option maxRecDepth 16384

noncomputable section

namespace Cert.Reference4Ideal.Attn

open Cert.Reference4Ideal Cert.Reference4Ideal.Gen Cert.Reference4Ideal.Value
open Idealize.ShloMosaic Idealize.ShloMosaic.TcCoe Idealize.SL.Sem

section
variable {F : FTy → Type} [FloatOps F]

/-! ## Latent queries -/

/-- The scaled scores, query against key. -/
def latScores (q : FVec F S8x4096x8x1x96 .f32) (k : FVec F S8x4352x8x96 .f32) : FVec F S8x8x1x4096x4352 .f32 :=
  mulf (transpose S8x8x1x4096x4352 [0, 1, 4, 3, 2]
      (Host.dotGeneral dot_S8x4352x8x96_S8x4096x8x1x96_S8x8x4352x4096x1_3_4_1_13_02_02 none k q)
      transposes_S8x8x4352x4096x1_S8x8x1x4096x4352_0_1_4_3_2)
    (broadcastInDim S8x8x1x4096x4352 ![] bcast_S_S8x8x1x4096x4352 (constant S_ .f32 0x3DD105EC#32))

/-- The greatest score of each row. -/
def latPeaks (s : FVec F S8x8x1x4096x4352 .f32) : FVec F S8x8x1x4096 .f32 :=
  maximumf (broadcastInDim S8x8x1x4096 ![] bcast_S_S8x8x1x4096 (constant S_ .f32 0xFF800000#32))
    (Host.reduce FloatOps.maximumf s (constant S_ .f32 0xFF800000#32) reducesTo_S8x8x1x4096x4352_S8x8x1x4096_d4 h_S_)

/-- The exponentials of the scores less `p`. -/
def latExps (s : FVec F S8x8x1x4096x4352 .f32) (p : FVec F S8x8x1x4096 .f32) : FVec F S8x8x1x4096x4352 .f32 :=
  Host.exp (subf s (broadcastInDim S8x8x1x4096x4352 ![0, 1, 2, 3, 4] bcast_S8x8x1x4096x1_S8x8x1x4096x4352_0_1_2_3_4
    (broadcastInDim S8x8x1x4096x1 ![0, 1, 2, 3] bcast_S8x8x1x4096_S8x8x1x4096x1_0_1_2_3 p)))

/-- The exponentials over their row's sum. -/
def latProbs (x : FVec F S8x8x1x4096x4352 .f32) : FVec F S8x8x1x4096x4352 .f32 :=
  Host.divf x (broadcastInDim S8x8x1x4096x4352 ![0, 1, 2, 3, 4] bcast_S8x8x1x4096x1_S8x8x1x4096x4352_0_1_2_3_4
    (broadcastInDim S8x8x1x4096x1 ![0, 1, 2, 3] bcast_S8x8x1x4096_S8x8x1x4096x1_0_1_2_3
      (Host.reduceAdd x (constant S_ .f32 0x00000000#32) reducesTo_S8x8x1x4096x4352_S8x8x1x4096_d4 h_S_)))

/-- The values weighted and summed. -/
def latOut (p : FVec F S8x8x1x4096x4352 .f32) (v : FVec F S8x4352x8x64 .f32) : FVec F S8x4096x1x8x64 .f32 :=
  transpose S8x4096x1x8x64 [0, 4, 3, 1, 2]
    (Host.dotGeneral dot_S8x4352x8x64_S8x8x1x4096x4352_S8x8x64x1x4096_1_4_3_23_02_01 none v p)
    transposes_S8x8x64x1x4096_S8x4096x1x8x64_0_4_3_1_2

/-! ## Context queries -/

/-- The scaled scores, query against key. -/
def ctxScores (q : FVec F S8x256x8x1x96 .f32) (k : FVec F S8x256x8x96 .f32) : FVec F S8x8x1x256x256 .f32 :=
  mulf (transpose S8x8x1x256x256 [0, 1, 4, 3, 2]
      (Host.dotGeneral dot_S8x256x8x96_S8x256x8x1x96_S8x8x256x256x1_3_4_1_13_02_02 none k q)
      transposes_S8x8x256x256x1_S8x8x1x256x256_0_1_4_3_2)
    (broadcastInDim S8x8x1x256x256 ![] bcast_S_S8x8x1x256x256 (constant S_ .f32 0x3DD105EC#32))

/-- The greatest score of each row. -/
def ctxPeaks (s : FVec F S8x8x1x256x256 .f32) : FVec F S8x8x1x256 .f32 :=
  maximumf (broadcastInDim S8x8x1x256 ![] bcast_S_S8x8x1x256 (constant S_ .f32 0xFF800000#32))
    (Host.reduce FloatOps.maximumf s (constant S_ .f32 0xFF800000#32) reducesTo_S8x8x1x256x256_S8x8x1x256_d4 h_S_)

/-- The exponentials of the scores less `p`. -/
def ctxExps (s : FVec F S8x8x1x256x256 .f32) (p : FVec F S8x8x1x256 .f32) : FVec F S8x8x1x256x256 .f32 :=
  Host.exp (subf s (broadcastInDim S8x8x1x256x256 ![0, 1, 2, 3, 4] bcast_S8x8x1x256x1_S8x8x1x256x256_0_1_2_3_4
    (broadcastInDim S8x8x1x256x1 ![0, 1, 2, 3] bcast_S8x8x1x256_S8x8x1x256x1_0_1_2_3 p)))

/-- The exponentials over their row's sum. -/
def ctxProbs (x : FVec F S8x8x1x256x256 .f32) : FVec F S8x8x1x256x256 .f32 :=
  Host.divf x (broadcastInDim S8x8x1x256x256 ![0, 1, 2, 3, 4] bcast_S8x8x1x256x1_S8x8x1x256x256_0_1_2_3_4
    (broadcastInDim S8x8x1x256x1 ![0, 1, 2, 3] bcast_S8x8x1x256_S8x8x1x256x1_0_1_2_3
      (Host.reduceAdd x (constant S_ .f32 0x00000000#32) reducesTo_S8x8x1x256x256_S8x8x1x256_d4 h_S_)))

/-- The values weighted and summed. -/
def ctxOut (p : FVec F S8x8x1x256x256 .f32) (v : FVec F S8x256x8x64 .f32) : FVec F S8x256x1x8x64 .f32 :=
  transpose S8x256x1x8x64 [0, 4, 3, 1, 2]
    (Host.dotGeneral dot_S8x256x8x64_S8x8x1x256x256_S8x8x64x1x256_1_4_3_23_02_01 none v p)
    transposes_S8x8x64x1x256_S8x256x1x8x64_0_4_3_1_2

/-! ## The two together -/

/-- The queries, each head a group of its own. -/
def groups (q : FVec F S8x4352x8x96 .f32) : FVec F S8x4352x8x1x96 .f32 := broadcastInDim S8x4352x8x1x96 ![0, 1, 2, 4] bcast_S8x4352x8x96_S8x4352x8x1x96_0_1_2_4 q

/-- The latent half over the arguments. -/
def latent (q : FVec F S8x4352x8x96 .f32) (k : FVec F S8x4352x8x96 .f32) (v : FVec F S8x4352x8x64 .f32) : FVec F S8x4096x1x8x64 .f32 :=
  latOut (latProbs (latExps (latScores (extractStridedSlice S8x4096x8x1x96 ![0, 256, 0, 0, 0] (groups q) slices_S8x4352x8x1x96_S8x4096x8x1x96_0_256_0_0_0) k)
    (latPeaks (latScores (extractStridedSlice S8x4096x8x1x96 ![0, 256, 0, 0, 0] (groups q) slices_S8x4352x8x1x96_S8x4096x8x1x96_0_256_0_0_0) k)))) v

/-- The context half over context queries, keys and values. -/
def context (q : FVec F S8x256x8x1x96 .f32) (k : FVec F S8x256x8x96 .f32) (v : FVec F S8x256x8x64 .f32) : FVec F S8x256x1x8x64 .f32 :=
  ctxOut (ctxProbs (ctxExps (ctxScores q k) (ctxPeaks (ctxScores q k)))) v

/-- The result: latent rows, then context rows, heads side by side. -/
def joined (X : FVec F S8x4096x1x8x64 .f32) (Y : FVec F S8x256x1x8x64 .f32) : FVec F S8x4352x1x8x64 .f32 :=
  concatenate S8x4352x1x8x64 1 [⟨S8x4096x1x8x64, X⟩, ⟨S8x256x1x8x64, Y⟩] concatenates_S8x4096x1x8x64_S8x256x1x8x64_S8x4352x1x8x64_d1

def ref (q : FVec F S8x4352x8x96 .f32) (k : FVec F S8x4352x8x96 .f32) (v : FVec F S8x4352x8x64 .f32) : FVec F S8x4352x512 .bf16 :=
  truncf .bf16 (shapeCast _ (joined (latent q k v)
    (context (extractStridedSlice S8x256x8x1x96 ![0, 0, 0, 0, 0] (groups q) slices_S8x4352x8x1x96_S8x256x8x1x96_0_0_0_0_0)
      (extractStridedSlice S8x256x8x96 ![0, 0, 0, 0] k slices_S8x4352x8x96_S8x256x8x96_0_0_0_0)
      (extractStridedSlice S8x256x8x64 ![0, 0, 0, 0] v slices_S8x4352x8x64_S8x256x8x64_0_0_0_0)))
    shapeCasts_S8x4352x1x8x64_S8x4352x512) bitsLt_bf16_f32

set_option maxHeartbeats 1000000 in
/-- The run's result term is `ref` of the arguments. -/
theorem res_eq (m : (ℓ : Loc nD τ sig) → Buf (Elt F) ℓ) (c : Dev nD) :
    res_main_v41 m c = ref (m ((c.tc : Thread nD τ).loc main_arg0)) (m ((c.tc : Thread nD τ).loc main_arg1)) (m ((c.tc : Thread nD τ).loc main_arg2)) := by
  unfold res_main_v41 ref joined latent context groups latOut latProbs latExps latPeaks latScores ctxOut ctxProbs ctxExps ctxPeaks ctxScores
  rfl

end

/-! ## Read at an index -/

theorem latScores_at (q : FVec Ideal S8x4096x8x1x96 .f32) (k : FVec Ideal S8x4352x8x96 .f32) (b : Fin 8) (g : Fin 8) (n : Fin 4096) (l : Fin 4352) :
    latScores q k (ix5 b g 0 n l) = (∑ x : Fin 96, k (ix4 b l g x) * q (ix5 b n g 0 x)) * Ideal.ofBits .f32 0x3DD105EC#32 := by
  pointwise [latScores]

theorem latMax_at (s : FVec Ideal S8x8x1x4096x4352 .f32) (b : Fin 8) (g : Fin 8) (n : Fin 4096) :
    Host.reduce FloatOps.maximumf s (constant S_ .f32 0xFF800000#32) reducesTo_S8x8x1x4096x4352_S8x8x1x4096_d4 h_S_ (ix4 b g 0 n) = Softmax.peak fun l : Fin 4352 => s (ix5 b g 0 n l) := by
  pointwise; rfl

theorem latLow_at (b : Fin 8) (g : Fin 8) (n : Fin 4096) :
    (broadcastInDim S8x8x1x4096 ![] bcast_S_S8x8x1x4096 (constant S_ .f32 0xFF800000#32) : FVec Ideal S8x8x1x4096 .f32) (ix4 b g 0 n) = Ideal.ofBits .f32 0xFF800000#32 := by
  pointwise

theorem latPeaks_at (s : FVec Ideal S8x8x1x4096x4352 .f32) (b : Fin 8) (g : Fin 8) (n : Fin 4096) :
    latPeaks s (ix4 b g 0 n) = max (Ideal.ofBits .f32 0xFF800000#32) (Softmax.peak fun l : Fin 4352 => s (ix5 b g 0 n l)) := by
  unfold latPeaks
  rw [Softmax.maximumf_at, latLow_at, latMax_at]

theorem latExps_at (s : FVec Ideal S8x8x1x4096x4352 .f32) (p : FVec Ideal S8x8x1x4096 .f32) (b : Fin 8) (g : Fin 8) (n : Fin 4096) (l : Fin 4352) :
    latExps s p (ix5 b g 0 n l) = Ideal.exp (s (ix5 b g 0 n l) - p (ix4 b g 0 n)) := by
  pointwise [latExps]

theorem latProbs_at (x : FVec Ideal S8x8x1x4096x4352 .f32) (b : Fin 8) (g : Fin 8) (n : Fin 4096) (l : Fin 4352) :
    latProbs x (ix5 b g 0 n l) = Ideal.div (x (ix5 b g 0 n l)) (∑ l', x (ix5 b g 0 n l')) := by
  pointwise [latProbs]

theorem latOut_at (p : FVec Ideal S8x8x1x4096x4352 .f32) (v : FVec Ideal S8x4352x8x64 .f32) (b : Fin 8) (g : Fin 8) (n : Fin 4096) (e : Fin 64) :
    latOut p v (ix5 b n 0 g e) = ∑ l : Fin 4352, v (ix4 b l g e) * p (ix5 b g 0 n l) := by
  pointwise [latOut]

/-- The half at an index: the softmax row of its scores over its values. -/
theorem lat_at (q : FVec Ideal S8x4096x8x1x96 .f32) (k : FVec Ideal S8x4352x8x96 .f32) (v : FVec Ideal S8x4352x8x64 .f32) (b : Fin 8) (g : Fin 8) (n : Fin 4096) (e : Fin 64) :
    latOut (latProbs (latExps (latScores q k) (latPeaks (latScores q k)))) v (ix5 b n 0 g e)
      = Softmax.soft (fun l : Fin 4352 => (∑ x : Fin 96, k (ix4 b l g x) * q (ix5 b n g 0 x)) * Ideal.ofBits .f32 0x3DD105EC#32) (fun l => v (ix4 b l g e)) := by
  rw [latOut_at]
  simp only [latProbs_at, latExps_at, latPeaks_at, latScores_at]
  rfl

theorem ctxScores_at (q : FVec Ideal S8x256x8x1x96 .f32) (k : FVec Ideal S8x256x8x96 .f32) (b : Fin 8) (g : Fin 8) (n : Fin 256) (l : Fin 256) :
    ctxScores q k (ix5 b g 0 n l) = (∑ x : Fin 96, k (ix4 b l g x) * q (ix5 b n g 0 x)) * Ideal.ofBits .f32 0x3DD105EC#32 := by
  pointwise [ctxScores]

theorem ctxMax_at (s : FVec Ideal S8x8x1x256x256 .f32) (b : Fin 8) (g : Fin 8) (n : Fin 256) :
    Host.reduce FloatOps.maximumf s (constant S_ .f32 0xFF800000#32) reducesTo_S8x8x1x256x256_S8x8x1x256_d4 h_S_ (ix4 b g 0 n) = Softmax.peak fun l : Fin 256 => s (ix5 b g 0 n l) := by
  pointwise; rfl

theorem ctxLow_at (b : Fin 8) (g : Fin 8) (n : Fin 256) :
    (broadcastInDim S8x8x1x256 ![] bcast_S_S8x8x1x256 (constant S_ .f32 0xFF800000#32) : FVec Ideal S8x8x1x256 .f32) (ix4 b g 0 n) = Ideal.ofBits .f32 0xFF800000#32 := by
  pointwise

theorem ctxPeaks_at (s : FVec Ideal S8x8x1x256x256 .f32) (b : Fin 8) (g : Fin 8) (n : Fin 256) :
    ctxPeaks s (ix4 b g 0 n) = max (Ideal.ofBits .f32 0xFF800000#32) (Softmax.peak fun l : Fin 256 => s (ix5 b g 0 n l)) := by
  unfold ctxPeaks
  rw [Softmax.maximumf_at, ctxLow_at, ctxMax_at]

theorem ctxExps_at (s : FVec Ideal S8x8x1x256x256 .f32) (p : FVec Ideal S8x8x1x256 .f32) (b : Fin 8) (g : Fin 8) (n : Fin 256) (l : Fin 256) :
    ctxExps s p (ix5 b g 0 n l) = Ideal.exp (s (ix5 b g 0 n l) - p (ix4 b g 0 n)) := by
  pointwise [ctxExps]

theorem ctxProbs_at (x : FVec Ideal S8x8x1x256x256 .f32) (b : Fin 8) (g : Fin 8) (n : Fin 256) (l : Fin 256) :
    ctxProbs x (ix5 b g 0 n l) = Ideal.div (x (ix5 b g 0 n l)) (∑ l', x (ix5 b g 0 n l')) := by
  pointwise [ctxProbs]

theorem ctxOut_at (p : FVec Ideal S8x8x1x256x256 .f32) (v : FVec Ideal S8x256x8x64 .f32) (b : Fin 8) (g : Fin 8) (n : Fin 256) (e : Fin 64) :
    ctxOut p v (ix5 b n 0 g e) = ∑ l : Fin 256, v (ix4 b l g e) * p (ix5 b g 0 n l) := by
  pointwise [ctxOut]

/-- The half at an index: the softmax row of its scores over its values. -/
theorem ctx_at (q : FVec Ideal S8x256x8x1x96 .f32) (k : FVec Ideal S8x256x8x96 .f32) (v : FVec Ideal S8x256x8x64 .f32) (b : Fin 8) (g : Fin 8) (n : Fin 256) (e : Fin 64) :
    ctxOut (ctxProbs (ctxExps (ctxScores q k) (ctxPeaks (ctxScores q k)))) v (ix5 b n 0 g e)
      = Softmax.soft (fun l : Fin 256 => (∑ x : Fin 96, k (ix4 b l g x) * q (ix5 b n g 0 x)) * Ideal.ofBits .f32 0x3DD105EC#32) (fun l => v (ix4 b l g e)) := by
  rw [ctxOut_at]
  simp only [ctxProbs_at, ctxExps_at, ctxPeaks_at, ctxScores_at]
  rfl

theorem joined_at (X : FVec Ideal S8x4096x1x8x64 .f32) (Y : FVec Ideal S8x256x1x8x64 .f32) (b : Fin 8) (n : Fin 4352) (g : Fin 8) (e : Fin 64) :
    joined X Y (ix5 b n 0 g e) = if h : (n : ℕ) < 4096 then X (ix5 b ⟨n, h⟩ 0 g e) else Y (ix5 b ⟨n - 4096, by omega⟩ 0 g e) := by
  pointwise [joined]

theorem groups_at (q : FVec Ideal S8x4352x8x96 .f32) (b : Fin 8) (n : Fin 4352) (g : Fin 8) (x : Fin 96) :
    groups q (ix5 b n g 0 x) = q (ix4 b n g x) := by
  pointwise [groups]

theorem flat_at (X : FVec Ideal S8x4352x1x8x64 .f32) (b : Fin 8) (n : Fin 4352) (j : Fin 512) :
    (truncf .bf16 (shapeCast S8x4352x512 X shapeCasts_S8x4352x1x8x64_S8x4352x512) bitsLt_bf16_f32 : FVec Ideal S8x4352x512 .bf16) (ix3 b n j)
      = X (ix5 b n 0 ⟨j / 64, by omega⟩ ⟨j % 64, by omega⟩) := by
  pointwise

/-- A latent row of the reference: query token `256 + n`. -/
theorem latent_at (q : FVec Ideal S8x4352x8x96 .f32) (k : FVec Ideal S8x4352x8x96 .f32) (v : FVec Ideal S8x4352x8x64 .f32) (b : Fin 8) (n : Fin 4096) (g : Fin 8) (e : Fin 64) :
    latent q k v (ix5 b n 0 g e)
      = Softmax.soft (fun l : Fin 4352 => (∑ x : Fin 96, k (ix4 b l g x) * q (ix4 b ⟨256 + n, by omega⟩ g x)) * Ideal.ofBits .f32 0x3DD105EC#32)
          (fun l => v (ix4 b l g e)) := by
  unfold latent
  rw [lat_at]
  have h : ∀ x : Fin 96, extractStridedSlice S8x4096x8x1x96 ![0, 256, 0, 0, 0] (groups q) slices_S8x4352x8x1x96_S8x4096x8x1x96_0_256_0_0_0 (ix5 b n g 0 x)
      = q (ix4 b ⟨256 + n, by omega⟩ g x) := fun x => by
    pointwise
    exact groups_at q b _ g x
  simp only [h]

/-- A context row of the reference, over the context keys. -/
theorem context_at (q : FVec Ideal S8x4352x8x96 .f32) (k : FVec Ideal S8x4352x8x96 .f32) (v : FVec Ideal S8x4352x8x64 .f32) (b : Fin 8) (n : Fin 256) (g : Fin 8) (e : Fin 64) :
    context (extractStridedSlice S8x256x8x1x96 ![0, 0, 0, 0, 0] (groups q) slices_S8x4352x8x1x96_S8x256x8x1x96_0_0_0_0_0)
      (extractStridedSlice S8x256x8x96 ![0, 0, 0, 0] k slices_S8x4352x8x96_S8x256x8x96_0_0_0_0)
      (extractStridedSlice S8x256x8x64 ![0, 0, 0, 0] v slices_S8x4352x8x64_S8x256x8x64_0_0_0_0) (ix5 b n 0 g e)
      = Softmax.soft (fun l : Fin 256 => (∑ x : Fin 96, k (ix4 b ⟨l, by omega⟩ g x) * q (ix4 b ⟨n, by omega⟩ g x)) * Ideal.ofBits .f32 0x3DD105EC#32)
          (fun l => v (ix4 b ⟨l, by omega⟩ g e)) := by
  unfold context
  rw [ctx_at]
  have hq : ∀ x : Fin 96, extractStridedSlice S8x256x8x1x96 ![0, 0, 0, 0, 0] (groups q) slices_S8x4352x8x1x96_S8x256x8x1x96_0_0_0_0_0 (ix5 b n g 0 x)
      = q (ix4 b ⟨n, by omega⟩ g x) := fun x => by
    pointwise
    exact groups_at q b _ g x
  have hk : ∀ (k : FVec Ideal S8x4352x8x96 .f32) (l : Fin 256) (x : Fin 96), extractStridedSlice S8x256x8x96 ![0, 0, 0, 0] k slices_S8x4352x8x96_S8x256x8x96_0_0_0_0 (ix4 b l g x)
      = k (ix4 b ⟨l, by omega⟩ g x) := fun k l x => by
    pointwise
  have hv : ∀ (l : Fin 256), extractStridedSlice S8x256x8x64 ![0, 0, 0, 0] v slices_S8x4352x8x64_S8x256x8x64_0_0_0_0 (ix4 b l g e)
      = v (ix4 b ⟨l, by omega⟩ g e) := fun l => by
    pointwise
  simp only [hq, hk, hv]

/-- The reference at an index: lanes `64 g + e` of a token hold head `g`. -/
theorem ref_at (q : FVec Ideal S8x4352x8x96 .f32) (k : FVec Ideal S8x4352x8x96 .f32) (v : FVec Ideal S8x4352x8x64 .f32) (b : Fin 8) (n : Fin 4352) (j : Fin 512) :
    ref q k v (ix3 b n j) = if h : (n : ℕ) < 4096 then
        Softmax.soft (fun l : Fin 4352 => (∑ x : Fin 96, k (ix4 b l ⟨j / 64, by omega⟩ x) * q (ix4 b ⟨256 + n, by omega⟩ ⟨j / 64, by omega⟩ x)) * Ideal.ofBits .f32 0x3DD105EC#32)
          (fun l => v (ix4 b l ⟨j / 64, by omega⟩ ⟨j % 64, by omega⟩))
      else
        Softmax.soft (fun l : Fin 256 => (∑ x : Fin 96, k (ix4 b ⟨l, by omega⟩ ⟨j / 64, by omega⟩ x) * q (ix4 b ⟨n - 4096, by omega⟩ ⟨j / 64, by omega⟩ x)) * Ideal.ofBits .f32 0x3DD105EC#32)
          (fun l => v (ix4 b ⟨l, by omega⟩ ⟨j / 64, by omega⟩ ⟨j % 64, by omega⟩)) := by
  unfold ref
  rw [flat_at, joined_at]
  split
  · exact latent_at q k v b _ _ _
  · exact context_at q k v b _ _ _

end Cert.Reference4Ideal.Attn

end
-- ==== Proof.Mla.Value.lean ====
/- What the call leaves in its result array is the reference of its arguments, on real queries and keys. -/
module

public import proofs.«01_k».proof.Proof.Mla.Read
public import proofs.«01_k».proof.Proof.Mla.Blocks
public import proofs.«01_k».proof.Proof.Mla.Score
public import proofs.«01_k».proof.Proof.Mla.Ref

@[expose] public section

set_option maxRecDepth 16384

noncomputable section

namespace Cert.Kernel4Ideal.Attn

open Cert.Kernel4Ideal Cert.Kernel4Ideal.Gen
open Idealize.ShloMosaic Idealize.ShloMosaic.TcCoe Idealize.SL.Sem

/-! ## A row of the kernel's result, from the arrays -/

section Rows
variable (q k : FVec Ideal S8x4352x8x96 .f32)
variable (Q K : S8x4352x8x96.Idx → ℝ) (hq : ∀ i, q i = (Q i : EReal)) (hk : ∀ i, k i = (K i : EReal))

include hq hk in
/-- `N` of the keys, at the query row `n`: the kernel's mean under the scores of the head `g` is the reference's row. -/
theorem mean_eq (N : ℕ) (hN : 0 < N) (hN' : N ≤ 4352) (b : Fin 8) (n : Fin 4352) (g : Fin 8)
    (val w : Fin N → EReal) (hw : ∀ l, w l = 1) :
    Softmax.mix (fun l : Fin N => ∑ x : Fin 128, wide (scaled q) (ix3 b n ⟨128 * g + x, by omega⟩)
        * wide k (ix3 b ⟨l, by omega⟩ ⟨128 * g + x, by omega⟩)) val w
      = Softmax.soft (fun l : Fin N => (∑ x : Fin 96, k (ix4 b ⟨l, by omega⟩ g x) * q (ix4 b n g x))
        * Ideal.ofBits .f32 0x3DD105EC#32) val :=
  Softmax.mix_eq_soft hN (fun l => score Q K b n g ⟨l, by omega⟩) _ _ _ _
    (fun l => kernel_score q k Q K hq hk b n g ⟨l, by omega⟩) (fun l => ref_score q k Q K hq hk b n g ⟨l, by omega⟩) hw
end Rows

/-! ## The reference's row, by head and lane -/

theorem ref_row (q k : FVec Ideal S8x4352x8x96 .f32) (v : FVec Ideal S8x4352x8x64 .f32) (b : Fin 8) (n : Fin 4352) (g : Fin 8) (d : Fin 64) :
    Reference4Ideal.Attn.ref q k v (ix3 b n ⟨64 * g + d, by omega⟩) = if h : (n : ℕ) < 4096 then
      Softmax.soft (fun l : Fin 4352 => (∑ x : Fin 96, k (ix4 b l g x) * q (ix4 b ⟨256 + n, by omega⟩ g x)) * Ideal.ofBits .f32 0x3DD105EC#32)
        (fun l => v (ix4 b l g d))
    else Softmax.soft (fun l : Fin 256 => (∑ x : Fin 96, k (ix4 b ⟨l, by omega⟩ g x) * q (ix4 b ⟨n - 4096, by omega⟩ g x)) * Ideal.ofBits .f32 0x3DD105EC#32)
        (fun l => v (ix4 b ⟨l, by omega⟩ g d)) := by
  rw [Reference4Ideal.Attn.ref_at]
  have h1 : (64 * (g : ℕ) + (d : ℕ)) / 64 = g := by omega
  have h3 : (64 * (g : ℕ) + (d : ℕ)) % 64 = d := by omega
  simp only [h1, h3]

/-- Two means of the same terms. -/
theorem mix_congr {N : ℕ} {s s' v v' w w' : Fin N → EReal} (hs : ∀ l, s l = s' l) (hv : ∀ l, v l = v' l) (hw : ∀ l, w l = w' l) :
    Softmax.mix s v w = Softmax.mix s' v' w' := by
  rw [funext hs, funext hv, funext hw]

section Call
variable (m : (ℓ : Loc nD τ sig) → Buf (Elt Ideal) ℓ) (c : Dev nD)

/-- The three argument arrays. -/
abbrev argQ : FVec Ideal S8x4352x8x96 .f32 := m ((c : Thread nD τ).loc main_arg0)
abbrev argK : FVec Ideal S8x4352x8x96 .f32 := m ((c : Thread nD τ).loc main_arg1)
abbrev argV : FVec Ideal S8x4352x8x64 .f32 := m ((c : Thread nD τ).loc main_arg2)

/-- Of a grid point's two heads the `i`th. -/
def head (t : Fin cfg0.N) (i : Fin 2) : Fin 8 := ⟨2 * (t / 5 % 4) + i, by omega⟩

theorem key_at (t : Fin cfg0.N) (i : Fin 2) (l : Fin 4352) (x : Fin 128) :
    iblk m c 1 t (ix3 0 l ⟨128 * i + x, by omega⟩) = wide (argK m c) (ix3 (batch t) l ⟨128 * head t i + x, by have := (head t i).isLt; omega⟩) := by
  rw [iblk1, V_keys]
  congr 2; exact Fin.ext (by simp only [head]; omega)
theorem low_at (t : Fin cfg0.N) (l : Fin 4352) (x : Fin 128) :
    iblk m c 2 t (ix3 0 l x) = valuesLow (argV m c) (ix3 (batch t) l ⟨128 * pair t + x, by have := (pair t).isLt; omega⟩) := by
  rw [iblk2, V_valuesLow]; rfl
theorem high_at (t : Fin cfg0.N) (l : Fin 4352) (x : Fin 128) :
    iblk m c 3 t (ix3 0 l x) = valuesHigh (argV m c) (ix3 (batch t) l ⟨128 * pair t + x, by have := (pair t).isLt; omega⟩) := by
  rw [iblk3, V_valuesHigh]; rfl

/-- A latent tile's query rows. -/
theorem query_latent (t : Fin cfg0.N) (h : ¬ t.val % 5 = 4) (r : Fin 1024) (i : Fin 2) (x : Fin 128) :
    qblk m c t zq (ix3 0 r ⟨128 * i + x, by omega⟩) = wide (scaled (argQ m c))
      (ix3 (batch t) ⟨256 + (1024 * (t % 5) + r), by omega⟩ ⟨128 * head t i + x, by have := (head t i).isLt; omega⟩) := by
  rw [qblk_at m c t r _ (by rw [if_neg h]; exact r.isLt), V_queries, queries_at, dif_pos (by simp only; omega)]
  congr 2; exact Fin.ext (by simp only [head]; omega)
/-- The context tile's. -/
theorem query_context (t : Fin cfg0.N) (h : t.val % 5 = 4) (r : Fin 256) (i : Fin 2) (x : Fin 128) :
    qblk m c t zq (ix3 0 ⟨r, by omega⟩ ⟨128 * i + x, by omega⟩) = wide (scaled (argQ m c))
      (ix3 (batch t) ⟨1024 * (t % 5) + r - 4096, by omega⟩ ⟨128 * head t i + x, by have := (head t i).isLt; omega⟩) := by
  rw [qblk_at m c t _ _ (by rw [if_pos h]; exact r.isLt), V_queries, queries_at, dif_neg (by simp only; omega)]
  congr 2; exact Fin.ext (by simp only [head]; omega)

variable (Q K : S8x4352x8x96.Idx → ℝ) (hq : ∀ i, argQ m c i = (Q i : EReal)) (hk : ∀ i, argK m c i = (K i : EReal))

include hq hk in
theorem latent_at (t : Fin cfg0.N) (h : ¬ t.val % 5 = 4) (r : Fin 1024) (i : Fin 2) (d : Fin 64) :
    rows m c t (ix3 0 r ⟨64 * i + d, by omega⟩) = Reference4Ideal.Attn.ref (argQ m c) (argK m c) (argV m c)
      (ix3 (batch t) ⟨1024 * (t % 5) + r, by omega⟩ ⟨64 * head t i + d, by have := (head t i).isLt; omega⟩) := by
  have hx : ∀ (i : Fin 2) (l : Fin 4352), (∑ x : Fin 128, qblk m c t zq (ix3 0 r ⟨128 * i + x, by omega⟩) * iblk m c 1 t (ix3 0 l ⟨128 * i + x, by omega⟩))
      = ∑ x : Fin 128, wide (scaled (argQ m c)) (ix3 (batch t) ⟨256 + (1024 * (t % 5) + r), by omega⟩ ⟨128 * head t i + x, by have := (head t i).isLt; omega⟩)
        * wide (argK m c) (ix3 (batch t) l ⟨128 * head t i + x, by have := (head t i).isLt; omega⟩) := fun i l =>
    Finset.sum_congr rfl fun x _ => congrArg₂ (· * ·) (query_latent m c t h r i x) (key_at m c t i l x)
  unfold rows
  rw [stored_latent c t h, latentRows_at, ref_row, dif_pos (by simp only; omega)]
  rcases Fin.exists_fin_two.mp ⟨i, rfl⟩ with rfl | rfl
  · rw [if_pos (by simp only [Fin.val_zero]; omega)]
    refine Eq.trans ?_ (mean_eq (argQ m c) (argK m c) Q K hq hk 4352 (by omega) (by omega) (batch t) _ (head t 0) _ (fun _ => 1) (fun _ => rfl))
    refine mix_congr (fun l => ?_) (fun l => ?_) (fun l => ?_)
    · rw [← hx 0 l]
      refine Finset.sum_congr rfl fun x _ => ?_
      rw [show (⟨128 * ((0 : Fin 2) : ℕ) + x, by simp; omega⟩ : Fin 256) = ⟨x, by omega⟩ from Fin.ext (by simp)]
    · rw [low_at, valuesLow_at _ _ _ _ _ (by simp only [Fin.val_zero]; omega)]
      congr 2; exact Fin.ext (by simp; try omega)
    · rw [low_at]
      exact valuesLow_one _ _ _ _
  · rw [if_neg (by simp only [Fin.val_one]; omega)]
    refine Eq.trans ?_ (mean_eq (argQ m c) (argK m c) Q K hq hk 4352 (by omega) (by omega) (batch t) _ (head t 1) _ (fun _ => 1) (fun _ => rfl))
    refine mix_congr (fun l => ?_) (fun l => ?_) (fun l => ?_)
    · rw [← hx 1 l]
      refine Finset.sum_congr rfl fun x _ => ?_
      rfl
    · rw [high_at, valuesHigh_at _ _ _ _ _ (by simp only [Fin.val_one]; omega)]
      congr 2; exact Fin.ext (by simp; try omega)
    · rw [high_at]
      exact valuesHigh_one _ _ _ _

include hq hk in
theorem context_at (t : Fin cfg0.N) (h : t.val % 5 = 4) (r : Fin 256) (i : Fin 2) (d : Fin 64) :
    rows m c t (ix3 0 ⟨r, by omega⟩ ⟨64 * i + d, by omega⟩) = Reference4Ideal.Attn.ref (argQ m c) (argK m c) (argV m c)
      (ix3 (batch t) ⟨1024 * (t % 5) + r, by omega⟩ ⟨64 * head t i + d, by have := (head t i).isLt; omega⟩) := by
  have hx : ∀ (i : Fin 2) (l : Fin 256), (∑ x : Fin 128, qblk m c t zq (ix3 0 ⟨r, by omega⟩ ⟨128 * i + x, by omega⟩) * iblk m c 1 t (ix3 0 ⟨l, by omega⟩ ⟨128 * i + x, by omega⟩))
      = ∑ x : Fin 128, wide (scaled (argQ m c)) (ix3 (batch t) ⟨1024 * (t % 5) + r - 4096, by omega⟩ ⟨128 * head t i + x, by have := (head t i).isLt; omega⟩)
        * wide (argK m c) (ix3 (batch t) ⟨l, by omega⟩ ⟨128 * head t i + x, by have := (head t i).isLt; omega⟩) := fun i l =>
    Finset.sum_congr rfl fun x _ => congrArg₂ (· * ·) (query_context m c t h r i x) (key_at m c t i ⟨l, by omega⟩ x)
  unfold rows
  rw [stored_context_at c t h, contextRows_at, ref_row, dif_neg (by simp only; omega)]
  rcases Fin.exists_fin_two.mp ⟨i, rfl⟩ with rfl | rfl
  · rw [if_pos (by simp only [Fin.val_zero]; omega)]
    refine Eq.trans ?_ (mean_eq (argQ m c) (argK m c) Q K hq hk 256 (by omega) (by omega) (batch t) _ (head t 0) _ (fun _ => 1) (fun _ => rfl))
    refine mix_congr (fun l => ?_) (fun l => ?_) (fun l => ?_)
    · rw [← hx 0 l]
      refine Finset.sum_congr rfl fun x _ => ?_
      rw [show (⟨128 * ((0 : Fin 2) : ℕ) + x, by simp; omega⟩ : Fin 256) = ⟨x, by omega⟩ from Fin.ext (by simp)]
    · rw [low_at, valuesLow_at _ _ _ _ _ (by simp only [Fin.val_zero]; omega)]
      congr 2; exact Fin.ext (by simp; try omega)
    · rw [low_at]
      exact valuesLow_one _ _ _ _
  · rw [if_neg (by simp only [Fin.val_one]; omega)]
    refine Eq.trans ?_ (mean_eq (argQ m c) (argK m c) Q K hq hk 256 (by omega) (by omega) (batch t) _ (head t 1) _ (fun _ => 1) (fun _ => rfl))
    refine mix_congr (fun l => ?_) (fun l => ?_) (fun l => ?_)
    · rw [← hx 1 l]
      refine Finset.sum_congr rfl fun x _ => ?_
      rfl
    · rw [high_at, valuesHigh_at _ _ _ _ _ (by simp only [Fin.val_one]; omega)]
      congr 2; exact Fin.ext (by simp; try omega)
    · rw [high_at]
      exact valuesHigh_one _ _ _ _

include hq hk in
/-- The result array whole. -/
theorem final : (dats m 0 c).arrAt 4 cfg0.N = Reference4Ideal.Attn.ref (argQ m c) (argK m c) (argV m c) := by
  refine (dats m 0 c).arrAt_eq_of_covers 4 _ (by decide +kernel) fun t hf y => ?_
  blk_simp
  rw [after_4]
  have hs : win0_4.xsize (grid0.coords t) = ![1, if t.val % 5 = 4 then 256 else 1024, 128] := (idx t).2.2.2.2.2
  have h0 : (y 0 : ℕ) < win0_4.xsize (grid0.coords t) 0 := (y 0).isLt
  have h1 : (y 1 : ℕ) < win0_4.xsize (grid0.coords t) 1 := (y 1).isLt
  have h2 : (y 2 : ℕ) < win0_4.xsize (grid0.coords t) 2 := (y 2).isLt
  rw [hs] at h0 h1 h2
  replace h0 : (y 0 : ℕ) < 1 := h0
  replace h1 : (y 1 : ℕ) < if t.val % 5 = 4 then 256 else 1024 := h1
  replace h2 : (y 2 : ℕ) < 128 := h2
  have hr : (y 1 : ℕ) < 1024 := by split at h1 <;> omega
  have hx : (cfg0.win 4).xinj (cfg0.grid.coords t) y
      = ix3 (n0 := 1) (n1 := 1024) (n2 := 128) 0 ⟨y 1, hr⟩ ⟨64 * (⟨(y 2 : ℕ) / 64, by omega⟩ : Fin 2) + (⟨(y 2 : ℕ) % 64, by omega⟩ : Fin 64), by omega⟩ := by
    funext a
    fin_cases a
    · exact Fin.ext (by show (y 0 : ℕ) = 0; omega)
    · exact Fin.ext (by show (y 1 : ℕ) = y 1; rfl)
    · exact Fin.ext (by show (y 2 : ℕ) = 64 * ((y 2 : ℕ) / 64) + (y 2 : ℕ) % 64; omega)
  have he : (win0_4.blk t).view.emb y = ix3 (n0 := 8) (n1 := 4352) (n2 := 512) (batch t) ⟨1024 * (t % 5) + y 1, by split at h1 <;> omega⟩
      ⟨64 * head t (⟨(y 2 : ℕ) / 64, by omega⟩ : Fin 2) + (⟨(y 2 : ℕ) % 64, by omega⟩ : Fin 64), by have := (head t (⟨(y 2 : ℕ) / 64, by omega⟩ : Fin 2)).isLt; omega⟩ := by
    have hi := (idx t).2.2.2.2.1
    funext a
    fin_cases a
    · refine Fin.ext ?_
      show win0_4.index t 0 * 1 + 1 * (y 0 : ℕ) = (t : ℕ) / 20
      rw [hi]; show (t : ℕ) / 20 * 1 + 1 * (y 0 : ℕ) = _; omega
    · refine Fin.ext ?_
      show win0_4.index t 1 * 1024 + 1 * (y 1 : ℕ) = 1024 * (t % 5) + (y 1 : ℕ)
      rw [hi]; show (t : ℕ) % 5 * 1024 + 1 * (y 1 : ℕ) = _; omega
    · refine Fin.ext ?_
      show win0_4.index t 2 * 128 + 1 * (y 2 : ℕ) = 64 * (2 * ((t : ℕ) / 5 % 4) + (y 2 : ℕ) / 64) + (y 2 : ℕ) % 64
      rw [hi]; show (t : ℕ) / 5 % 4 * 128 + 1 * (y 2 : ℕ) = _; omega
  rw [hx, he]
  by_cases h : t.val % 5 = 4
  · rw [if_pos h] at h1
    exact context_at m c Q K hq hk t h ⟨y 1, h1⟩ _ _
  · exact latent_at m c Q K hq hk t h ⟨y 1, hr⟩ _ _

include hq hk in
/-- So the result buffer ends at the reference. -/
theorem result_eq (r : PUnit × MemSt nD τ sig (Elt Ideal)) (h : Pipeline.FramePost cfgs (dats m) 0 (V m) r) :
    r.2.mem ((c.tc : Thread nD τ).loc main_v29) = Reference4Ideal.Attn.ref (argQ m c) (argK m c) (argV m c) := by
  have post : r.2.mem ((c.tc : Thread nD τ).loc main_v29) = (dats m 0 c).arrAt 4 cfg0.N := (h c).1 4
  exact post.trans (final m c Q K hq hk)
end Call
end Cert.Kernel4Ideal.Attn
end
-- ==== Proof.Mla.Claims.lean ====
/- The claims about the latent-attention call: the reference's frame, and the equality of the two results. -/
module

public import proofs.«01_k».proof.Defs
public import proofs.«01_k».proof.Proof.Mla.Value
public import proofs.«01_k».proof.Proof.Finite
public import proofs.«01_k».proof.Proof.Gen.Pre_finite_mla

@[expose] public section

set_option maxRecDepth 16384

noncomputable section

namespace Cert.Kernel4Ideal.Attn

open Idealize.ShloMosaic Idealize.ShloMosaic.TcCoe Idealize.SL.Sem

/-- The reference's arguments end unchanged; it has no semaphore. -/
theorem frame_ref (m : (ℓ : Loc Reference4Ideal.nD Reference4Ideal.τ Reference4Ideal.sig) → Buf (Elt Ideal) ℓ) (g : Dev Reference4Ideal.nD → PrngReg) :
    θ_run (Reference4Ideal.defs (F := Ideal)) (onTc (τ := Reference4Ideal.τ) (Reference4Ideal.main (F := Ideal))) ⟨m, fun _ => 0, g⟩ (fun r => (∀ c : Dev Reference4Ideal.nD,
      r.2.mem ((c.tc : Thread Reference4Ideal.nD Reference4Ideal.τ).loc Reference4Ideal.main_arg0) = m ((c.tc : Thread Reference4Ideal.nD Reference4Ideal.τ).loc Reference4Ideal.main_arg0)
      ∧ r.2.mem ((c.tc : Thread Reference4Ideal.nD Reference4Ideal.τ).loc Reference4Ideal.main_arg1) = m ((c.tc : Thread Reference4Ideal.nD Reference4Ideal.τ).loc Reference4Ideal.main_arg1)
      ∧ r.2.mem ((c.tc : Thread Reference4Ideal.nD Reference4Ideal.τ).loc Reference4Ideal.main_arg2) = m ((c.tc : Thread Reference4Ideal.nD Reference4Ideal.τ).loc Reference4Ideal.main_arg2))
      ∧ r.2.sem = fun _ => 0) :=
  (θ_run Reference4Ideal.defs _ _).mono (fun r h => ⟨fun c => (h c).2, sem_eq_zero_of_no_sems (by decide) r.2⟩)
    (Reference4Ideal.Value.run m g)

/-- The precondition: the queries and keys are real. -/
theorem real_args (m : (ℓ : Loc Kernel4Ideal.nD Kernel4Ideal.τ Kernel4Ideal.sig) → Buf (Elt Ideal) ℓ)
    (h : Cert.Pre_Kernel4Ideal_finite_mla (hPre_finite_mla := Cert.Pre_finite_mla.Gen.facts) m) (c : Dev Kernel4Ideal.nD) :
    (∃ Q : Kernel4Ideal.S8x4352x8x96.Idx → ℝ, ∀ i, argQ m c i = (Q i : EReal)) ∧ ∃ K : Kernel4Ideal.S8x4352x8x96.Idx → ℝ, ∀ i, argK m c i = (K i : EReal) := by
  have e := congrFun (h c) (Shape.Idx.first Cert.Pre_finite_mla.Gen.h_S_)
  obtain ⟨e1, e2⟩ := IntOp.andi_eq_one.1 e
  haveI : Subsingleton Cert.Pre_finite_mla.S_.Idx := ⟨fun a b => funext fun i => i.elim0⟩
  exact ⟨Finite.real_of_all _ _ (fun _ => rfl) _ Cert.Pre_finite_mla.S_ _ _ _ e1, Finite.real_of_all _ _ (fun _ => rfl) _ Cert.Pre_finite_mla.S_ _ _ _ e2⟩

/-- Equal arguments give equal results. -/
theorem ref_congr {q q' : FVec Ideal Reference4Ideal.S8x4352x8x96 .f32} {k k' : FVec Ideal Reference4Ideal.S8x4352x8x96 .f32} {v v' : FVec Ideal Reference4Ideal.S8x4352x8x64 .f32} (e0 : q = q') (e1 : k = k')
    (e2 : v = v') : Reference4Ideal.Attn.ref q k v = Reference4Ideal.Attn.ref q' k' v' := by
  subst e0 e1 e2
  rfl

/-- The call and the reference end with one array. -/
theorem algebraic : Cert.algebraic_Kernel4Ideal_Reference4Ideal_pre_finite_mla (hKernel4Ideal := Cert.Kernel4Ideal.Gen.facts)
    (hReference4Ideal := Cert.Reference4Ideal.Gen.facts) (hPre_finite_mla := Cert.Pre_finite_mla.Gen.facts) := by
  intro m g m' g' hpre hagree
  refine ⟨fun c => Reference4Ideal.Attn.ref (argQ m c) (argK m c) (argV m c), ?_, ?_⟩
  · refine (θ_run Kernel4Ideal.defs _ _).mono (fun r h c => ⟨?_, h.2.1 c⟩) (θ_run_and (run_main m g) (frame m g))
    obtain ⟨⟨Q, hQ⟩, ⟨K, hK⟩⟩ := real_args m hpre c
    exact result_eq m c Q K hQ hK r h.1.1
  · refine (θ_run Reference4Ideal.defs _ _).mono (fun r h c => ⟨?_, (h c).2⟩) (Reference4Ideal.Value.run m' g')
    obtain ⟨a0, a1, a2⟩ := hagree c
    exact ((h c).1.trans (Reference4Ideal.Attn.res_eq m' c)).trans (ref_congr a0 a1 a2)

end Cert.Kernel4Ideal.Attn

end
-- ==== Proof.Rows.lean ====
/- The row functions of a layer's end, over the extended reals: the silu, the root-mean-square norm, the head norm, and
   the gated feed-forward part. -/
module

public import Idealize.ShloMosaic.PureOps.Ideal

@[expose] public section

noncomputable section

namespace Cert.Rows

open Idealize.ShloMosaic

/-- What is added under a root. -/
abbrev eps : EReal := Ideal.ofBits .f32 0x358637BD#32

/-- x times its logistic value. -/
def silu (x : EReal) : EReal := x * Ideal.logistic x

/-- A row over the root of its mean square, `N` being its length, times a gain. -/
def rms {n : ℕ} (N : EReal) (v w : Fin n → EReal) (i : Fin n) : EReal :=
  v i * Ideal.rsqrt (Ideal.div (∑ j, v j * v j) N + eps) * w i

/-- A row less its mean. -/
def dev {n : ℕ} (N : EReal) (v : Fin n → EReal) (i : Fin n) : EReal := v i - Ideal.div (∑ j, v j) N

/-- A row less its mean, over the root of its variance, times a gain. -/
def layer {n : ℕ} (N : EReal) (v w : Fin n → EReal) (i : Fin n) : EReal :=
  dev N v i * Ideal.rsqrt (Ideal.div (∑ j, dev N v j * dev N v j) N + eps) * w i

/-- One head's share of a projection: the head's norm, gated, against a column of the weights. -/
def head {n : ℕ} (N : EReal) (v w g W : Fin n → EReal) : EReal := ∑ k, layer N v w k * g k * W k

/-- One group's share of a projection: its norm against a column of the weights. -/
def group {n : ℕ} (N : EReal) (v w W : Fin n → EReal) : EReal := ∑ k, rms N v w k * W k

/-- `n` entries of a row, from entry `o` on. -/
def part {m : ℕ} (v : Fin m → EReal) (o n : ℕ) (h : o + n ≤ m) (k : Fin n) : EReal := v ⟨o + k, by omega⟩

/-- One group's share, its entries starting at `o`. -/
def groupAt (s sn : Fin 1024 → EReal) (W : Fin 2048 → EReal) (o : ℕ) (h : o + 512 ≤ 1024) : EReal :=
  group (Ideal.ofBits .f32 0x44000000#32) (part s o 512 h) (part sn o 512 h) (part W o 512 (by omega))

/-- One head's share, its entries starting at `o`; its weights follow the groups'. -/
def headAt (y rn g : Fin 1024 → EReal) (W : Fin 2048 → EReal) (o : ℕ) (h : o + 128 ≤ 1024) : EReal :=
  head (Ideal.ofBits .f32 0x43000000#32) (part y o 128 h) (part rn o 128 h) (part g o 128 h) (part W (1024 + o) 128 (by omega))

/-- The projection: two groups' shares, then eight heads'. -/
def project (s sn y rn g : Fin 1024 → EReal) (W : Fin 2048 → EReal) : EReal :=
  groupAt s sn W 0 (by omega) + groupAt s sn W 512 (by omega) + headAt y rn g W 0 (by omega) + headAt y rn g W 128 (by omega)
    + headAt y rn g W 256 (by omega) + headAt y rn g W 384 (by omega) + headAt y rn g W 512 (by omega) + headAt y rn g W 640 (by omega)
    + headAt y rn g W 768 (by omega) + headAt y rn g W 896 (by omega)

/-- A sum cut in two. -/
theorem sum_cut (m n o p : ℕ) (f : Fin p → EReal) (h : o + (m + n) ≤ p) :
    ∑ k, part f o (m + n) h k = ∑ k, part f o m (by omega) k + ∑ k, part f (o + m) n (by omega) k := by
  rw [Fin.sum_univ_add]
  refine congrArg₂ _ rfl (Finset.sum_congr rfl fun k _ => congrArg f (Fin.ext ?_))
  simp [Nat.add_assoc]

/-- A sum over 2048 cut into the groups and heads. -/
theorem sum_split (f : Fin 2048 → EReal) :
    ∑ j, f j = ∑ k, part f 0 512 (by omega) k + ∑ k, part f 512 512 (by omega) k + ∑ k, part f 1024 128 (by omega) k + ∑ k, part f 1152 128 (by omega) k
      + ∑ k, part f 1280 128 (by omega) k + ∑ k, part f 1408 128 (by omega) k + ∑ k, part f 1536 128 (by omega) k + ∑ k, part f 1664 128 (by omega) k
      + ∑ k, part f 1792 128 (by omega) k + ∑ k, part f 1920 128 (by omega) k := by
  have h : ∑ j, f j = ∑ k, part f 0 2048 (by omega) k := Finset.sum_congr rfl fun k _ => congrArg f (Fin.ext (by simp))
  rw [h]
  rw [sum_cut 1920 128 0, sum_cut 1792 128 0, sum_cut 1664 128 0, sum_cut 1536 128 0, sum_cut 1408 128 0, sum_cut 1280 128 0, sum_cut 1152 128 0,
    sum_cut 1024 128 0, sum_cut 512 512 0]

/-- The norm, scaled and shifted. -/
def modulated (x shift scale gain : Fin 1024 → EReal) (k : Fin 1024) : EReal :=
  rms (Ideal.ofBits .f32 0x44800000#32) x gain k * (1 + scale k) + shift k

/-- The hidden row. -/
def hidden (u : Fin 1024 → EReal) (w13 : Fin 1024 → Fin 5632 → EReal) (j : Fin 5632) : EReal := ∑ k, u k * w13 k j

/-- The gated feed-forward part of a hidden row. -/
def forward (h : Fin 5632 → EReal) (w2 : Fin 2816 → Fin 1024 → EReal) (c : Fin 1024) : EReal :=
  ∑ j : Fin 2816, silu (h ⟨j, by omega⟩) * h ⟨2816 + j, by omega⟩ * w2 j c

/-- The layer's end: a row plus its gated feed-forward part. -/
def tail (x shift scale gate gain : Fin 1024 → EReal) (w13 : Fin 1024 → Fin 5632 → EReal) (w2 : Fin 2816 → Fin 1024 → EReal)
    (c : Fin 1024) : EReal :=
  x c + gate c * forward (hidden (modulated x shift scale gain) w13) w2 c

end Cert.Rows

end
-- ==== Proof.Out.Read.lean ====
/- What the state-space layer's last call stores for a tile of 256 rows, read at an index. -/
module

public import proofs.«01_k».proof.Proof.Gen.Kernel2Ideal.Skeleton
public import proofs.«01_k».proof.Proof.Rows
public import Idealize.ShloMosaic.Lib.Claim
public import Idealize.ShloMosaic.Lib.Pointwise

@[expose] public section

set_option maxRecDepth 16384

noncomputable section

namespace Cert.Kernel2Ideal.Out

open Cert.Kernel2Ideal Cert.Kernel2Ideal.Gen
open Idealize.ShloMosaic Idealize.ShloMosaic.TcCoe Idealize.SL.Sem

/-- The gate of the retention heads. -/
theorem gate_at (v : Vec Ideal S1x256x1024 .f32) (r : Fin 256) (c : Fin 1024) :
    k0_pay5 v (ix2 r c) = Rows.silu (v (ix3 0 r c)) := by
  pointwise [k0_pay5]
  rfl

/-- The scan's sum with its skip, gated. -/
theorem scan_at (z yf yb xs : Vec Ideal S1x256x1024 .f32) (d : Vec Ideal S1x1024 .f32) (r : Fin 256) (c : Fin 1024) :
    k0_pay2 z yf yb d xs (ix2 r c) = (yf (ix3 0 r c) + yb (ix3 0 r c) + d (ix2 0 c) * xs (ix3 0 r c)) * Rows.silu (z (ix3 0 r c)) := by
  pointwise [k0_pay2]
  rfl

/-- The first group's share. -/
theorem first_group_at (z yf yb xs : Vec Ideal S1x256x1024 .f32) (d : Vec Ideal S1x1024 .f32) (w : Vec Ideal S1x512 .f32) (W : Vec Ideal S512x1024 .bf16)
    (r : Fin 256) (c : Fin 1024) :
    k0_pay3 z yf yb d xs w W (ix2 r c) = Rows.group (Ideal.ofBits .f32 0x44000000#32) (fun k : Fin 512 => k0_pay2 z yf yb d xs (ix2 r ⟨k, by omega⟩))
      (fun k => w (ix2 0 k)) (fun k => W (ix2 k c)) := by
  pointwise [k0_pay3, k0_pay2]
  rfl

/-- The second group's share, added. -/
theorem second_group_at (y o : FVec Ideal S256x1024 .f32) (w : Vec Ideal S1x512 .f32) (W : Vec Ideal S512x1024 .bf16) (r : Fin 256) (c : Fin 1024) :
    k0_pay4 y o w W (ix2 r c) = o (ix2 r c) + Rows.group (Ideal.ofBits .f32 0x44000000#32) (fun k : Fin 512 => y (ix2 r ⟨512 + k, by omega⟩))
      (fun k => w (ix2 0 k)) (fun k => W (ix2 k c)) := by
  pointwise [k0_pay4]
  rfl

/-- Head 0, added. -/
theorem head0_at (o g : FVec Ideal S256x1024 .f32) (a b : Vec Ideal S1x256x128 .f32) (w : Vec Ideal S1x128 .f32) (W : Vec Ideal S128x1024 .bf16) (r : Fin 256) (c : Fin 1024) :
    k0_pay9 o g (k0_pay6 a b) (k0_pay7 a b) k0_pay8 w W (ix2 r c) = o (ix2 r c) + Rows.head (Ideal.ofBits .f32 0x43000000#32) (fun k : Fin 128 => a (ix3 0 r k) + b (ix3 0 r k)) (fun k => w (ix2 0 k)) (fun k : Fin 128 => g (ix2 r ⟨k, by omega⟩)) (fun k => W (ix2 k c)) := by
  pointwise [k0_pay9, k0_pay8, k0_pay7, k0_pay6]
  rfl

/-- Heads 1 and 2, added. -/
theorem head12_at (o g : FVec Ideal S256x1024 .f32) (a b a' b' : Vec Ideal S1x256x128 .f32) (w w' : Vec Ideal S1x128 .f32) (W W' : Vec Ideal S128x1024 .bf16) (r : Fin 256) (c : Fin 1024) :
    k0_pay12 g o (k0_pay10 a b) (k0_pay11 w) W a' b' w' W' (ix2 r c) = o (ix2 r c) + Rows.head (Ideal.ofBits .f32 0x43000000#32) (fun k : Fin 128 => a (ix3 0 r k) + b (ix3 0 r k)) (fun k => w (ix2 0 k)) (fun k : Fin 128 => g (ix2 r ⟨128 + k, by omega⟩)) (fun k => W (ix2 k c))
      + Rows.head (Ideal.ofBits .f32 0x43000000#32) (fun k : Fin 128 => a' (ix3 0 r k) + b' (ix3 0 r k)) (fun k => w' (ix2 0 k)) (fun k : Fin 128 => g (ix2 r ⟨256 + k, by omega⟩)) (fun k => W' (ix2 k c)) := by
  pointwise [k0_pay12, k0_pay11, k0_pay10]
  rfl

/-- Head 3, added. -/
theorem head3_at (o g : FVec Ideal S256x1024 .f32) (a b : Vec Ideal S1x256x128 .f32) (w : Vec Ideal S1x128 .f32) (W : Vec Ideal S128x1024 .bf16) (r : Fin 256) (c : Fin 1024) :
    k0_pay13 g o a b w W (ix2 r c) = o (ix2 r c) + Rows.head (Ideal.ofBits .f32 0x43000000#32) (fun k : Fin 128 => a (ix3 0 r k) + b (ix3 0 r k)) (fun k => w (ix2 0 k)) (fun k : Fin 128 => g (ix2 r ⟨384 + k, by omega⟩)) (fun k => W (ix2 k c)) := by
  pointwise [k0_pay13]
  rfl

/-- Head 4, added. -/
theorem head4_at (o g : FVec Ideal S256x1024 .f32) (a b : Vec Ideal S1x256x128 .f32) (w : Vec Ideal S1x128 .f32) (W : Vec Ideal S128x1024 .bf16) (r : Fin 256) (c : Fin 1024) :
    k0_pay16 g o (k0_pay14 a b) (k0_pay15 a b) w W (ix2 r c) = o (ix2 r c) + Rows.head (Ideal.ofBits .f32 0x43000000#32) (fun k : Fin 128 => a (ix3 0 r k) + b (ix3 0 r k)) (fun k => w (ix2 0 k)) (fun k : Fin 128 => g (ix2 r ⟨512 + k, by omega⟩)) (fun k => W (ix2 k c)) := by
  pointwise [k0_pay16, k0_pay15, k0_pay14]
  rfl

/-- Head 5, added. -/
theorem head5_at (o g : FVec Ideal S256x1024 .f32) (a b : Vec Ideal S1x256x128 .f32) (w : Vec Ideal S1x128 .f32) (W : Vec Ideal S128x1024 .bf16) (r : Fin 256) (c : Fin 1024) :
    k0_pay20 g o (k0_pay17 a b) (k0_pay18 a b) k0_pay19 w W (ix2 r c) = o (ix2 r c) + Rows.head (Ideal.ofBits .f32 0x43000000#32) (fun k : Fin 128 => a (ix3 0 r k) + b (ix3 0 r k)) (fun k => w (ix2 0 k)) (fun k : Fin 128 => g (ix2 r ⟨640 + k, by omega⟩)) (fun k => W (ix2 k c)) := by
  pointwise [k0_pay20, k0_pay19, k0_pay18, k0_pay17]
  rfl

/-- Heads 6 and 7, added. -/
theorem head67_at (o g : FVec Ideal S256x1024 .f32) (a b a' b' : Vec Ideal S1x256x128 .f32) (w w' : Vec Ideal S1x128 .f32) (W W' : Vec Ideal S128x1024 .bf16) (r : Fin 256) (c : Fin 1024) :
    k0_pay23 g o (k0_pay21 a b) (k0_pay22 w) W a' b' w' W' (ix2 r c) = o (ix2 r c) + Rows.head (Ideal.ofBits .f32 0x43000000#32) (fun k : Fin 128 => a (ix3 0 r k) + b (ix3 0 r k)) (fun k => w (ix2 0 k)) (fun k : Fin 128 => g (ix2 r ⟨768 + k, by omega⟩)) (fun k => W (ix2 k c))
      + Rows.head (Ideal.ofBits .f32 0x43000000#32) (fun k : Fin 128 => a' (ix3 0 r k) + b' (ix3 0 r k)) (fun k => w' (ix2 0 k)) (fun k : Fin 128 => g (ix2 r ⟨896 + k, by omega⟩)) (fun k => W' (ix2 k c)) := by
  pointwise [k0_pay23, k0_pay22, k0_pay21]
  rfl

/-- The residual with the projection, gated. -/
theorem resid_at (o : FVec Ideal S256x1024 .f32) (x : Vec Ideal S1x256x1024 .f32) (g : Vec Ideal S1x1x1x1024 .f32) (r : Fin 256) (c : Fin 1024) :
    k0_pay24 o x g (ix2 r c) = x (ix3 0 r c) + g (ix4 0 0 0 c) * o (ix2 r c) := by
  pointwise [k0_pay24]

/-- The norm of that, scaled and shifted. -/
theorem modulated_at (o : FVec Ideal S256x1024 .f32) (x : Vec Ideal S1x256x1024 .f32) (g s t : Vec Ideal S1x1x1x1024 .f32) (n : Vec Ideal S1x1024 .f32) (r : Fin 256) (k : Fin 1024) :
    k0_pay26 o x g s t n (ix2 r k) = Rows.modulated (fun c => k0_pay24 o x g (ix2 r c)) (fun c => s (ix4 0 0 0 c)) (fun c => t (ix4 0 0 0 c))
      (fun c => n (ix2 0 c)) k := by
  pointwise [k0_pay26, k0_pay24]
  rfl

/-- The feed-forward part, gated and added. -/
theorem tail_at (x : FVec Ideal S256x1024 .f32) (g : Vec Ideal S1x1x1x1024 .f32) (u : FVec Ideal S256x1024 .bf16) (w13 : Vec Ideal S1024x5632 .bf16) (w2 : Vec Ideal S2816x1024 .bf16)
    (r : Fin 256) (c : Fin 1024) :
    k0_pay1 x (k0_pay25 g) u w13 w2 (ix3 0 r c) = x (ix2 r c) + g (ix4 0 0 0 c) * Rows.forward (Rows.hidden (fun k => u (ix2 r k)) (fun k j => w13 (ix2 k j)))
      (fun j c => w2 (ix2 j c)) c := by
  pointwise [k0_pay1, k0_pay25]
  rfl

end Cert.Kernel2Ideal.Out

end
-- ==== Proof.Out.Tile.lean ====
/- A tile of the state-space layer's last call as row functions of its blocks. -/
module

public import proofs.«01_k».proof.Proof.Gen.Kernel2Ideal.Value
public import proofs.«01_k».proof.Proof.Out.Read

@[expose] public section

set_option maxRecDepth 16384

noncomputable section

namespace Cert.Kernel2Ideal.Out

open Cert.Kernel2Ideal Cert.Kernel2Ideal.Gen
open Idealize.ShloMosaic Idealize.ShloMosaic.TcCoe Idealize.SL.Sem

section
variable (x0 x1 x2 x3 x4 x5 x6 x7 : Vec Ideal S1x256x1024 .f32) (x8 : Vec Ideal S1x1x6x1024 .f32) (x9 x10 x11 : Vec Ideal S1x1024 .f32)
  (x12 : Vec Ideal S2048x1024 .bf16) (x13 : Vec Ideal S1x1024 .f32) (x14 : Vec Ideal S1024x5632 .bf16) (x15 : Vec Ideal S2816x1024 .bf16)

/-- The gated scan of a row. -/
abbrev scanRow (r : Fin 256) (c : Fin 1024) : EReal := (x1 (ix3 0 r c) + x2 (ix3 0 r c) + x9 (ix2 0 c) * x3 (ix3 0 r c)) * Rows.silu (x4 (ix3 0 r c))

/-- The projection of a row. -/
abbrev projRow (r : Fin 256) (c : Fin 1024) : EReal :=
  Rows.project (scanRow x1 x2 x3 x4 x9 r) (fun k => x10 (ix2 0 k)) (fun k => x5 (ix3 0 r k) + x6 (ix3 0 r k)) (fun k => x11 (ix2 0 k))
    (fun k => Rows.silu (x7 (ix3 0 r k))) (fun j => x12 (ix2 j c))

theorem whole3 (x : Vec Ideal S1x256x1024 .f32) : View.ld x r0_0 = x := by
  funext i; idx_vars i; pointwise
  rw [Subsingleton.elim i0 0]

theorem whole2 (x : Vec Ideal S1x1024 .f32) : View.ld x r0_1 = x := by
  funext i; idx_vars i; pointwise
  rw [Subsingleton.elim i0 0]

theorem gate_row (r : Fin 256) (c : Fin 1024) :
    k0_pay27 x0 x1 x2 x3 x4 x5 x6 x7 x8 x9 x10 x11 x12 x13 x14 x15 (ix2 r c) = Rows.silu (x7 (ix3 0 r c)) := by
  unfold k0_pay27
  rw [whole3, gate_at]

set_option maxHeartbeats 4000000 in
theorem proj_at (r : Fin 256) (c : Fin 1024) :
    k0_pay28 x0 x1 x2 x3 x4 x5 x6 x7 x8 x9 x10 x11 x12 x13 x14 x15 (ix2 r c) = projRow x1 x2 x3 x4 x5 x6 x7 x9 x10 x11 x12 r c := by
  unfold k0_pay28
  rw [head67_at, head5_at, head4_at, head3_at, head12_at, head0_at, second_group_at, first_group_at]
  simp only [gate_row, whole3, whole2, scan_at]
  unfold projRow Rows.project Rows.groupAt Rows.headAt Rows.part
  simp only [Nat.zero_add, Nat.add_zero, Nat.reduceAdd]
  pointwise

/-- The residual with the projection, gated. -/
abbrev residRow (r : Fin 256) (c : Fin 1024) : EReal := x0 (ix3 0 r c) + x8 (ix4 0 0 2 c) * projRow x1 x2 x3 x4 x5 x6 x7 x9 x10 x11 x12 r c

theorem canon_whole (p : Vec Ideal S1x256x1024 .f32) (r : Fin 256) (c : Fin 1024) :
    View.canon (Val := Elt Ideal) [⟨r0_0, p⟩] (ix3 0 r c) = p (ix3 0 r c) := by
  have key : View.canon (Val := Elt Ideal) [⟨r0_0, p⟩] (r0_0.emb (ix3 0 r c)) = p (ix3 0 r c) := View.canon_cons_emb (L := []) r0_0 p (ix3 0 r c)
  refine Eq.trans (congrArg _ ?_) key
  idx_ext

/-- What is stored at a row and lane of the tile. -/
theorem out_at (r : Fin 256) (c : Fin 1024) :
    out0_16 x0 x1 x2 x3 x4 x5 x6 x7 x8 x9 x10 x11 x12 x13 x14 x15 (ix3 0 r c)
      = Rows.tail (residRow x0 x1 x2 x3 x4 x5 x6 x7 x8 x9 x10 x11 x12 r) (fun k => x8 (ix4 0 0 3 k)) (fun k => x8 (ix4 0 0 4 k)) (fun k => x8 (ix4 0 0 5 k))
          (fun k => x13 (ix2 0 k)) (fun k j => x14 (ix2 k j)) (fun j c => x15 (ix2 j c)) c := by
  unfold out0_16
  rw [canon_whole]
  rw [tail_at]
  simp only [modulated_at, resid_at, proj_at, whole3, whole2]
  unfold Rows.tail
  pointwise

end
end Cert.Kernel2Ideal.Out

end
-- ==== Proof.Out.Entry.lean ====
/- What the host lines hand the state-space layer's last call, and the call's blocks of it, read at an index. -/
module

public import proofs.«01_k».proof.Proof.Gen.Kernel2Ideal.Value
public import Idealize.ShloMosaic.Lib.Claim
public import Idealize.ShloMosaic.Lib.Pipeline.ValueKit
public import Idealize.ShloMosaic.Lib.Pointwise

@[expose] public section

set_option maxRecDepth 16384

noncomputable section

namespace Cert.Kernel2Ideal.Out

open Cert.Kernel2Ideal Cert.Kernel2Ideal.Gen
open Idealize.ShloMosaic Idealize.ShloMosaic.TcCoe Idealize.SL.Sem

/-- Two tables of modulations side by side. -/
def two (a b : FVec Ideal S8x1x6x1024 .f32) : FVec Ideal S8x2x6x1024 .f32 :=
  concatenate S8x2x6x1024 1 [⟨S8x1x6x1024, a⟩, ⟨S8x1x6x1024, b⟩] concatenates_S8x1x6x1024_S8x1x6x1024_S8x2x6x1024_d1

/-- The table: noughts, then the modulation. -/
def mods (t : FVec Ideal S8x6144 .f32) : FVec Ideal S8x2x6x1024 .f32 :=
  two (broadcastInDim S8x1x6x1024 ![] bcast_S_S8x1x6x1024 (constant (F := Ideal) S_ .f32 0x00000000#32)) (shapeCast _ t shapeCasts_S8x6144_S8x1x6x1024)

/-- The skip of each head, 64 times. -/
def skip (d : FVec Ideal S16 .f32) : FVec Ideal S1x1024 .f32 :=
  shapeCast _ (shapeCast S1024 (broadcastInDim S16x64 ![0] bcast_S16_S16x64_0 d) shapeCasts_S16x64_S1024) shapeCasts_S1024_S1x1024

/-- A row of gains. -/
def gains (w : FVec Ideal S1024 .f32) : FVec Ideal S1x1024 .f32 := shapeCast _ w shapeCasts_S1024_S1x1024

/-- The weights, rounded. -/
def projW (w : FVec Ideal S2048x1024 .f32) : FVec Ideal S2048x1024 .bf16 := truncf .bf16 w bitsLt_bf16_f32
def hiddenW (w : FVec Ideal S1024x5632 .f32) : FVec Ideal S1024x5632 .bf16 := truncf .bf16 w bitsLt_bf16_f32
def outW (w : FVec Ideal S2816x1024 .f32) : FVec Ideal S2816x1024 .bf16 := truncf .bf16 w bitsLt_bf16_f32

theorem mods_at (t : FVec Ideal S8x6144 .f32) (b : Fin 8) (i : Fin 6) (c : Fin 1024) :
    mods t (ix4 b 1 i c) = t (ix2 b ⟨1024 * i + c, by omega⟩) := by
  rw [show (⟨1024 * i + c, by omega⟩ : Fin 6144) = ⟨i * 1024 + c, by omega⟩ from Fin.ext (by simp only; omega)]
  pointwise [mods, two]

theorem skip_at (d : FVec Ideal S16 .f32) (c : Fin 1024) : skip d (ix2 0 c) = d (ix1 ⟨c / 64, by omega⟩) := by
  pointwise [skip]

theorem gains_at (w : FVec Ideal S1024 .f32) (c : Fin 1024) : gains w (ix2 0 c) = w (ix1 c) := by
  pointwise [gains]

variable (m : (ℓ : Loc nD τ sig) → Buf (Elt Ideal) ℓ) (c : Dev nD)

theorem V_mods : V m c main_v2 = mods (m ((c : Thread nD τ).loc main_arg8)) := by
  unfold V
  simp only [hostOps0]
  after_results_simp
  unfold mods
  refine congrArg₂ two ?_ ?_
  · after_results_simp <;> rfl
  · after_results_simp <;> rfl

theorem V_skip : V m c main_v5 = skip (m ((c : Thread nD τ).loc main_arg9)) := by
  unfold V
  simp only [hostOps0]
  after_results_simp <;> rfl

theorem V_scan_gain : V m c main_v6 = gains (m ((c : Thread nD τ).loc main_arg10)) := by
  unfold V
  simp only [hostOps0]
  after_results_simp <;> rfl

theorem V_ret_gain : V m c main_v7 = gains (m ((c : Thread nD τ).loc main_arg11)) := by
  unfold V
  simp only [hostOps0]
  after_results_simp <;> rfl

theorem V_proj : V m c main_v8 = projW (m ((c : Thread nD τ).loc main_arg12)) := by
  unfold V
  simp only [hostOps0]
  after_results_simp <;> rfl

theorem V_gain : V m c main_v9 = gains (m ((c : Thread nD τ).loc main_arg13)) := by
  unfold V
  simp only [hostOps0]
  after_results_simp <;> rfl

theorem V_hidden : V m c main_v10 = hiddenW (m ((c : Thread nD τ).loc main_arg14)) := by
  unfold V
  simp only [hostOps0]
  after_results_simp <;> rfl

theorem V_out : V m c main_v11 = outW (m ((c : Thread nD τ).loc main_arg15)) := by
  unfold V
  simp only [hostOps0]
  after_results_simp <;> rfl

/-! ## The blocks -/

theorem idx : ∀ t : Fin cfg0.N, win0_0.index t = ![(t : ℕ) / 16, t % 16 + 1, 0]
    ∧ win0_1.index t = ![(t : ℕ) / 16, t % 16 + 1, 0] ∧ win0_2.index t = ![(t : ℕ) / 16, t % 16 + 1, 0]
    ∧ win0_3.index t = ![(t : ℕ) / 16, t % 16 + 1, 0] ∧ win0_4.index t = ![(t : ℕ) / 16, t % 16 + 1, 0]
    ∧ win0_5.index t = ![(t : ℕ) / 16, t % 16 + 1, 0] ∧ win0_6.index t = ![(t : ℕ) / 16, t % 16 + 1, 0]
    ∧ win0_7.index t = ![(t : ℕ) / 16, t % 16 + 1, 0] ∧ win0_8.index t = ![(t : ℕ) / 16, 1, 0, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![(t : ℕ) / 16, t % 16, 0] :=
  (by decide +kernel : ∀ t : Fin grid0.N, _)

/-- The batch of a grid point, -/
def batch (t : Fin cfg0.N) : Fin 8 := ⟨(t : ℕ) / 16, by have : (t:ℕ) < 128 := t.isLt; omega⟩
/-- the row of the whole sequence its tile's row `r` is, -/
def row (t : Fin cfg0.N) (r : Fin 256) : Fin 4096 := ⟨256 * (t % 16) + r, by omega⟩
/-- context rows first. -/
def full (n : Fin 4096) : Fin 4352 := ⟨256 + n, by omega⟩

theorem blk0 (t : Fin cfg0.N) (r : Fin 256) (k : Fin 1024) : iblk m c 0 t (ix3 0 r k) = V m c main_arg0 (ix3 (batch t) (full (row t r)) k) := by
  unfold iblk
  generalize V m c = A
  blk_ext [idx t, batch, row, full]
theorem blk1 (t : Fin cfg0.N) (r : Fin 256) (k : Fin 1024) : iblk m c 1 t (ix3 0 r k) = V m c main_arg1 (ix3 (batch t) (full (row t r)) k) := by
  unfold iblk
  generalize V m c = A
  blk_ext [idx t, batch, row, full]
theorem blk2 (t : Fin cfg0.N) (r : Fin 256) (k : Fin 1024) : iblk m c 2 t (ix3 0 r k) = V m c main_arg2 (ix3 (batch t) (full (row t r)) k) := by
  unfold iblk
  generalize V m c = A
  blk_ext [idx t, batch, row, full]
theorem blk3 (t : Fin cfg0.N) (r : Fin 256) (k : Fin 1024) : iblk m c 3 t (ix3 0 r k) = V m c main_arg3 (ix3 (batch t) (full (row t r)) k) := by
  unfold iblk
  generalize V m c = A
  blk_ext [idx t, batch, row, full]
theorem blk4 (t : Fin cfg0.N) (r : Fin 256) (k : Fin 1024) : iblk m c 4 t (ix3 0 r k) = V m c main_arg4 (ix3 (batch t) (full (row t r)) k) := by
  unfold iblk
  generalize V m c = A
  blk_ext [idx t, batch, row, full]
theorem blk5 (t : Fin cfg0.N) (r : Fin 256) (k : Fin 1024) : iblk m c 5 t (ix3 0 r k) = V m c main_arg5 (ix3 (batch t) (full (row t r)) k) := by
  unfold iblk
  generalize V m c = A
  blk_ext [idx t, batch, row, full]
theorem blk6 (t : Fin cfg0.N) (r : Fin 256) (k : Fin 1024) : iblk m c 6 t (ix3 0 r k) = V m c main_arg6 (ix3 (batch t) (full (row t r)) k) := by
  unfold iblk
  generalize V m c = A
  blk_ext [idx t, batch, row, full]
theorem blk7 (t : Fin cfg0.N) (r : Fin 256) (k : Fin 1024) : iblk m c 7 t (ix3 0 r k) = V m c main_arg7 (ix3 (batch t) (full (row t r)) k) := by
  unfold iblk
  generalize V m c = A
  blk_ext [idx t, batch, row, full]
theorem blk8 (t : Fin cfg0.N) (i : Fin 6) (k : Fin 1024) : iblk m c 8 t (ix4 0 0 i k) = V m c main_v2 (ix4 (batch t) 1 i k) := by
  unfold iblk
  generalize V m c = A
  blk_ext [idx t, batch, row, full]
theorem blk9 (t : Fin cfg0.N) (k : Fin 1024) : iblk m c 9 t (ix2 0 k) = V m c main_v5 (ix2 0 k) := by
  unfold iblk
  generalize V m c = A
  blk_ext [idx t, batch, row, full]
theorem blk10 (t : Fin cfg0.N) (k : Fin 1024) : iblk m c 10 t (ix2 0 k) = V m c main_v6 (ix2 0 k) := by
  unfold iblk
  generalize V m c = A
  blk_ext [idx t, batch, row, full]
theorem blk11 (t : Fin cfg0.N) (k : Fin 1024) : iblk m c 11 t (ix2 0 k) = V m c main_v7 (ix2 0 k) := by
  unfold iblk
  generalize V m c = A
  blk_ext [idx t, batch, row, full]
theorem blk13 (t : Fin cfg0.N) (k : Fin 1024) : iblk m c 13 t (ix2 0 k) = V m c main_v9 (ix2 0 k) := by
  unfold iblk
  generalize V m c = A
  blk_ext [idx t, batch, row, full]
theorem blk12 (t : Fin cfg0.N) (j : Fin 2048) (k : Fin 1024) : iblk m c 12 t (ix2 j k) = V m c main_v8 (ix2 j k) := by
  unfold iblk
  generalize V m c = A
  blk_ext [idx t, batch, row, full]
theorem blk14 (t : Fin cfg0.N) (j : Fin 1024) (k : Fin 5632) : iblk m c 14 t (ix2 j k) = V m c main_v10 (ix2 j k) := by
  unfold iblk
  generalize V m c = A
  blk_ext [idx t, batch, row, full]
theorem blk15 (t : Fin cfg0.N) (j : Fin 2816) (k : Fin 1024) : iblk m c 15 t (ix2 j k) = V m c main_v11 (ix2 j k) := by
  unfold iblk
  generalize V m c = A
  blk_ext [idx t, batch, row, full]

end Cert.Kernel2Ideal.Out

end
-- ==== Proof.Out.Ref.lean ====
/-
  The reference of the state-space layer's last call: its stages named one by one, and each read at an index.
-/
module

public import proofs.«01_k».proof.Proof.Gen.Reference2Ideal.Run
public import proofs.«01_k».proof.Proof.Rows
public import Idealize.ShloMosaic.Lib.Pointwise

@[expose] public section

set_option maxRecDepth 16384

noncomputable section

namespace Cert.Reference2Ideal.Out

open Cert.Reference2Ideal Cert.Reference2Ideal.Gen Cert.Reference2Ideal.Value
open Idealize.ShloMosaic Idealize.ShloMosaic.TcCoe Idealize.SL.Sem

section
variable {F : FTy → Type} [FloatOps F]

/-- The scan's sum with its skip, gated. -/
def scan (yf yb xs z : FVec F S8x4352x1024 .f32) (d : FVec F S16 .f32) : FVec F S8x4352x2x512 .f32 :=
  mulf (shapeCast _ (addf (shapeCast _ (addf yf yb) shapeCasts_S8x4352x1024_S8x4352x2x8x64)
      (mulf (broadcastInDim S8x4352x2x8x64 ![0, 1, 2, 3, 4] bcast_S1x1x2x8x1_S8x4352x2x8x64_0_1_2_3_4
          (broadcastInDim S1x1x2x8x1 ![2, 3, 4] bcast_S2x8x1_S1x1x2x8x1_2_3_4 (shapeCast _ d shapeCasts_S16_S2x8x1)))
        (shapeCast _ xs shapeCasts_S8x4352x1024_S8x4352x2x8x64))) shapeCasts_S8x4352x2x8x64_S8x4352x2x512)
    (mulf (shapeCast _ z shapeCasts_S8x4352x1024_S8x4352x2x512)
      (Host.divf (broadcastInDim S8x4352x2x512 ![] bcast_S_S8x4352x2x512 (constant S_ .f32 0x3F800000#32))
        (addf (broadcastInDim S8x4352x2x512 ![] bcast_S_S8x4352x2x512 (constant S_ .f32 0x3F800000#32))
          (Host.exp (Host.negf (shapeCast _ z shapeCasts_S8x4352x1024_S8x4352x2x512))))))

/-- The norm of each group. -/
def scanNorm (y : FVec F S8x4352x2x512 .f32) (w : FVec F S1024 .f32) : FVec F S8x4352x1024 .f32 :=
  shapeCast _ (mulf (mulf y (broadcastInDim S8x4352x2x512 ![0, 1, 2, 3] bcast_S8x4352x2x1_S8x4352x2x512_0_1_2_3
      (Host.rsqrt (addf (Host.divf (broadcastInDim S8x4352x2x1 ![0, 1, 2] bcast_S8x4352x2_S8x4352x2x1_0_1_2
            (Host.reduceAdd (mulf y y) (constant S_ .f32 0x00000000#32) reducesTo_S8x4352x2x512_S8x4352x2_d3 h_S_))
          (broadcastInDim S8x4352x2x1 ![] bcast_S_S8x4352x2x1 (constant S_ .f32 0x44000000#32)))
        (broadcastInDim S8x4352x2x1 ![] bcast_S_S8x4352x2x1 (constant S_ .f32 0x358637BD#32))))))
    (broadcastInDim S8x4352x2x512 ![0, 1, 2, 3] bcast_S1x1x2x512_S8x4352x2x512_0_1_2_3
      (broadcastInDim S1x1x2x512 ![2, 3] bcast_S2x512_S1x1x2x512_2_3 (shapeCast _ w shapeCasts_S1024_S2x512)))) shapeCasts_S8x4352x2x512_S8x4352x1024

/-- The retention heads' sum. -/
def ret (a b : FVec F S8x4352x1024 .f32) : FVec F S8x4352x8x128 .f32 := shapeCast _ (addf a b) shapeCasts_S8x4352x1024_S8x4352x8x128

/-- A head's row less its mean. -/
def dev (y : FVec F S8x4352x8x128 .f32) : FVec F S8x4352x8x128 .f32 :=
  subf y (broadcastInDim S8x4352x8x128 ![0, 1, 2, 3] bcast_S8x4352x8x1_S8x4352x8x128_0_1_2_3
    (Host.divf (broadcastInDim S8x4352x8x1 ![0, 1, 2] bcast_S8x4352x8_S8x4352x8x1_0_1_2
        (Host.reduceAdd y (constant S_ .f32 0x00000000#32) reducesTo_S8x4352x8x128_S8x4352x8_d3 h_S_))
      (broadcastInDim S8x4352x8x1 ![] bcast_S_S8x4352x8x1 (constant S_ .f32 0x43000000#32))))

/-- Over the root of its variance, times its gain, gated. -/
def retNorm (y : FVec F S8x4352x8x128 .f32) (w : FVec F S1024 .f32) (g : FVec F S8x4352x1024 .f32) : FVec F S8x4352x1024 .f32 :=
  mulf (shapeCast _ (mulf (mulf y (broadcastInDim S8x4352x8x128 ![0, 1, 2, 3] bcast_S8x4352x8x1_S8x4352x8x128_0_1_2_3
      (Host.rsqrt (addf (Host.divf (broadcastInDim S8x4352x8x1 ![0, 1, 2] bcast_S8x4352x8_S8x4352x8x1_0_1_2
            (Host.reduceAdd (mulf y y) (constant S_ .f32 0x00000000#32) reducesTo_S8x4352x8x128_S8x4352x8_d3 h_S_))
          (broadcastInDim S8x4352x8x1 ![] bcast_S_S8x4352x8x1 (constant S_ .f32 0x43000000#32)))
        (broadcastInDim S8x4352x8x1 ![] bcast_S_S8x4352x8x1 (constant S_ .f32 0x358637BD#32))))))
    (broadcastInDim S8x4352x8x128 ![0, 1, 2, 3] bcast_S1x1x8x128_S8x4352x8x128_0_1_2_3
      (broadcastInDim S1x1x8x128 ![2, 3] bcast_S8x128_S1x1x8x128_2_3 (shapeCast _ w shapeCasts_S1024_S8x128)))) shapeCasts_S8x4352x8x128_S8x4352x1024)
    (mulf g (Host.divf (broadcastInDim S8x4352x1024 ![] bcast_S_S8x4352x1024 (constant S_ .f32 0x3F800000#32))
      (addf (broadcastInDim S8x4352x1024 ![] bcast_S_S8x4352x1024 (constant S_ .f32 0x3F800000#32)) (Host.exp (Host.negf g)))))

/-- The two side by side. -/
def joined (a b : FVec F S8x4352x1024 .f32) : FVec F S8x4352x2048 .f32 :=
  concatenate S8x4352x2048 2 [⟨S8x4352x1024, a⟩, ⟨S8x4352x1024, b⟩] concatenates_S8x4352x1024_S8x4352x1024_S8x4352x2048_d2

/-- The residual with the projection, gated. -/
def resid (x : FVec F S8x4352x1024 .f32) (t : FVec F S8x6144 .f32) (y : FVec F S8x4352x2048 .f32) (w : FVec F S2048x1024 .f32) : FVec F S8x4096x1024 .f32 :=
  addf (extractStridedSlice S8x4096x1024 ![0, 256, 0] x slices_S8x4352x1024_S8x4096x1024_0_256_0)
    (mulf (broadcastInDim S8x4096x1024 ![0, 1, 2] bcast_S8x1x1024_S8x4096x1024_0_1_2
        (broadcastInDim S8x1x1024 ![0, 2] bcast_S8x1024_S8x1x1024_0_2 (extractStridedSlice S8x1024 ![0, 2048] t slices_S8x6144_S8x1024_0_2048)))
      (Host.dotGeneral dot_S8x4096x2048_S2048x1024_S8x4096x1024_2_0_01_1_n_n none
        (extractStridedSlice S8x4096x2048 ![0, 256, 0] y slices_S8x4352x2048_S8x4096x2048_0_256_0) w))

/-- The norm, scaled and shifted. -/
def modulated (x : FVec F S8x4096x1024 .f32) (t : FVec F S8x6144 .f32) (w : FVec F S1024 .f32) : FVec F S8x4096x1024 .f32 :=
  addf (mulf (mulf (mulf x (broadcastInDim S8x4096x1024 ![0, 1, 2] bcast_S8x4096x1_S8x4096x1024_0_1_2
        (Host.rsqrt (addf (Host.divf (broadcastInDim S8x4096x1 ![0, 1] bcast_S8x4096_S8x4096x1_0_1
              (Host.reduceAdd (mulf x x) (constant S_ .f32 0x00000000#32) reducesTo_S8x4096x1024_S8x4096_d2 h_S_))
            (broadcastInDim S8x4096x1 ![] bcast_S_S8x4096x1 (constant S_ .f32 0x44800000#32)))
          (broadcastInDim S8x4096x1 ![] bcast_S_S8x4096x1 (constant S_ .f32 0x358637BD#32))))))
      (broadcastInDim S8x4096x1024 ![0, 1, 2] bcast_S1x1x1024_S8x4096x1024_0_1_2 (broadcastInDim S1x1x1024 ![2] bcast_S1024_S1x1x1024_2 w)))
    (broadcastInDim S8x4096x1024 ![0, 1, 2] bcast_S8x1x1024_S8x4096x1024_0_1_2
      (addf (broadcastInDim S8x1x1024 ![] bcast_S_S8x1x1024 (constant S_ .f32 0x3F800000#32))
        (broadcastInDim S8x1x1024 ![0, 2] bcast_S8x1024_S8x1x1024_0_2 (extractStridedSlice S8x1024 ![0, 4096] t slices_S8x6144_S8x1024_0_4096)))))
    (broadcastInDim S8x4096x1024 ![0, 1, 2] bcast_S8x1x1024_S8x4096x1024_0_1_2
      (broadcastInDim S8x1x1024 ![0, 2] bcast_S8x1024_S8x1x1024_0_2 (extractStridedSlice S8x1024 ![0, 3072] t slices_S8x6144_S8x1024_0_3072)))

/-- The hidden rows. -/
def hidden (u : FVec F S8x4096x1024 .f32) (w : FVec F S1024x5632 .f32) : FVec F S8x4096x5632 .f32 :=
  Host.dotGeneral dot_S8x4096x1024_S1024x5632_S8x4096x5632_2_0_01_1_n_n none u w

/-- The gated feed-forward part. -/
def forward (h : FVec F S8x4096x5632 .f32) (w : FVec F S2816x1024 .f32) : FVec F S8x4096x1024 .f32 :=
  Host.dotGeneral dot_S8x4096x2816_S2816x1024_S8x4096x1024_2_0_01_1_n_n none
    (mulf (mulf (extractStridedSlice S8x4096x2816 ![0, 0, 0] h slices_S8x4096x5632_S8x4096x2816_0_0_0)
        (Host.divf (broadcastInDim S8x4096x2816 ![] bcast_S_S8x4096x2816 (constant S_ .f32 0x3F800000#32))
          (addf (broadcastInDim S8x4096x2816 ![] bcast_S_S8x4096x2816 (constant S_ .f32 0x3F800000#32))
            (Host.exp (Host.negf (extractStridedSlice S8x4096x2816 ![0, 0, 0] h slices_S8x4096x5632_S8x4096x2816_0_0_0))))))
      (extractStridedSlice S8x4096x2816 ![0, 0, 2816] h slices_S8x4096x5632_S8x4096x2816_0_0_2816)) w

/-- The gated feed-forward part, gated by the modulation and added. -/
def tail (x : FVec F S8x4096x1024 .f32) (t : FVec F S8x6144 .f32) (n : FVec F S1024 .f32) (w13 : FVec F S1024x5632 .f32) (w2 : FVec F S2816x1024 .f32) :
    FVec F S8x4096x1024 .f32 :=
  addf x (mulf (broadcastInDim S8x4096x1024 ![0, 1, 2] bcast_S8x1x1024_S8x4096x1024_0_1_2
      (broadcastInDim S8x1x1024 ![0, 2] bcast_S8x1024_S8x1x1024_0_2 (extractStridedSlice S8x1024 ![0, 5120] t slices_S8x6144_S8x1024_0_5120)))
    (forward (hidden (modulated x t n) w13) w2))

/-- The reference. -/
def ref (x yf yb xs z rf rb rg : FVec F S8x4352x1024 .f32) (t : FVec F S8x6144 .f32) (d : FVec F S16 .f32) (sn rn : FVec F S1024 .f32)
    (wo : FVec F S2048x1024 .f32) (n : FVec F S1024 .f32) (w13 : FVec F S1024x5632 .f32) (w2 : FVec F S2816x1024 .f32) : FVec F S8x4096x1024 .f32 :=
  tail (resid x t (joined (scanNorm (scan yf yb xs z d) sn) (retNorm (dev (ret rf rb)) rn rg)) wo) t n w13 w2

set_option maxHeartbeats 4000000 in
/-- The run's result term is `ref` of the arguments. -/
theorem res_eq (m : (ℓ : Loc nD τ sig) → Buf (Elt F) ℓ) (c : Dev nD) :
    res_main_v100 m c = ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14))
      (m ((c.tc : Thread nD τ).loc main_arg15)) := by
  unfold res_main_v100 ref tail forward hidden modulated resid joined retNorm dev ret scanNorm scan
  rfl

end

end Cert.Reference2Ideal.Out

end
-- ==== Proof.Out.RefRead.lean ====
/-
  The reference of the state-space layer's last call, read at an index.
-/
module

public import proofs.«01_k».proof.Proof.Out.Ref

@[expose] public section

set_option maxRecDepth 16384

noncomputable section

namespace Cert.Reference2Ideal.Out

open Cert.Reference2Ideal Cert.Reference2Ideal.Gen Cert.Reference2Ideal.Value
open Idealize.ShloMosaic Idealize.ShloMosaic.TcCoe Idealize.SL.Sem

/-- One over one and the exponential of the opposite is the logistic value. -/
theorem silu_eq (x : EReal) : x * Ideal.div 1 (1 + Ideal.exp (-x)) = Rows.silu x := rfl

theorem scan_at (yf yb xs z : FVec Ideal S8x4352x1024 .f32) (d : FVec Ideal S16 .f32) (b : Fin 8) (n : Fin 4352) (i : Fin 2) (k : Fin 512)
    (c : Fin 1024) (hc : (c : ℕ) = i * 512 + k) :
    scan yf yb xs z d (ix4 b n i k) = (yf (ix3 b n c) + yb (ix3 b n c) + d (ix1 ⟨c / 64, by omega⟩) * xs (ix3 b n c)) * Rows.silu (z (ix3 b n c)) := by
  have e1 : (⟨i * 512 + k / 64 * 64 + k % 64, by omega⟩ : Fin 1024) = c := Fin.ext (by simp only; omega)
  have e2 : (⟨i * 512 + k, by omega⟩ : Fin 1024) = c := Fin.ext (by simp only; omega)
  have e3 : (⟨i * 8 + k / 64, by omega⟩ : Fin 16) = ⟨c / 64, by omega⟩ := Fin.ext (by simp only; omega)
  pointwise [scan]
  rw [e1, e2, e3]
  rfl

theorem scanNorm_at (y : FVec Ideal S8x4352x2x512 .f32) (w : FVec Ideal S1024 .f32) (b : Fin 8) (n : Fin 4352) (i : Fin 2) (k : Fin 512)
    (c : Fin 1024) (hc : (c : ℕ) = i * 512 + k) (v : Fin 512 → EReal) (hv : ∀ k, y (ix4 b n i k) = v k) (u : Fin 512 → EReal) (hu : w (ix1 c) = u k) :
    scanNorm y w (ix3 b n c) = Rows.rms (Ideal.ofBits .f32 0x44000000#32) v u k := by
  have e1 : (⟨c / 512, by omega⟩ : Fin 2) = i := Fin.ext (by simp only; omega)
  have e2 : (⟨c % 512, by omega⟩ : Fin 512) = k := Fin.ext (by simp only; omega)
  pointwise [scanNorm]
  rw [e1, e2, hu]
  simp only [hv]
  rfl

theorem ret_at (x y : FVec Ideal S8x4352x1024 .f32) (b : Fin 8) (n : Fin 4352) (i : Fin 8) (k : Fin 128) (c : Fin 1024) (hc : (c : ℕ) = i * 128 + k) :
    ret x y (ix4 b n i k) = x (ix3 b n c) + y (ix3 b n c) := by
  have e : (⟨i * 128 + k, by omega⟩ : Fin 1024) = c := Fin.ext (by simp only; omega)
  pointwise [ret]
  rw [e]

theorem dev_at (y : FVec Ideal S8x4352x8x128 .f32) (b : Fin 8) (n : Fin 4352) (i : Fin 8) (k : Fin 128) :
    dev y (ix4 b n i k) = Rows.dev (Ideal.ofBits .f32 0x43000000#32) (fun k => y (ix4 b n i k)) k := by
  pointwise [dev]
  rfl

theorem retNorm_at (y : FVec Ideal S8x4352x8x128 .f32) (w : FVec Ideal S1024 .f32) (g : FVec Ideal S8x4352x1024 .f32) (b : Fin 8) (n : Fin 4352)
    (i : Fin 8) (k : Fin 128) (c : Fin 1024) (hc : (c : ℕ) = i * 128 + k) (v : Fin 128 → EReal)
    (hv : ∀ k, y (ix4 b n i k) = Rows.dev (Ideal.ofBits .f32 0x43000000#32) v k) (u : Fin 128 → EReal) (hu : w (ix1 c) = u k) :
    retNorm y w g (ix3 b n c) = Rows.layer (Ideal.ofBits .f32 0x43000000#32) v u k * Rows.silu (g (ix3 b n c)) := by
  have e1 : (⟨c / 128, by omega⟩ : Fin 8) = i := Fin.ext (by simp only; omega)
  have e2 : (⟨c % 128, by omega⟩ : Fin 128) = k := Fin.ext (by simp only; omega)
  pointwise [retNorm]
  rw [e1, e2, hu]
  simp only [hv]
  rfl

theorem joined_left (x y : FVec Ideal S8x4352x1024 .f32) (b : Fin 8) (n : Fin 4352) (j : Fin 2048) (c : Fin 1024) (h : (j : ℕ) = c) :
    joined x y (ix3 b n j) = x (ix3 b n c) := by
  obtain rfl : j = ⟨c, c.isLt.trans (by decide)⟩ := Fin.ext h
  pointwise [joined]

theorem joined_right (x y : FVec Ideal S8x4352x1024 .f32) (b : Fin 8) (n : Fin 4352) (j : Fin 2048) (c : Fin 1024) (h : (j : ℕ) = 1024 + c) :
    joined x y (ix3 b n j) = y (ix3 b n c) := by
  obtain rfl : j = ⟨1024 + c, Nat.add_lt_add_left c.isLt 1024⟩ := Fin.ext h
  pointwise [joined]

theorem resid_at (x : FVec Ideal S8x4352x1024 .f32) (t : FVec Ideal S8x6144 .f32) (y : FVec Ideal S8x4352x2048 .f32) (w : FVec Ideal S2048x1024 .f32)
    (b : Fin 8) (n : Fin 4096) (c : Fin 1024) :
    resid x t y w (ix3 b n c) = x (ix3 b ⟨256 + n, by omega⟩ c) + t (ix2 b ⟨2048 + c, by omega⟩) * ∑ j, y (ix3 b ⟨256 + n, by omega⟩ j) * w (ix2 j c) := by
  pointwise [resid]

theorem modulated_at (x : FVec Ideal S8x4096x1024 .f32) (t : FVec Ideal S8x6144 .f32) (w : FVec Ideal S1024 .f32)
    (b : Fin 8) (n : Fin 4096) (c : Fin 1024) :
    modulated x t w (ix3 b n c) = Rows.modulated (fun k => x (ix3 b n k)) (fun k => t (ix2 b ⟨3072 + k, by omega⟩)) (fun k => t (ix2 b ⟨4096 + k, by omega⟩))
      (fun k => w (ix1 k)) c := by
  pointwise [modulated]
  rfl

theorem hidden_at (u : FVec Ideal S8x4096x1024 .f32) (w : FVec Ideal S1024x5632 .f32) (b : Fin 8) (n : Fin 4096) (j : Fin 5632) :
    hidden u w (ix3 b n j) = Rows.hidden (fun k => u (ix3 b n k)) (fun k j => w (ix2 k j)) j := by
  pointwise [hidden]
  rfl

theorem forward_at (h : FVec Ideal S8x4096x5632 .f32) (w : FVec Ideal S2816x1024 .f32) (b : Fin 8) (n : Fin 4096) (c : Fin 1024) :
    forward h w (ix3 b n c) = Rows.forward (fun j => h (ix3 b n j)) (fun j c => w (ix2 j c)) c := by
  pointwise [forward]
  rfl

theorem tail_at (x : FVec Ideal S8x4096x1024 .f32) (t : FVec Ideal S8x6144 .f32) (n : FVec Ideal S1024 .f32) (w13 : FVec Ideal S1024x5632 .f32)
    (w2 : FVec Ideal S2816x1024 .f32) (b : Fin 8) (r : Fin 4096) (c : Fin 1024) :
    tail x t n w13 w2 (ix3 b r c) = Rows.tail (fun k => x (ix3 b r k)) (fun k => t (ix2 b ⟨3072 + k, by omega⟩)) (fun k => t (ix2 b ⟨4096 + k, by omega⟩))
      (fun k => t (ix2 b ⟨5120 + k, by omega⟩)) (fun k => n (ix1 k)) (fun k j => w13 (ix2 k j)) (fun j c => w2 (ix2 j c)) c := by
  have e : tail x t n w13 w2 (ix3 b r c) = x (ix3 b r c) + t (ix2 b ⟨5120 + c, by omega⟩) * forward (hidden (modulated x t n) w13) w2 (ix3 b r c) := by
    unfold tail
    generalize forward (hidden (modulated x t n) w13) w2 = q
    pointwise
  rw [e, forward_at]
  simp only [hidden_at, modulated_at]
  rfl

/-! ## The projection -/

section
variable (yf yb xs z rf rb rg : FVec Ideal S8x4352x1024 .f32) (d : FVec Ideal S16 .f32) (sn rn : FVec Ideal S1024 .f32) (b : Fin 8) (n : Fin 4352)

/-- The gated scan of a row. -/
abbrev scanRow (c : Fin 1024) : EReal := (yf (ix3 b n c) + yb (ix3 b n c) + d (ix1 ⟨c / 64, by omega⟩) * xs (ix3 b n c)) * Rows.silu (z (ix3 b n c))

theorem group_part (W : Fin 2048 → EReal) (i : Fin 2) (o : ℕ) (ho : o = i * 512) (y : FVec Ideal S8x4352x1024 .f32) :
    ∑ k, Rows.part (fun j => joined (scanNorm (scan yf yb xs z d) sn) y (ix3 b n j) * W j) o 512 (by omega) k
      = Rows.groupAt (scanRow yf yb xs z d b n) (fun k => sn (ix1 k)) W o (by omega) := by
  unfold Rows.groupAt Rows.group
  refine Finset.sum_congr rfl fun k _ => ?_
  unfold Rows.part
  beta_reduce
  rw [joined_left _ _ b n ⟨o + k, by omega⟩ ⟨o + k, by omega⟩ rfl,
    scanNorm_at _ sn b n i k ⟨o + k, by omega⟩ (by simp only; omega) (fun k => scanRow yf yb xs z d b n ⟨o + k, by omega⟩)
      (fun k => scan_at yf yb xs z d b n i k ⟨o + k, by omega⟩ (by simp only; omega)) (fun k => sn (ix1 ⟨o + k, by omega⟩)) rfl]

theorem head_part (W : Fin 2048 → EReal) (i : Fin 8) (o : ℕ) (ho : o = i * 128) (x : FVec Ideal S8x4352x1024 .f32) :
    ∑ k, Rows.part (fun j => joined x (retNorm (dev (ret rf rb)) rn rg) (ix3 b n j) * W j) (1024 + o) 128 (by omega) k
      = Rows.headAt (fun c => rf (ix3 b n c) + rb (ix3 b n c)) (fun k => rn (ix1 k)) (fun c => Rows.silu (rg (ix3 b n c))) W o (by omega) := by
  unfold Rows.headAt Rows.head
  refine Finset.sum_congr rfl fun k _ => ?_
  unfold Rows.part
  beta_reduce
  rw [joined_right _ _ b n ⟨1024 + o + k, by omega⟩ ⟨o + k, by omega⟩ (by simp only; omega),
    retNorm_at _ rn rg b n i k ⟨o + k, by omega⟩ (by simp only; omega) (fun k => rf (ix3 b n ⟨o + k, by omega⟩) + rb (ix3 b n ⟨o + k, by omega⟩))
      (fun k => (dev_at _ b n i k).trans (congrArg (fun v => Rows.dev _ v k) (funext fun k => ret_at rf rb b n i k ⟨o + k, by omega⟩ (by simp only; omega))))
      (fun k => rn (ix1 ⟨o + k, by omega⟩)) rfl]

/-- The reference's product over all 2048 entries is the sum of the shares. -/
theorem project_at (W : Fin 2048 → EReal) :
    ∑ j, joined (scanNorm (scan yf yb xs z d) sn) (retNorm (dev (ret rf rb)) rn rg) (ix3 b n j) * W j
      = Rows.project (scanRow yf yb xs z d b n) (fun k => sn (ix1 k)) (fun c => rf (ix3 b n c) + rb (ix3 b n c)) (fun k => rn (ix1 k))
          (fun c => Rows.silu (rg (ix3 b n c))) W := by
  rw [Rows.sum_split]
  unfold Rows.project
  rw [← group_part yf yb xs z d sn b n W 0 0 rfl, ← group_part yf yb xs z d sn b n W 1 512 rfl, ← head_part rf rb rg rn b n W 0 0 rfl,
    ← head_part rf rb rg rn b n W 1 128 rfl, ← head_part rf rb rg rn b n W 2 256 rfl, ← head_part rf rb rg rn b n W 3 384 rfl,
    ← head_part rf rb rg rn b n W 4 512 rfl, ← head_part rf rb rg rn b n W 5 640 rfl, ← head_part rf rb rg rn b n W 6 768 rfl,
    ← head_part rf rb rg rn b n W 7 896 rfl]

end

/-- The reference's element: the residual row with the projection, gated, then the layer's end. -/
theorem ref_at (x yf yb xs z rf rb rg : FVec Ideal S8x4352x1024 .f32) (t : FVec Ideal S8x6144 .f32) (d : FVec Ideal S16 .f32) (sn rn : FVec Ideal S1024 .f32)
    (wo : FVec Ideal S2048x1024 .f32) (n : FVec Ideal S1024 .f32) (w13 : FVec Ideal S1024x5632 .f32) (w2 : FVec Ideal S2816x1024 .f32)
    (b : Fin 8) (r : Fin 4096) (c : Fin 1024) :
    ref x yf yb xs z rf rb rg t d sn rn wo n w13 w2 (ix3 b r c) = Rows.tail (fun k => x (ix3 b ⟨256 + r, by omega⟩ k) + t (ix2 b ⟨2048 + k, by omega⟩)
        * Rows.project (scanRow yf yb xs z d b ⟨256 + r, by omega⟩) (fun k => sn (ix1 k))
            (fun c => rf (ix3 b ⟨256 + r, by omega⟩ c) + rb (ix3 b ⟨256 + r, by omega⟩ c)) (fun k => rn (ix1 k))
            (fun c => Rows.silu (rg (ix3 b ⟨256 + r, by omega⟩ c))) (fun j => wo (ix2 j k)))
      (fun k => t (ix2 b ⟨3072 + k, by omega⟩)) (fun k => t (ix2 b ⟨4096 + k, by omega⟩))
      (fun k => t (ix2 b ⟨5120 + k, by omega⟩)) (fun k => n (ix1 k)) (fun k j => w13 (ix2 k j)) (fun j c => w2 (ix2 j c)) c := by
  unfold ref
  rw [tail_at]
  refine congrArg (fun v => Rows.tail v _ _ _ _ _ _ c) (funext fun k => ?_)
  rw [resid_at, project_at yf yb xs z rf rb rg d sn rn b ⟨256 + r, by omega⟩ (fun j => wo (ix2 j k))]

end Cert.Reference2Ideal.Out

end
-- ==== Proof.Out.Value.lean ====
/- What the state-space layer's last call leaves in its result array is the reference of its arguments. -/
module

public import proofs.«01_k».proof.Proof.Out.Tile
public import proofs.«01_k».proof.Proof.Out.Entry
public import proofs.«01_k».proof.Proof.Out.RefRead

@[expose] public section

set_option maxRecDepth 16384

noncomputable section

namespace Cert.Kernel2Ideal.Out

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The argument arrays. -/
abbrev arg0 : FVec Ideal S8x4352x1024 .f32 := m ((c : Thread nD τ).loc main_arg0)
abbrev arg1 : FVec Ideal S8x4352x1024 .f32 := m ((c : Thread nD τ).loc main_arg1)
abbrev arg2 : FVec Ideal S8x4352x1024 .f32 := m ((c : Thread nD τ).loc main_arg2)
abbrev arg3 : FVec Ideal S8x4352x1024 .f32 := m ((c : Thread nD τ).loc main_arg3)
abbrev arg4 : FVec Ideal S8x4352x1024 .f32 := m ((c : Thread nD τ).loc main_arg4)
abbrev arg5 : FVec Ideal S8x4352x1024 .f32 := m ((c : Thread nD τ).loc main_arg5)
abbrev arg6 : FVec Ideal S8x4352x1024 .f32 := m ((c : Thread nD τ).loc main_arg6)
abbrev arg7 : FVec Ideal S8x4352x1024 .f32 := m ((c : Thread nD τ).loc main_arg7)
abbrev arg8 : FVec Ideal S8x6144 .f32 := m ((c : Thread nD τ).loc main_arg8)
abbrev arg9 : FVec Ideal S16 .f32 := m ((c : Thread nD τ).loc main_arg9)
abbrev arg10 : FVec Ideal S1024 .f32 := m ((c : Thread nD τ).loc main_arg10)
abbrev arg11 : FVec Ideal S1024 .f32 := m ((c : Thread nD τ).loc main_arg11)
abbrev arg12 : FVec Ideal S2048x1024 .f32 := m ((c : Thread nD τ).loc main_arg12)
abbrev arg13 : FVec Ideal S1024 .f32 := m ((c : Thread nD τ).loc main_arg13)
abbrev arg14 : FVec Ideal S1024x5632 .f32 := m ((c : Thread nD τ).loc main_arg14)
abbrev arg15 : FVec Ideal S2816x1024 .f32 := m ((c : Thread nD τ).loc main_arg15)

/-- The reference of the arguments. -/
abbrev result : FVec Ideal S8x4096x1024 .f32 :=
  Reference2Ideal.Out.ref (arg0 m c) (arg1 m c) (arg2 m c) (arg3 m c) (arg4 m c) (arg5 m c) (arg6 m c) (arg7 m c) (arg8 m c) (arg9 m c) (arg10 m c)
    (arg11 m c) (arg12 m c) (arg13 m c) (arg14 m c) (arg15 m c)

theorem in0 (t : Fin cfg0.N) (r : Fin 256) (k : Fin 1024) : iblk m c 0 t (ix3 0 r k) = arg0 m c (ix3 (batch t) (full (row t r)) k) := by
  rw [blk0, V_main_arg0]
theorem in1 (t : Fin cfg0.N) (r : Fin 256) (k : Fin 1024) : iblk m c 1 t (ix3 0 r k) = arg1 m c (ix3 (batch t) (full (row t r)) k) := by
  rw [blk1, V_main_arg1]
theorem in2 (t : Fin cfg0.N) (r : Fin 256) (k : Fin 1024) : iblk m c 2 t (ix3 0 r k) = arg2 m c (ix3 (batch t) (full (row t r)) k) := by
  rw [blk2, V_main_arg2]
theorem in3 (t : Fin cfg0.N) (r : Fin 256) (k : Fin 1024) : iblk m c 3 t (ix3 0 r k) = arg3 m c (ix3 (batch t) (full (row t r)) k) := by
  rw [blk3, V_main_arg3]
theorem in4 (t : Fin cfg0.N) (r : Fin 256) (k : Fin 1024) : iblk m c 4 t (ix3 0 r k) = arg4 m c (ix3 (batch t) (full (row t r)) k) := by
  rw [blk4, V_main_arg4]
theorem in5 (t : Fin cfg0.N) (r : Fin 256) (k : Fin 1024) : iblk m c 5 t (ix3 0 r k) = arg5 m c (ix3 (batch t) (full (row t r)) k) := by
  rw [blk5, V_main_arg5]
theorem in6 (t : Fin cfg0.N) (r : Fin 256) (k : Fin 1024) : iblk m c 6 t (ix3 0 r k) = arg6 m c (ix3 (batch t) (full (row t r)) k) := by
  rw [blk6, V_main_arg6]
theorem in7 (t : Fin cfg0.N) (r : Fin 256) (k : Fin 1024) : iblk m c 7 t (ix3 0 r k) = arg7 m c (ix3 (batch t) (full (row t r)) k) := by
  rw [blk7, V_main_arg7]
theorem in8 (t : Fin cfg0.N) (i : Fin 6) (k : Fin 1024) : iblk m c 8 t (ix4 0 0 i k) = arg8 m c (ix2 (batch t) ⟨1024 * i + k, by omega⟩) := by
  rw [blk8, V_mods, mods_at]
theorem in9 (t : Fin cfg0.N) (k : Fin 1024) : iblk m c 9 t (ix2 0 k) = arg9 m c (ix1 ⟨k / 64, by omega⟩) := by
  rw [blk9, V_skip, skip_at]
theorem in10 (t : Fin cfg0.N) (k : Fin 1024) : iblk m c 10 t (ix2 0 k) = arg10 m c (ix1 k) := by
  rw [blk10, V_scan_gain, gains_at]
theorem in11 (t : Fin cfg0.N) (k : Fin 1024) : iblk m c 11 t (ix2 0 k) = arg11 m c (ix1 k) := by
  rw [blk11, V_ret_gain, gains_at]
theorem in12 (t : Fin cfg0.N) (j : Fin 2048) (k : Fin 1024) : iblk m c 12 t (ix2 j k) = arg12 m c (ix2 j k) := by
  rw [blk12, V_proj]
  rfl
theorem in13 (t : Fin cfg0.N) (k : Fin 1024) : iblk m c 13 t (ix2 0 k) = arg13 m c (ix1 k) := by
  rw [blk13, V_gain, gains_at]
theorem in14 (t : Fin cfg0.N) (j : Fin 1024) (k : Fin 5632) : iblk m c 14 t (ix2 j k) = arg14 m c (ix2 j k) := by
  rw [blk14, V_hidden]
  rfl
theorem in15 (t : Fin cfg0.N) (j : Fin 2816) (k : Fin 1024) : iblk m c 15 t (ix2 j k) = arg15 m c (ix2 j k) := by
  rw [blk15, V_out]
  rfl

/-- The tile of a grid point. -/
abbrev tile (t : Fin cfg0.N) : Vec Ideal S1x256x1024 .f32 :=
  out0_16 (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t)

theorem scan_row (t : Fin cfg0.N) (r : Fin 256) :
    scanRow (iblk m c 1 t) (iblk m c 2 t) (iblk m c 3 t) (iblk m c 4 t) (iblk m c 9 t) r
      = Reference2Ideal.Out.scanRow (arg1 m c) (arg2 m c) (arg3 m c) (arg4 m c) (arg9 m c) (batch t) (full (row t r)) := by
  funext k
  unfold scanRow
  rw [in1, in2, in3, in4, in9]

theorem resid_row (t : Fin cfg0.N) (r : Fin 256) :
    residRow (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) r
      = fun k => arg0 m c (ix3 (batch t) (full (row t r)) k) + arg8 m c (ix2 (batch t) ⟨2048 + k, by omega⟩)
        * Rows.project (Reference2Ideal.Out.scanRow (arg1 m c) (arg2 m c) (arg3 m c) (arg4 m c) (arg9 m c) (batch t) (full (row t r)))
            (fun k => arg10 m c (ix1 k)) (fun k => arg5 m c (ix3 (batch t) (full (row t r)) k) + arg6 m c (ix3 (batch t) (full (row t r)) k))
            (fun k => arg11 m c (ix1 k)) (fun k => Rows.silu (arg7 m c (ix3 (batch t) (full (row t r)) k))) (fun j => arg12 m c (ix2 j k)) := by
  funext k
  unfold residRow projRow
  rw [scan_row]
  simp only [in0, in5, in6, in7, in8, in10, in11, in12]
  rfl

set_option maxHeartbeats 1000000 in
theorem tile_at (t : Fin cfg0.N) (r : Fin 256) (k : Fin 1024) : tile m c t (ix3 0 r k) = result m c (ix3 (batch t) (row t r) k) := by
  unfold tile result
  rw [out_at, Reference2Ideal.Out.ref_at, resid_row]
  simp only [in8, in13, in14, in15]
  rfl

/-- The result array whole. -/
theorem final : (dats m 0 c).arrAt 16 cfg0.N = result m c := by
  refine (dats m 0 c).arrAt_eq_of_covers 16 _ (by decide +kernel) fun t hf y => ?_
  blk_simp
  rw [after0_16]
  have h0 : (y 0 : ℕ) < 1 := (y 0).isLt
  have h1 : (y 1 : ℕ) < 256 := (y 1).isLt
  have h2 : (y 2 : ℕ) < 1024 := (y 2).isLt
  have hx : y = ix3 (n0 := 1) (n1 := 256) (n2 := 1024) 0 ⟨y 1, h1⟩ ⟨y 2, h2⟩ := by
    funext a
    fin_cases a
    · exact Fin.ext (by show (y 0 : ℕ) = 0; omega)
    · exact Fin.ext (by show (y 1 : ℕ) = y 1; rfl)
    · exact Fin.ext (by show (y 2 : ℕ) = y 2; rfl)
  have he : (win0_16.blk t).view.emb y = ix3 (n0 := 8) (n1 := 4096) (n2 := 1024) (batch t) (row t ⟨y 1, h1⟩) ⟨y 2, h2⟩ := by
    have hi : win0_16.index t = ![(t : ℕ) / 16, t % 16, 0] := (idx t).2.2.2.2.2.2.2.2.2.2.2.2.2.2.2.2
    funext a
    fin_cases a
    · refine Fin.ext ?_
      show win0_16.index t 0 * 1 + 1 * (y 0 : ℕ) = (t : ℕ) / 16
      rw [hi]; show (t : ℕ) / 16 * 1 + 1 * (y 0 : ℕ) = _; omega
    · refine Fin.ext ?_
      show win0_16.index t 1 * 256 + 1 * (y 1 : ℕ) = 256 * (t % 16) + (y 1 : ℕ)
      rw [hi]; show (t : ℕ) % 16 * 256 + 1 * (y 1 : ℕ) = _; omega
    · refine Fin.ext ?_
      show win0_16.index t 2 * 1024 + 1 * (y 2 : ℕ) = (y 2 : ℕ)
      rw [hi]; show 0 * 1024 + 1 * (y 2 : ℕ) = _; omega
  rw [he]
  exact (congrArg (tile m c t) hx).trans (tile_at m c t ⟨y 1, h1⟩ ⟨y 2, h2⟩)

end Cert.Kernel2Ideal.Out

end
-- ==== Proof.Out.Claims.lean ====
/- The claims about the state-space layer's last call: the reference's frame, and the equality of the two results. -/
module

public import proofs.«01_k».proof.Defs
public import proofs.«01_k».proof.Proof.Out.Value

@[expose] public section

set_option maxRecDepth 16384

noncomputable section

namespace Cert.Kernel2Ideal.Out

open Idealize.ShloMosaic Idealize.ShloMosaic.TcCoe Idealize.SL.Sem

/-- The reference's arguments end unchanged; it has no semaphore. -/
theorem frame_ref (m : (ℓ : Loc Reference2Ideal.nD Reference2Ideal.τ Reference2Ideal.sig) → Buf (Elt Ideal) ℓ) (g : Dev Reference2Ideal.nD → PrngReg) :
    θ_run (Reference2Ideal.defs (F := Ideal)) (onTc (τ := Reference2Ideal.τ) (Reference2Ideal.main (F := Ideal))) ⟨m, fun _ => 0, g⟩ (fun r => (∀ c : Dev Reference2Ideal.nD,
      r.2.mem ((c.tc : Thread Reference2Ideal.nD Reference2Ideal.τ).loc Reference2Ideal.main_arg0) = m ((c.tc : Thread Reference2Ideal.nD Reference2Ideal.τ).loc Reference2Ideal.main_arg0)
      ∧ r.2.mem ((c.tc : Thread Reference2Ideal.nD Reference2Ideal.τ).loc Reference2Ideal.main_arg1) = m ((c.tc : Thread Reference2Ideal.nD Reference2Ideal.τ).loc Reference2Ideal.main_arg1)
      ∧ r.2.mem ((c.tc : Thread Reference2Ideal.nD Reference2Ideal.τ).loc Reference2Ideal.main_arg2) = m ((c.tc : Thread Reference2Ideal.nD Reference2Ideal.τ).loc Reference2Ideal.main_arg2)
      ∧ r.2.mem ((c.tc : Thread Reference2Ideal.nD Reference2Ideal.τ).loc Reference2Ideal.main_arg3) = m ((c.tc : Thread Reference2Ideal.nD Reference2Ideal.τ).loc Reference2Ideal.main_arg3)
      ∧ r.2.mem ((c.tc : Thread Reference2Ideal.nD Reference2Ideal.τ).loc Reference2Ideal.main_arg4) = m ((c.tc : Thread Reference2Ideal.nD Reference2Ideal.τ).loc Reference2Ideal.main_arg4)
      ∧ r.2.mem ((c.tc : Thread Reference2Ideal.nD Reference2Ideal.τ).loc Reference2Ideal.main_arg5) = m ((c.tc : Thread Reference2Ideal.nD Reference2Ideal.τ).loc Reference2Ideal.main_arg5)
      ∧ r.2.mem ((c.tc : Thread Reference2Ideal.nD Reference2Ideal.τ).loc Reference2Ideal.main_arg6) = m ((c.tc : Thread Reference2Ideal.nD Reference2Ideal.τ).loc Reference2Ideal.main_arg6)
      ∧ r.2.mem ((c.tc : Thread Reference2Ideal.nD Reference2Ideal.τ).loc Reference2Ideal.main_arg7) = m ((c.tc : Thread Reference2Ideal.nD Reference2Ideal.τ).loc Reference2Ideal.main_arg7)
      ∧ r.2.mem ((c.tc : Thread Reference2Ideal.nD Reference2Ideal.τ).loc Reference2Ideal.main_arg8) = m ((c.tc : Thread Reference2Ideal.nD Reference2Ideal.τ).loc Reference2Ideal.main_arg8)
      ∧ r.2.mem ((c.tc : Thread Reference2Ideal.nD Reference2Ideal.τ).loc Reference2Ideal.main_arg9) = m ((c.tc : Thread Reference2Ideal.nD Reference2Ideal.τ).loc Reference2Ideal.main_arg9)
      ∧ r.2.mem ((c.tc : Thread Reference2Ideal.nD Reference2Ideal.τ).loc Reference2Ideal.main_arg10) = m ((c.tc : Thread Reference2Ideal.nD Reference2Ideal.τ).loc Reference2Ideal.main_arg10)
      ∧ r.2.mem ((c.tc : Thread Reference2Ideal.nD Reference2Ideal.τ).loc Reference2Ideal.main_arg11) = m ((c.tc : Thread Reference2Ideal.nD Reference2Ideal.τ).loc Reference2Ideal.main_arg11)
      ∧ r.2.mem ((c.tc : Thread Reference2Ideal.nD Reference2Ideal.τ).loc Reference2Ideal.main_arg12) = m ((c.tc : Thread Reference2Ideal.nD Reference2Ideal.τ).loc Reference2Ideal.main_arg12)
      ∧ r.2.mem ((c.tc : Thread Reference2Ideal.nD Reference2Ideal.τ).loc Reference2Ideal.main_arg13) = m ((c.tc : Thread Reference2Ideal.nD Reference2Ideal.τ).loc Reference2Ideal.main_arg13)
      ∧ r.2.mem ((c.tc : Thread Reference2Ideal.nD Reference2Ideal.τ).loc Reference2Ideal.main_arg14) = m ((c.tc : Thread Reference2Ideal.nD Reference2Ideal.τ).loc Reference2Ideal.main_arg14)
      ∧ r.2.mem ((c.tc : Thread Reference2Ideal.nD Reference2Ideal.τ).loc Reference2Ideal.main_arg15) = m ((c.tc : Thread Reference2Ideal.nD Reference2Ideal.τ).loc Reference2Ideal.main_arg15))
      ∧ r.2.sem = fun _ => 0) :=
  (θ_run Reference2Ideal.defs _ _).mono (fun r h => ⟨fun c => (h c).2, sem_eq_zero_of_no_sems (by decide) r.2⟩)
    (Reference2Ideal.Value.run m g)

/-- Equal arguments give equal results. -/
theorem ref_congr (m : (ℓ : Loc Kernel2Ideal.nD Kernel2Ideal.τ Kernel2Ideal.sig) → Buf (Elt Ideal) ℓ) (c : Dev Kernel2Ideal.nD)
    (m' : (ℓ : Loc Reference2Ideal.nD Reference2Ideal.τ Reference2Ideal.sig) → Buf (Elt Ideal) ℓ)
    (e0 : m' ((c.tc : Thread Reference2Ideal.nD Reference2Ideal.τ).loc Reference2Ideal.main_arg0) = m ((c.tc : Thread Kernel2Ideal.nD Kernel2Ideal.τ).loc Kernel2Ideal.main_arg0)) (e1 : m' ((c.tc : Thread Reference2Ideal.nD Reference2Ideal.τ).loc Reference2Ideal.main_arg1) = m ((c.tc : Thread Kernel2Ideal.nD Kernel2Ideal.τ).loc Kernel2Ideal.main_arg1)) (e2 : m' ((c.tc : Thread Reference2Ideal.nD Reference2Ideal.τ).loc Reference2Ideal.main_arg2) = m ((c.tc : Thread Kernel2Ideal.nD Kernel2Ideal.τ).loc Kernel2Ideal.main_arg2)) (e3 : m' ((c.tc : Thread Reference2Ideal.nD Reference2Ideal.τ).loc Reference2Ideal.main_arg3) = m ((c.tc : Thread Kernel2Ideal.nD Kernel2Ideal.τ).loc Kernel2Ideal.main_arg3)) (e4 : m' ((c.tc : Thread Reference2Ideal.nD Reference2Ideal.τ).loc Reference2Ideal.main_arg4) = m ((c.tc : Thread Kernel2Ideal.nD Kernel2Ideal.τ).loc Kernel2Ideal.main_arg4)) (e5 : m' ((c.tc : Thread Reference2Ideal.nD Reference2Ideal.τ).loc Reference2Ideal.main_arg5) = m ((c.tc : Thread Kernel2Ideal.nD Kernel2Ideal.τ).loc Kernel2Ideal.main_arg5)) (e6 : m' ((c.tc : Thread Reference2Ideal.nD Reference2Ideal.τ).loc Reference2Ideal.main_arg6) = m ((c.tc : Thread Kernel2Ideal.nD Kernel2Ideal.τ).loc Kernel2Ideal.main_arg6)) (e7 : m' ((c.tc : Thread Reference2Ideal.nD Reference2Ideal.τ).loc Reference2Ideal.main_arg7) = m ((c.tc : Thread Kernel2Ideal.nD Kernel2Ideal.τ).loc Kernel2Ideal.main_arg7)) (e8 : m' ((c.tc : Thread Reference2Ideal.nD Reference2Ideal.τ).loc Reference2Ideal.main_arg8) = m ((c.tc : Thread Kernel2Ideal.nD Kernel2Ideal.τ).loc Kernel2Ideal.main_arg8)) (e9 : m' ((c.tc : Thread Reference2Ideal.nD Reference2Ideal.τ).loc Reference2Ideal.main_arg9) = m ((c.tc : Thread Kernel2Ideal.nD Kernel2Ideal.τ).loc Kernel2Ideal.main_arg9)) (e10 : m' ((c.tc : Thread Reference2Ideal.nD Reference2Ideal.τ).loc Reference2Ideal.main_arg10) = m ((c.tc : Thread Kernel2Ideal.nD Kernel2Ideal.τ).loc Kernel2Ideal.main_arg10)) (e11 : m' ((c.tc : Thread Reference2Ideal.nD Reference2Ideal.τ).loc Reference2Ideal.main_arg11) = m ((c.tc : Thread Kernel2Ideal.nD Kernel2Ideal.τ).loc Kernel2Ideal.main_arg11)) (e12 : m' ((c.tc : Thread Reference2Ideal.nD Reference2Ideal.τ).loc Reference2Ideal.main_arg12) = m ((c.tc : Thread Kernel2Ideal.nD Kernel2Ideal.τ).loc Kernel2Ideal.main_arg12)) (e13 : m' ((c.tc : Thread Reference2Ideal.nD Reference2Ideal.τ).loc Reference2Ideal.main_arg13) = m ((c.tc : Thread Kernel2Ideal.nD Kernel2Ideal.τ).loc Kernel2Ideal.main_arg13)) (e14 : m' ((c.tc : Thread Reference2Ideal.nD Reference2Ideal.τ).loc Reference2Ideal.main_arg14) = m ((c.tc : Thread Kernel2Ideal.nD Kernel2Ideal.τ).loc Kernel2Ideal.main_arg14)) (e15 : m' ((c.tc : Thread Reference2Ideal.nD Reference2Ideal.τ).loc Reference2Ideal.main_arg15) = m ((c.tc : Thread Kernel2Ideal.nD Kernel2Ideal.τ).loc Kernel2Ideal.main_arg15)) :
    Reference2Ideal.Out.ref (m' ((c.tc : Thread Reference2Ideal.nD Reference2Ideal.τ).loc Reference2Ideal.main_arg0)) (m' ((c.tc : Thread Reference2Ideal.nD Reference2Ideal.τ).loc Reference2Ideal.main_arg1)) (m' ((c.tc : Thread Reference2Ideal.nD Reference2Ideal.τ).loc Reference2Ideal.main_arg2)) (m' ((c.tc : Thread Reference2Ideal.nD Reference2Ideal.τ).loc Reference2Ideal.main_arg3)) (m' ((c.tc : Thread Reference2Ideal.nD Reference2Ideal.τ).loc Reference2Ideal.main_arg4)) (m' ((c.tc : Thread Reference2Ideal.nD Reference2Ideal.τ).loc Reference2Ideal.main_arg5)) (m' ((c.tc : Thread Reference2Ideal.nD Reference2Ideal.τ).loc Reference2Ideal.main_arg6)) (m' ((c.tc : Thread Reference2Ideal.nD Reference2Ideal.τ).loc Reference2Ideal.main_arg7)) (m' ((c.tc : Thread Reference2Ideal.nD Reference2Ideal.τ).loc Reference2Ideal.main_arg8)) (m' ((c.tc : Thread Reference2Ideal.nD Reference2Ideal.τ).loc Reference2Ideal.main_arg9)) (m' ((c.tc : Thread Reference2Ideal.nD Reference2Ideal.τ).loc Reference2Ideal.main_arg10)) (m' ((c.tc : Thread Reference2Ideal.nD Reference2Ideal.τ).loc Reference2Ideal.main_arg11)) (m' ((c.tc : Thread Reference2Ideal.nD Reference2Ideal.τ).loc Reference2Ideal.main_arg12)) (m' ((c.tc : Thread Reference2Ideal.nD Reference2Ideal.τ).loc Reference2Ideal.main_arg13)) (m' ((c.tc : Thread Reference2Ideal.nD Reference2Ideal.τ).loc Reference2Ideal.main_arg14)) (m' ((c.tc : Thread Reference2Ideal.nD Reference2Ideal.τ).loc Reference2Ideal.main_arg15))
      = result m c := by
  rw [e0, e1, e2, e3, e4, e5, e6, e7, e8, e9, e10, e11, e12, e13, e14, e15]

/-- The call and the reference end with one array. -/
theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => result m c, ?_, ?_⟩
  · exact (θ_run Kernel2Ideal.defs _ _).mono (fun r h c => ⟨(h c).1.trans (final m c), (h c).2⟩) (Kernel2Ideal.Value.run_blocks m g)
  · refine (θ_run Reference2Ideal.defs _ _).mono (fun r h c => ⟨?_, (h c).2⟩) (Reference2Ideal.Value.run m' g')
    obtain ⟨a0, a1, a2, a3, a4, a5, a6, a7, a8, a9, a10, a11, a12, a13, a14, a15⟩ := hagree c
    exact ((h c).1.trans (Reference2Ideal.Out.res_eq m' c)).trans (ref_congr m c m' a0 a1 a2 a3 a4 a5 a6 a7 a8 a9 a10 a11 a12 a13 a14 a15)

end Cert.Kernel2Ideal.Out

end
-- ==== Proof.Mid.Read.lean ====
/- What the attention layer's last call stores for a tile of 256 rows, read at an index. -/
module

public import proofs.«01_k».proof.Proof.Gen.Kernel3Ideal.Skeleton
public import proofs.«01_k».proof.Proof.Rows
public import Idealize.ShloMosaic.Lib.Claim
public import Idealize.ShloMosaic.Lib.Pointwise

@[expose] public section

set_option maxRecDepth 16384

noncomputable section

namespace Cert.Kernel3Ideal.Mid

open Cert.Kernel3Ideal Cert.Kernel3Ideal.Gen
open Idealize.ShloMosaic Idealize.ShloMosaic.TcCoe Idealize.SL.Sem

/-- Is this the tile of the context? -/
abbrev isContext (i : grid0.Coords) : BitVec 1 := Scalar.cmpi .slt (BitVec.ofNat 32 (i 1).val) 1#32

/-- The context's row or the latents', with the projection, gated: on the context's tile, -/
theorem resid_ctx (i : grid0.Coords) (h : isContext i = 1) (a b : Vec Ideal S1x256x512 .bf16) (u v : Vec Ideal S512x1024 .bf16) (x y : Vec Ideal S1x256x1024 .f32)
    (g : Vec Ideal S1x1x1x1024 .f32) (r : Fin 256) (c : Fin 1024) :
    k0_pay1 i a u b v x y g (ix2 r c) = x (ix3 0 r c) + g (ix4 0 0 0 c) * (∑ k, a (ix3 0 r k) * u (ix2 k c) + ∑ k, b (ix3 0 r k) * v (ix2 k c)) := by
  unfold k0_pay1
  simp only [Scalar.select, h, if_true]
  pointwise

/-- and on the others. -/
theorem resid_lat (i : grid0.Coords) (h : ¬ isContext i = 1) (a b : Vec Ideal S1x256x512 .bf16) (u v : Vec Ideal S512x1024 .bf16) (x y : Vec Ideal S1x256x1024 .f32)
    (g : Vec Ideal S1x1x1x1024 .f32) (r : Fin 256) (c : Fin 1024) :
    k0_pay1 i a u b v x y g (ix2 r c) = y (ix3 0 r c) + g (ix4 0 0 0 c) * (∑ k, a (ix3 0 r k) * u (ix2 k c) + ∑ k, b (ix3 0 r k) * v (ix2 k c)) := by
  unfold k0_pay1
  simp only [Scalar.select, h, if_false]
  pointwise

/-- The norm, the gated feed-forward part, and the sum. -/
theorem tail_at (x : FVec Ideal S256x1024 .f32) (s t g : Vec Ideal S1x1x1x1024 .f32) (n : Vec Ideal S1x1024 .f32)
    (w13 : Vec Ideal S1024x5632 .bf16) (w2 : Vec Ideal S2816x1024 .bf16) (r : Fin 256) (c : Fin 1024) :
    k0_pay4 x (k0_pay2 s) (k0_pay3 t) g n w13 w2 (ix3 0 r c) = Rows.tail (fun k => x (ix2 r k)) (fun k => s (ix4 0 0 0 k)) (fun k => t (ix4 0 0 0 k))
      (fun k => g (ix4 0 0 0 k)) (fun k => n (ix2 0 k)) (fun k j => w13 (ix2 k j)) (fun j c => w2 (ix2 j c)) c := by
  pointwise [k0_pay4, k0_pay2, k0_pay3]
  rfl

end Cert.Kernel3Ideal.Mid

end
-- ==== Proof.Mid.Tile.lean ====
/- A tile of the attention layer's last call as row functions of its blocks. -/
module

public import proofs.«01_k».proof.Proof.Gen.Kernel3Ideal.Value
public import proofs.«01_k».proof.Proof.Mid.Read

@[expose] public section

set_option maxRecDepth 16384

noncomputable section

namespace Cert.Kernel3Ideal.Mid

open Cert.Kernel3Ideal Cert.Kernel3Ideal.Gen
open Idealize.ShloMosaic Idealize.ShloMosaic.TcCoe Idealize.SL.Sem

theorem canon_whole (p : Vec Ideal S1x256x1024 .f32) (r : Fin 256) (c : Fin 1024) :
    View.canon (Val := Elt Ideal) [⟨r0_3, p⟩] (ix3 0 r c) = p (ix3 0 r c) := by
  have key : View.canon (Val := Elt Ideal) [⟨r0_3, p⟩] (r0_3.emb (ix3 0 r c)) = p (ix3 0 r c) := View.canon_cons_emb (L := []) r0_3 p (ix3 0 r c)
  refine Eq.trans (congrArg _ ?_) key
  idx_ext

section
variable (i : grid0.Coords) (x0 x1 : Vec Ideal S1x256x1024 .f32) (x2 x3 : Vec Ideal S1x256x512 .bf16) (x4 : Vec Ideal S1x1x6x1024 .f32)
  (x5 : Vec Ideal S1024x1024 .bf16) (x6 : Vec Ideal S1x1024 .f32) (x7 : Vec Ideal S1024x5632 .bf16) (x8 : Vec Ideal S2816x1024 .bf16)

/-- A row with the projection, gated. -/
abbrev residRow (x : Vec Ideal S1x256x1024 .f32) (r : Fin 256) (c : Fin 1024) : EReal :=
  x (ix3 0 r c) + x4 (ix4 0 0 2 c) * (∑ k : Fin 512, x2 (ix3 0 r k) * x5 (ix2 ⟨k, by omega⟩ c) + ∑ k : Fin 512, x3 (ix3 0 r k) * x5 (ix2 ⟨512 + k, by omega⟩ c))

/-- What is stored at a row and lane of the context's tile, -/
theorem out_ctx (h : isContext i = 1) (r : Fin 256) (c : Fin 1024) :
    out0_9 i x0 x1 x2 x3 x4 x5 x6 x7 x8 (ix3 0 r c)
      = Rows.tail (residRow x2 x3 x4 x5 x0 r) (fun k => x4 (ix4 0 0 3 k)) (fun k => x4 (ix4 0 0 4 k)) (fun k => x4 (ix4 0 0 5 k))
          (fun k => x6 (ix2 0 k)) (fun k j => x7 (ix2 k j)) (fun j c => x8 (ix2 j c)) c := by
  unfold out0_9
  rw [canon_whole, tail_at]
  simp only [resid_ctx i h]
  unfold residRow
  generalize hT : @Rows.tail = T
  pointwise

/-- and of the others. -/
theorem out_lat (h : ¬ isContext i = 1) (r : Fin 256) (c : Fin 1024) :
    out0_9 i x0 x1 x2 x3 x4 x5 x6 x7 x8 (ix3 0 r c)
      = Rows.tail (residRow x2 x3 x4 x5 x1 r) (fun k => x4 (ix4 0 0 3 k)) (fun k => x4 (ix4 0 0 4 k)) (fun k => x4 (ix4 0 0 5 k))
          (fun k => x6 (ix2 0 k)) (fun k j => x7 (ix2 k j)) (fun j c => x8 (ix2 j c)) c := by
  unfold out0_9
  rw [canon_whole, tail_at]
  simp only [resid_lat i h]
  unfold residRow
  generalize hT : @Rows.tail = T
  pointwise

end
end Cert.Kernel3Ideal.Mid

end
-- ==== Proof.Mid.Heads.lean ====
/-
  Sums over the lanes of the two attentions of the first layer: cut in half, the first half's heads in another order.
-/
module

public import proofs.«01_k».proof.Proof.Rows

@[expose] public section

noncomputable section

namespace Cert.Rows

/-- Where a lane of the kernel's order, the repeat of a head first, lies in the order of the weights, the key head first; -/
def headOf (k : Fin 512) : Fin 512 := ⟨k % 128 / 64 * 256 + k / 128 * 64 + k % 64, by omega⟩
/-- and back. -/
def laneOf (j : Fin 512) : Fin 512 := ⟨j % 256 / 64 * 128 + j / 256 * 64 + j % 64, by omega⟩

theorem lane_head (k : Fin 512) : laneOf (headOf k) = k := Fin.ext (by simp only [laneOf, headOf]; omega)
theorem head_lane (j : Fin 512) : headOf (laneOf j) = j := Fin.ext (by simp only [laneOf, headOf]; omega)

/-- The order of the heads does not matter to a sum. -/
theorem sum_heads (f : Fin 512 → EReal) : ∑ j, f j = ∑ k, f (headOf k) :=
  (Equiv.sum_comp (⟨headOf, laneOf, lane_head, head_lane⟩ : Fin 512 ≃ Fin 512) f).symm

/-- A sum over both halves. -/
theorem sum_halves (f : Fin 1024 → EReal) : ∑ j, f j = ∑ k : Fin 512, f ⟨k, by omega⟩ + ∑ k : Fin 512, f ⟨512 + k, by omega⟩ := by
  have h : ∑ j, f j = ∑ k, part f 0 (512 + 512) (by omega) k := Finset.sum_congr rfl fun k _ => congrArg f (Fin.ext (by simp))
  rw [h, sum_cut 512 512 0]
  unfold part
  simp only [Nat.zero_add]

/-- The projection of a row of the two attentions. -/
def mix (a b : Fin 512 → EReal) (W : Fin 1024 → EReal) : EReal :=
  ∑ k : Fin 512, a k * W ⟨headOf k, by omega⟩ + ∑ k : Fin 512, b k * W ⟨512 + k, by omega⟩

/-- The product over all 1024 lanes, the first attention's heads reordered, is the projection. -/
theorem mix_eq (a b : Fin 512 → EReal) (W v : Fin 1024 → EReal) (ha : ∀ j : Fin 512, v ⟨j, by omega⟩ = a (laneOf j))
    (hb : ∀ j : Fin 512, v ⟨512 + j, by omega⟩ = b j) : ∑ j, v j * W j = mix a b W := by
  rw [sum_halves, sum_heads (fun j : Fin 512 => v ⟨j, by omega⟩ * W ⟨j, by omega⟩)]
  unfold mix
  simp only [ha, hb, lane_head]

end Cert.Rows

end
-- ==== Proof.Mid.Entry.lean ====
/- What the host lines hand the attention layer's last call, and the call's blocks of it, read at an index. -/
module

public import proofs.«01_k».proof.Proof.Gen.Kernel3Ideal.Value
public import proofs.«01_k».proof.Proof.Mid.Read
public import proofs.«01_k».proof.Proof.Mid.Heads
public import Idealize.ShloMosaic.Lib.Claim
public import Idealize.ShloMosaic.Lib.Pipeline.ValueKit
public import Idealize.ShloMosaic.Lib.Pointwise

@[expose] public section

set_option maxRecDepth 16384

noncomputable section

namespace Cert.Kernel3Ideal.Mid

open Cert.Kernel3Ideal Cert.Kernel3Ideal.Gen
open Idealize.ShloMosaic Idealize.ShloMosaic.TcCoe Idealize.SL.Sem

/-- Two tables of modulations side by side. -/
def two (a b : FVec Ideal S8x1x6x1024 .f32) : FVec Ideal S8x2x6x1024 .f32 :=
  concatenate S8x2x6x1024 1 [⟨S8x1x6x1024, a⟩, ⟨S8x1x6x1024, b⟩] concatenates_S8x1x6x1024_S8x1x6x1024_S8x2x6x1024_d1

/-- The context's modulation, the same for each batch. -/
def ctxMods (t : FVec Ideal S6144 .f32) : FVec Ideal S8x1x6x1024 .f32 :=
  broadcastInDim S8x1x6x1024 ![0, 1, 2, 3] bcast_S1x1x6x1024_S8x1x6x1024_0_1_2_3 (shapeCast _ t shapeCasts_S6144_S1x1x6x1024)

/-- The latents' modulation. -/
def latMods (t : FVec Ideal S8x6144 .f32) : FVec Ideal S8x1x6x1024 .f32 := shapeCast _ t shapeCasts_S8x6144_S8x1x6x1024

/-- The upper half of the projection's weights, head by head, -/
def byHead (w : FVec Ideal S1024x1024 .f32) : FVec Ideal S8x64x1024 .f32 :=
  shapeCast _ (extractStridedSlice S512x1024 ![0, 0] w slices_S1024x1024_S512x1024_0_0) shapeCasts_S512x1024_S8x64x1024

/-- each head, -/
def head0 (u : FVec Ideal S8x64x1024 .f32) : FVec Ideal S64x1024 .f32 :=
  shapeCast _ (extractStridedSlice S1x64x1024 ![0, 0, 0] u slices_S8x64x1024_S1x64x1024_0_0_0) shapeCasts_S1x64x1024_S64x1024
def head1 (u : FVec Ideal S8x64x1024 .f32) : FVec Ideal S64x1024 .f32 :=
  shapeCast _ (extractStridedSlice S1x64x1024 ![1, 0, 0] u slices_S8x64x1024_S1x64x1024_1_0_0) shapeCasts_S1x64x1024_S64x1024
def head2 (u : FVec Ideal S8x64x1024 .f32) : FVec Ideal S64x1024 .f32 :=
  shapeCast _ (extractStridedSlice S1x64x1024 ![2, 0, 0] u slices_S8x64x1024_S1x64x1024_2_0_0) shapeCasts_S1x64x1024_S64x1024
def head3 (u : FVec Ideal S8x64x1024 .f32) : FVec Ideal S64x1024 .f32 :=
  shapeCast _ (extractStridedSlice S1x64x1024 ![3, 0, 0] u slices_S8x64x1024_S1x64x1024_3_0_0) shapeCasts_S1x64x1024_S64x1024
def head4 (u : FVec Ideal S8x64x1024 .f32) : FVec Ideal S64x1024 .f32 :=
  shapeCast _ (extractStridedSlice S1x64x1024 ![4, 0, 0] u slices_S8x64x1024_S1x64x1024_4_0_0) shapeCasts_S1x64x1024_S64x1024
def head5 (u : FVec Ideal S8x64x1024 .f32) : FVec Ideal S64x1024 .f32 :=
  shapeCast _ (extractStridedSlice S1x64x1024 ![5, 0, 0] u slices_S8x64x1024_S1x64x1024_5_0_0) shapeCasts_S1x64x1024_S64x1024
def head6 (u : FVec Ideal S8x64x1024 .f32) : FVec Ideal S64x1024 .f32 :=
  shapeCast _ (extractStridedSlice S1x64x1024 ![6, 0, 0] u slices_S8x64x1024_S1x64x1024_6_0_0) shapeCasts_S1x64x1024_S64x1024
def head7 (u : FVec Ideal S8x64x1024 .f32) : FVec Ideal S64x1024 .f32 :=
  shapeCast _ (extractStridedSlice S1x64x1024 ![7, 0, 0] u slices_S8x64x1024_S1x64x1024_7_0_0) shapeCasts_S1x64x1024_S64x1024

/-- two heads, -/
def pair (a b : FVec Ideal S64x1024 .f32) : FVec Ideal S128x1024 .f32 :=
  concatenate S128x1024 0 [⟨S64x1024, a⟩, ⟨S64x1024, b⟩] concatenates_S64x1024_S64x1024_S128x1024_d0

/-- four pairs of heads, -/
def pairs (a b c d : FVec Ideal S128x1024 .f32) : FVec Ideal S512x1024 .f32 :=
  concatenate S512x1024 0 [⟨S128x1024, a⟩, ⟨S128x1024, b⟩, ⟨S128x1024, c⟩, ⟨S128x1024, d⟩]
    concatenates_S128x1024_S128x1024_S128x1024_S128x1024_S512x1024_d0

/-- and that half with its rows in the order of the kernel's lanes. -/
def upper (w : FVec Ideal S1024x1024 .f32) : FVec Ideal S512x1024 .f32 :=
  pairs (pair (head0 (byHead w)) (head4 (byHead w))) (pair (head1 (byHead w)) (head5 (byHead w)))
    (pair (head2 (byHead w)) (head6 (byHead w))) (pair (head3 (byHead w)) (head7 (byHead w)))

/-- The lower half. -/
def lower (w : FVec Ideal S1024x1024 .f32) : FVec Ideal S512x1024 .f32 := extractStridedSlice S512x1024 ![512, 0] w slices_S1024x1024_S512x1024_512_0

/-- Two halves of weights, rounded. -/
def halves (a b : FVec Ideal S512x1024 .f32) : FVec Ideal S1024x1024 .bf16 :=
  truncf .bf16 (concatenate S1024x1024 0 [⟨S512x1024, a⟩, ⟨S512x1024, b⟩] concatenates_S512x1024_S512x1024_S1024x1024_d0) bitsLt_bf16_f32

/-- A row of gains. -/
def gains (w : FVec Ideal S1024 .f32) : FVec Ideal S1x1024 .f32 := shapeCast _ w shapeCasts_S1024_S1x1024

/-- The weights, rounded. -/
def hiddenW (w : FVec Ideal S1024x5632 .f32) : FVec Ideal S1024x5632 .bf16 := truncf .bf16 w bitsLt_bf16_f32
def outW (w : FVec Ideal S2816x1024 .f32) : FVec Ideal S2816x1024 .bf16 := truncf .bf16 w bitsLt_bf16_f32

theorem mods_ctx (t : FVec Ideal S6144 .f32) (u : FVec Ideal S8x1x6x1024 .f32) (b : Fin 8) (i : Fin 6) (c : Fin 1024) :
    two (ctxMods t) u (ix4 b 0 i c) = t (ix1 ⟨1024 * i + c, by omega⟩) := by
  rw [show (⟨1024 * i + c, by omega⟩ : Fin 6144) = ⟨i * 1024 + c, by omega⟩ from Fin.ext (by simp only; omega)]
  pointwise [two, ctxMods]

theorem mods_lat (u : FVec Ideal S8x1x6x1024 .f32) (t : FVec Ideal S8x6144 .f32) (b : Fin 8) (i : Fin 6) (c : Fin 1024) :
    two u (latMods t) (ix4 b 1 i c) = t (ix2 b ⟨1024 * i + c, by omega⟩) := by
  rw [show (⟨1024 * i + c, by omega⟩ : Fin 6144) = ⟨i * 1024 + c, by omega⟩ from Fin.ext (by simp only; omega)]
  pointwise [two, latMods]

theorem head0_at (w : FVec Ideal S1024x1024 .f32) (k : Fin 64) (c : Fin 1024) : head0 (byHead w) (ix2 k c) = w (ix2 ⟨0 + k, by omega⟩ c) := by
  pointwise [head0, byHead]

theorem head1_at (w : FVec Ideal S1024x1024 .f32) (k : Fin 64) (c : Fin 1024) : head1 (byHead w) (ix2 k c) = w (ix2 ⟨64 + k, by omega⟩ c) := by
  pointwise [head1, byHead]

theorem head2_at (w : FVec Ideal S1024x1024 .f32) (k : Fin 64) (c : Fin 1024) : head2 (byHead w) (ix2 k c) = w (ix2 ⟨128 + k, by omega⟩ c) := by
  pointwise [head2, byHead]

theorem head3_at (w : FVec Ideal S1024x1024 .f32) (k : Fin 64) (c : Fin 1024) : head3 (byHead w) (ix2 k c) = w (ix2 ⟨192 + k, by omega⟩ c) := by
  pointwise [head3, byHead]

theorem head4_at (w : FVec Ideal S1024x1024 .f32) (k : Fin 64) (c : Fin 1024) : head4 (byHead w) (ix2 k c) = w (ix2 ⟨256 + k, by omega⟩ c) := by
  pointwise [head4, byHead]

theorem head5_at (w : FVec Ideal S1024x1024 .f32) (k : Fin 64) (c : Fin 1024) : head5 (byHead w) (ix2 k c) = w (ix2 ⟨320 + k, by omega⟩ c) := by
  pointwise [head5, byHead]

theorem head6_at (w : FVec Ideal S1024x1024 .f32) (k : Fin 64) (c : Fin 1024) : head6 (byHead w) (ix2 k c) = w (ix2 ⟨384 + k, by omega⟩ c) := by
  pointwise [head6, byHead]

theorem head7_at (w : FVec Ideal S1024x1024 .f32) (k : Fin 64) (c : Fin 1024) : head7 (byHead w) (ix2 k c) = w (ix2 ⟨448 + k, by omega⟩ c) := by
  pointwise [head7, byHead]

theorem pair_at (a b : FVec Ideal S64x1024 .f32) (k : Fin 128) (c : Fin 1024) :
    pair a b (ix2 k c) = if h : (k : ℕ) < 64 then a (ix2 ⟨k, h⟩ c) else b (ix2 ⟨k - 64, by omega⟩ c) := by
  pointwise [pair]

theorem pairs_at (a b d e : FVec Ideal S128x1024 .f32) (k : Fin 512) (c : Fin 1024) :
    pairs a b d e (ix2 k c) = if h : (k : ℕ) < 128 then a (ix2 ⟨k, h⟩ c) else if h1 : (k : ℕ) - 128 < 128 then b (ix2 ⟨k - 128, h1⟩ c)
      else if h2 : (k : ℕ) - 128 - 128 < 128 then d (ix2 ⟨k - 128 - 128, h2⟩ c) else e (ix2 ⟨k - 128 - 128 - 128, by omega⟩ c) := by
  pointwise [pairs]

theorem upper_at (w : FVec Ideal S1024x1024 .f32) (k : Fin 512) (c : Fin 1024) : upper w (ix2 k c) = w (ix2 ⟨Rows.headOf k, by omega⟩ c) := by
  unfold upper
  rw [pairs_at]
  simp only [pair_at, head0_at, head1_at, head2_at, head3_at, head4_at, head5_at, head6_at, head7_at]
  split_ifs <;> exact congrArg w (congrArg (ix2 · c) (Fin.ext (by simp only [Rows.headOf]; omega)))

theorem halves_up (a b : FVec Ideal S512x1024 .f32) (k : Fin 512) (c : Fin 1024) : halves a b (ix2 ⟨k, by omega⟩ c) = a (ix2 k c) := by
  pointwise [halves]

theorem halves_low (a b : FVec Ideal S512x1024 .f32) (k : Fin 512) (c : Fin 1024) : halves a b (ix2 ⟨512 + k, by omega⟩ c) = b (ix2 k c) := by
  pointwise [halves]

theorem lower_at (w : FVec Ideal S1024x1024 .f32) (k : Fin 512) (c : Fin 1024) : lower w (ix2 k c) = w (ix2 ⟨512 + k, by omega⟩ c) := by
  pointwise [lower]

theorem gains_at (w : FVec Ideal S1024 .f32) (c : Fin 1024) : gains w (ix2 0 c) = w (ix1 c) := by
  pointwise [gains]

variable (m : (ℓ : Loc nD τ sig) → Buf (Elt Ideal) ℓ) (c : Dev nD)

theorem V_mods : V m c main_v3 = two (ctxMods (m ((c : Thread nD τ).loc main_arg4))) (latMods (m ((c : Thread nD τ).loc main_arg5))) := by
  unfold V
  simp only [hostOps0]
  after_results_simp
  refine congrArg₂ two ?_ ?_
  · after_results_simp <;> rfl
  · after_results_simp <;> rfl

theorem V_proj : V m c main_v29 = halves (upper (m ((c : Thread nD τ).loc main_arg6))) (lower (m ((c : Thread nD τ).loc main_arg6))) := by
  unfold V
  simp only [hostOps0]
  after_results_simp
  refine congrArg₂ halves ?_ ?_
  · after_results_simp <;> rfl
  · after_results_simp <;> rfl

theorem V_gain : V m c main_v30 = gains (m ((c : Thread nD τ).loc main_arg7)) := by
  unfold V
  simp only [hostOps0]
  after_results_simp <;> rfl

theorem V_hidden : V m c main_v31 = hiddenW (m ((c : Thread nD τ).loc main_arg8)) := by
  unfold V
  simp only [hostOps0]
  after_results_simp <;> rfl

theorem V_out : V m c main_v32 = outW (m ((c : Thread nD τ).loc main_arg9)) := by
  unfold V
  simp only [hostOps0]
  after_results_simp <;> rfl

/-! ## The blocks -/

theorem idx : ∀ t : Fin cfg0.N, win0_0.index t = ![(t : ℕ) / 17, 0, 0]
    ∧ win0_1.index t = ![(t : ℕ) / 17, t % 17 - 1, 0] ∧ win0_2.index t = ![(t : ℕ) / 17, (t % 17 + 16) % 17, 0]
    ∧ win0_3.index t = ![(t : ℕ) / 17, (t % 17 + 16) % 17, 0] ∧ win0_4.index t = ![(t : ℕ) / 17, min (t % 17) 1, 0, 0]
    ∧ win0_5.index t = ![0, 0] ∧ win0_6.index t = ![0, 0] ∧ win0_7.index t = ![0, 0] ∧ win0_8.index t = ![0, 0]
    ∧ win0_9.index t = ![(t : ℕ) / 17, t % 17, 0] :=
  (by decide +kernel : ∀ t : Fin grid0.N, _)

/-- The first tile of each batch is the context's. -/
theorem first : ∀ t : Fin cfg0.N, (t : ℕ) % 17 = 0 → isContext (grid0.coords t) = 1 :=
  (by decide +kernel : ∀ t : Fin grid0.N, _)
theorem later : ∀ t : Fin cfg0.N, ¬ (t : ℕ) % 17 = 0 → ¬ isContext (grid0.coords t) = 1 :=
  (by decide +kernel : ∀ t : Fin grid0.N, _)

/-- The batch of a grid point, -/
def batch (t : Fin cfg0.N) : Fin 8 := ⟨(t : ℕ) / 17, by have : (t:ℕ) < 136 := t.isLt; omega⟩
/-- the row of the result its tile's row `r` is, -/
def row (t : Fin cfg0.N) (r : Fin 256) : Fin 4352 := ⟨256 * (t % 17) + r, by omega⟩
/-- that row among the latents, -/
def lat (t : Fin cfg0.N) (r : Fin 256) : Fin 4096 := ⟨256 * (t % 17 - 1) + r, by omega⟩
/-- and a row of the result in the attentions' order, context last. -/
def turned (n : Fin 4352) : Fin 4352 := ⟨(n + 4096) % 4352, by omega⟩

theorem blk0 (t : Fin cfg0.N) (r : Fin 256) (k : Fin 1024) : iblk m c 0 t (ix3 0 r k) = V m c main_arg0 (ix3 (batch t) r k) := by
  unfold iblk
  generalize V m c = A
  blk_ext [idx t, batch]
theorem blk1 (t : Fin cfg0.N) (r : Fin 256) (k : Fin 1024) : iblk m c 1 t (ix3 0 r k) = V m c main_arg1 (ix3 (batch t) (lat t r) k) := by
  unfold iblk
  generalize V m c = A
  blk_ext [idx t, batch, lat]
theorem blk2 (t : Fin cfg0.N) (r : Fin 256) (k : Fin 512) : iblk m c 2 t (ix3 0 r k) = V m c main_arg2 (ix3 (batch t) (turned (row t r)) k) := by
  unfold iblk
  generalize V m c = A
  blk_ext [idx t, batch, row, turned]
theorem blk3 (t : Fin cfg0.N) (r : Fin 256) (k : Fin 512) : iblk m c 3 t (ix3 0 r k) = V m c main_arg3 (ix3 (batch t) (turned (row t r)) k) := by
  unfold iblk
  generalize V m c = A
  blk_ext [idx t, batch, row, turned]
theorem blk4_ctx (t : Fin cfg0.N) (h : (t : ℕ) % 17 = 0) (i : Fin 6) (k : Fin 1024) : iblk m c 4 t (ix4 0 0 i k) = V m c main_v3 (ix4 (batch t) 0 i k) := by
  unfold iblk
  generalize V m c = A
  blk_ext [idx t, batch, h]
theorem blk4_lat (t : Fin cfg0.N) (h : ¬ (t : ℕ) % 17 = 0) (i : Fin 6) (k : Fin 1024) : iblk m c 4 t (ix4 0 0 i k) = V m c main_v3 (ix4 (batch t) 1 i k) := by
  have h1 : min ((t : ℕ) % 17) 1 = 1 := by omega
  unfold iblk
  generalize V m c = A
  blk_ext [idx t, batch, h1]
theorem blk5 (t : Fin cfg0.N) (j : Fin 1024) (k : Fin 1024) : iblk m c 5 t (ix2 j k) = V m c main_v29 (ix2 j k) := by
  unfold iblk
  generalize V m c = A
  blk_ext [idx t]
theorem blk6 (t : Fin cfg0.N) (k : Fin 1024) : iblk m c 6 t (ix2 0 k) = V m c main_v30 (ix2 0 k) := by
  unfold iblk
  generalize V m c = A
  blk_ext [idx t]
theorem blk7 (t : Fin cfg0.N) (j : Fin 1024) (k : Fin 5632) : iblk m c 7 t (ix2 j k) = V m c main_v31 (ix2 j k) := by
  unfold iblk
  generalize V m c = A
  blk_ext [idx t]
theorem blk8 (t : Fin cfg0.N) (j : Fin 2816) (k : Fin 1024) : iblk m c 8 t (ix2 j k) = V m c main_v32 (ix2 j k) := by
  unfold iblk
  generalize V m c = A
  blk_ext [idx t]

end Cert.Kernel3Ideal.Mid

end
-- ==== Proof.Mid.Ref.lean ====
/-
  The reference of the attention layer's last call: its stages named one by one.
-/
module

public import proofs.«01_k».proof.Proof.Gen.Reference3Ideal.Run
public import Idealize.ShloMosaic.Lib.Pointwise

@[expose] public section

set_option maxRecDepth 16384

noncomputable section

namespace Cert.Reference3Ideal.Mid

open Cert.Reference3Ideal Cert.Reference3Ideal.Gen Cert.Reference3Ideal.Value
open Idealize.ShloMosaic Idealize.ShloMosaic.TcCoe Idealize.SL.Sem

section
variable {F : FTy → Type} [FloatOps F]

/-- The rows of an attention put context first, in single precision. -/
def rows (a : FVec F S8x4352x512 .bf16) : FVec F S8x4352x512 .f32 :=
  extf .f32 (concatenate S8x4352x512 1 [⟨S8x256x512, (extractStridedSlice S8x256x512 ![0, 4096, 0] a slices_S8x4352x512_S8x256x512_0_4096_0)⟩,
    ⟨S8x4096x512, (extractStridedSlice S8x4096x512 ![0, 0, 0] a slices_S8x4352x512_S8x4096x512_0_0_0)⟩]
    concatenates_S8x256x512_S8x4096x512_S8x4352x512_d1) bitsLt_bf16_f32

/-- The heads put in the order of the weights: the key head first. -/
def heads (a : FVec F S8x4352x512 .f32) : FVec F S8x4352x512 .f32 :=
  shapeCast _ (transpose S8x4352x2x4x64 [0, 1, 3, 2, 4] (shapeCast _ a shapeCasts_S8x4352x512_S8x4352x4x2x64)
    transposes_S8x4352x4x2x64_S8x4352x2x4x64_0_1_3_2_4) shapeCasts_S8x4352x2x4x64_S8x4352x512

/-- The two attentions side by side. -/
def joined (a b : FVec F S8x4352x512 .f32) : FVec F S8x4352x1024 .f32 :=
  concatenate S8x4352x1024 2 [⟨S8x4352x512, a⟩, ⟨S8x4352x512, b⟩] concatenates_S8x4352x512_S8x4352x512_S8x4352x1024_d2

/-- The rows of the context, then those of the latents. -/
def stacked (x : FVec F S8x256x1024 .f32) (y : FVec F S8x4096x1024 .f32) : FVec F S8x4352x1024 .f32 :=
  concatenate S8x4352x1024 1 [⟨S8x256x1024, x⟩, ⟨S8x4096x1024, y⟩] concatenates_S8x256x1024_S8x4096x1024_S8x4352x1024_d1

/-- The modulation of each row. -/
def mods (t : FVec F S6144 .f32) (u : FVec F S8x6144 .f32) : FVec F S8x4352x6144 .f32 :=
  concatenate S8x4352x6144 1 [⟨S8x256x6144, (broadcastInDim S8x256x6144 ![2] bcast_S6144_S8x256x6144_2 t)⟩, ⟨S8x4096x6144, (broadcastInDim
    S8x4096x6144 ![0, 1, 2] bcast_S8x1x6144_S8x4096x6144_0_1_2 (broadcastInDim S8x1x6144 ![0, 2] bcast_S8x6144_S8x1x6144_0_2 u))⟩]
    concatenates_S8x256x6144_S8x4096x6144_S8x4352x6144_d1

/-- The rows with the projection, gated. -/
def resid (x : FVec F S8x4352x1024 .f32) (t : FVec F S8x4352x6144 .f32) (y : FVec F S8x4352x1024 .f32)
    (w : FVec F S1024x1024 .f32) : FVec F S8x4352x1024 .f32 :=
  addf x (mulf (extractStridedSlice S8x4352x1024 ![0, 0, 2048] t slices_S8x4352x6144_S8x4352x1024_0_0_2048) (Host.dotGeneral
    dot_S8x4352x1024_S1024x1024_S8x4352x1024_2_0_01_1_n_n none y w))

/-- Their norm, scaled and shifted. -/
def modulated (x : FVec F S8x4352x1024 .f32) (t : FVec F S8x4352x6144 .f32) (w : FVec F S1024 .f32) : FVec F S8x4352x1024 .f32 :=
  addf (mulf (mulf (mulf x (broadcastInDim S8x4352x1024 ![0, 1, 2] bcast_S8x4352x1_S8x4352x1024_0_1_2 (Host.rsqrt (addf (Host.divf (broadcastInDim
    S8x4352x1 ![0, 1] bcast_S8x4352_S8x4352x1_0_1 (Host.reduceAdd (mulf x x) (constant S_ .f32 0x00000000#32) reducesTo_S8x4352x1024_S8x4352_d2 h_S_))
    (broadcastInDim S8x4352x1 ![] bcast_S_S8x4352x1 (constant S_ .f32 0x44800000#32))) (broadcastInDim S8x4352x1 ![] bcast_S_S8x4352x1 (constant S_
    .f32 0x358637BD#32)))))) (broadcastInDim S8x4352x1024 ![0, 1, 2] bcast_S1x1x1024_S8x4352x1024_0_1_2 (broadcastInDim S1x1x1024 ![2]
    bcast_S1024_S1x1x1024_2 w))) (addf (broadcastInDim S8x4352x1024 ![] bcast_S_S8x4352x1024 (constant S_ .f32 0x3F800000#32)) (extractStridedSlice
    S8x4352x1024 ![0, 0, 4096] t slices_S8x4352x6144_S8x4352x1024_0_0_4096))) (extractStridedSlice S8x4352x1024 ![0, 0, 3072] t
    slices_S8x4352x6144_S8x4352x1024_0_0_3072)

/-- The hidden rows. -/
def hidden (u : FVec F S8x4352x1024 .f32) (w : FVec F S1024x5632 .f32) : FVec F S8x4352x5632 .f32 :=
  Host.dotGeneral dot_S8x4352x1024_S1024x5632_S8x4352x5632_2_0_01_1_n_n none u w

/-- The gated feed-forward part. -/
def forward (h : FVec F S8x4352x5632 .f32) (w : FVec F S2816x1024 .f32) : FVec F S8x4352x1024 .f32 :=
  Host.dotGeneral dot_S8x4352x2816_S2816x1024_S8x4352x1024_2_0_01_1_n_n none (mulf (mulf (extractStridedSlice S8x4352x2816 ![0, 0, 0] h
    slices_S8x4352x5632_S8x4352x2816_0_0_0) (Host.divf (broadcastInDim S8x4352x2816 ![] bcast_S_S8x4352x2816 (constant S_ .f32 0x3F800000#32)) (addf
    (broadcastInDim S8x4352x2816 ![] bcast_S_S8x4352x2816 (constant S_ .f32 0x3F800000#32)) (Host.exp (Host.negf (extractStridedSlice S8x4352x2816
    ![0, 0, 0] h slices_S8x4352x5632_S8x4352x2816_0_0_0)))))) (extractStridedSlice S8x4352x2816 ![0, 0, 2816] h
    slices_S8x4352x5632_S8x4352x2816_0_0_2816)) w

/-- The rows plus that part, gated. -/
def tail (x : FVec F S8x4352x1024 .f32) (t : FVec F S8x4352x6144 .f32) (n : FVec F S1024 .f32)
    (w13 : FVec F S1024x5632 .f32) (w2 : FVec F S2816x1024 .f32) : FVec F S8x4352x1024 .f32 :=
  addf x (mulf (extractStridedSlice S8x4352x1024 ![0, 0, 5120] t slices_S8x4352x6144_S8x4352x1024_0_0_5120) (forward (hidden (modulated x t n) w13)
    w2))

/-- The reference. -/
def ref (x : FVec F S8x256x1024 .f32) (y : FVec F S8x4096x1024 .f32) (oa ob : FVec F S8x4352x512 .bf16) (t : FVec F S6144 .f32)
    (u : FVec F S8x6144 .f32) (w : FVec F S1024x1024 .f32) (n : FVec F S1024 .f32) (w13 : FVec F S1024x5632 .f32) (w2 : FVec F S2816x1024 .f32) : FVec F S8x4352x1024 .f32 :=
  tail (resid (stacked x y) (mods t u) (joined (heads (rows oa)) (rows ob)) w) (mods t u) n w13 w2

set_option maxHeartbeats 4000000 in
/-- The run's result term is `ref` of the arguments. -/
theorem res_eq (m : (ℓ : Loc nD τ sig) → Buf (Elt F) ℓ) (c : Dev nD) :
    res_main_v50 m c = ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := by
  unfold res_main_v50 ref tail forward hidden modulated resid mods stacked joined heads rows
  rfl

end

end Cert.Reference3Ideal.Mid

end
-- ==== Proof.Mid.RefRead.lean ====
/-
  The reference of the attention layer's last call, read at an index.
-/
module

public import proofs.«01_k».proof.Proof.Mid.Ref
public import proofs.«01_k».proof.Proof.Mid.Heads

@[expose] public section

set_option maxRecDepth 16384

noncomputable section

namespace Cert.Reference3Ideal.Mid

open Cert.Reference3Ideal Cert.Reference3Ideal.Gen Cert.Reference3Ideal.Value
open Idealize.ShloMosaic Idealize.ShloMosaic.TcCoe Idealize.SL.Sem

/-- A row of the context, and of the latents, in the attentions' order. -/
theorem rows_ctx (a : FVec Ideal S8x4352x512 .bf16) (b : Fin 8) (n : Fin 256) (k : Fin 512) :
    rows a (ix3 b ⟨n, by omega⟩ k) = a (ix3 b ⟨4096 + n, by omega⟩ k) := by
  pointwise [rows]

theorem rows_lat (a : FVec Ideal S8x4352x512 .bf16) (b : Fin 8) (n : Fin 4096) (k : Fin 512) :
    rows a (ix3 b ⟨256 + n, by omega⟩ k) = a (ix3 b ⟨n, by omega⟩ k) := by
  pointwise [rows]

theorem heads_at (a : FVec Ideal S8x4352x512 .f32) (b : Fin 8) (n : Fin 4352) (j : Fin 512) : heads a (ix3 b n j) = a (ix3 b n (Rows.laneOf j)) := by
  have e : (⟨j / 64 % 4 * 128 + j / 256 * 64 + j % 64, by omega⟩ : Fin 512) = Rows.laneOf j := Fin.ext (by simp only [Rows.laneOf]; omega)
  pointwise [heads]
  rw [e]

theorem joined_left (x y : FVec Ideal S8x4352x512 .f32) (b : Fin 8) (n : Fin 4352) (j : Fin 512) :
    joined x y (ix3 b n ⟨j, by omega⟩) = x (ix3 b n j) := by
  pointwise [joined]

theorem joined_right (x y : FVec Ideal S8x4352x512 .f32) (b : Fin 8) (n : Fin 4352) (j : Fin 512) :
    joined x y (ix3 b n ⟨512 + j, by omega⟩) = y (ix3 b n j) := by
  pointwise [joined]

theorem stacked_ctx (x : FVec Ideal S8x256x1024 .f32) (y : FVec Ideal S8x4096x1024 .f32) (b : Fin 8) (n : Fin 256) (k : Fin 1024) :
    stacked x y (ix3 b ⟨n, by omega⟩ k) = x (ix3 b n k) := by
  pointwise [stacked]

theorem stacked_lat (x : FVec Ideal S8x256x1024 .f32) (y : FVec Ideal S8x4096x1024 .f32) (b : Fin 8) (n : Fin 4096) (k : Fin 1024) :
    stacked x y (ix3 b ⟨256 + n, by omega⟩ k) = y (ix3 b n k) := by
  pointwise [stacked]

theorem mods_ctx (t : FVec Ideal S6144 .f32) (u : FVec Ideal S8x6144 .f32) (b : Fin 8) (n : Fin 256) (k : Fin 6144) :
    mods t u (ix3 b ⟨n, by omega⟩ k) = t (ix1 k) := by
  pointwise [mods]

theorem mods_lat (t : FVec Ideal S6144 .f32) (u : FVec Ideal S8x6144 .f32) (b : Fin 8) (n : Fin 4096) (k : Fin 6144) :
    mods t u (ix3 b ⟨256 + n, by omega⟩ k) = u (ix2 b k) := by
  pointwise [mods]

theorem resid_at (x : FVec Ideal S8x4352x1024 .f32) (t : FVec Ideal S8x4352x6144 .f32) (y : FVec Ideal S8x4352x1024 .f32) (w : FVec Ideal S1024x1024 .f32)
    (b : Fin 8) (n : Fin 4352) (c : Fin 1024) :
    resid x t y w (ix3 b n c) = x (ix3 b n c) + t (ix3 b n ⟨2048 + c, by omega⟩) * ∑ j, y (ix3 b n j) * w (ix2 j c) := by
  pointwise [resid]

theorem modulated_at (x : FVec Ideal S8x4352x1024 .f32) (t : FVec Ideal S8x4352x6144 .f32) (w : FVec Ideal S1024 .f32)
    (b : Fin 8) (n : Fin 4352) (c : Fin 1024) :
    modulated x t w (ix3 b n c) = Rows.modulated (fun k => x (ix3 b n k)) (fun k => t (ix3 b n ⟨3072 + k, by omega⟩))
      (fun k => t (ix3 b n ⟨4096 + k, by omega⟩)) (fun k => w (ix1 k)) c := by
  pointwise [modulated]
  rfl

theorem hidden_at (u : FVec Ideal S8x4352x1024 .f32) (w : FVec Ideal S1024x5632 .f32) (b : Fin 8) (n : Fin 4352) (j : Fin 5632) :
    hidden u w (ix3 b n j) = Rows.hidden (fun k => u (ix3 b n k)) (fun k j => w (ix2 k j)) j := by
  pointwise [hidden]
  rfl

theorem forward_at (h : FVec Ideal S8x4352x5632 .f32) (w : FVec Ideal S2816x1024 .f32) (b : Fin 8) (n : Fin 4352) (c : Fin 1024) :
    forward h w (ix3 b n c) = Rows.forward (fun j => h (ix3 b n j)) (fun j c => w (ix2 j c)) c := by
  pointwise [forward]
  rfl

theorem tail_at (x : FVec Ideal S8x4352x1024 .f32) (t : FVec Ideal S8x4352x6144 .f32) (n : FVec Ideal S1024 .f32) (w13 : FVec Ideal S1024x5632 .f32)
    (w2 : FVec Ideal S2816x1024 .f32) (b : Fin 8) (r : Fin 4352) (c : Fin 1024) :
    tail x t n w13 w2 (ix3 b r c) = Rows.tail (fun k => x (ix3 b r k)) (fun k => t (ix3 b r ⟨3072 + k, by omega⟩))
      (fun k => t (ix3 b r ⟨4096 + k, by omega⟩)) (fun k => t (ix3 b r ⟨5120 + k, by omega⟩)) (fun k => n (ix1 k)) (fun k j => w13 (ix2 k j))
      (fun j c => w2 (ix2 j c)) c := by
  have e : tail x t n w13 w2 (ix3 b r c) = x (ix3 b r c) + t (ix3 b r ⟨5120 + c, by omega⟩) * forward (hidden (modulated x t n) w13) w2 (ix3 b r c) := by
    unfold tail
    generalize forward (hidden (modulated x t n) w13) w2 = q
    pointwise
  rw [e, forward_at]
  simp only [hidden_at, modulated_at]
  rfl

/-- The reference's product over the lanes of both attentions is the projection of their rows. -/
theorem mix_at (oa ob : FVec Ideal S8x4352x512 .bf16) (b : Fin 8) (n p : Fin 4352) (W : Fin 1024 → EReal)
    (h : ∀ (a : FVec Ideal S8x4352x512 .bf16) (k : Fin 512), rows a (ix3 b n k) = a (ix3 b p k)) :
    ∑ j, joined (heads (rows oa)) (rows ob) (ix3 b n j) * W j = Rows.mix (fun k => oa (ix3 b p k)) (fun k => ob (ix3 b p k)) W :=
  Rows.mix_eq _ _ W (fun j => joined (heads (rows oa)) (rows ob) (ix3 b n j))
    (fun j => (joined_left _ _ b n j).trans ((heads_at _ b n j).trans (h oa _))) (fun j => (joined_right _ _ b n j).trans (h ob _))

section
variable (x : FVec Ideal S8x256x1024 .f32) (y : FVec Ideal S8x4096x1024 .f32) (oa ob : FVec Ideal S8x4352x512 .bf16) (t : FVec Ideal S6144 .f32)
  (u : FVec Ideal S8x6144 .f32) (w : FVec Ideal S1024x1024 .f32) (n : FVec Ideal S1024 .f32) (w13 : FVec Ideal S1024x5632 .f32) (w2 : FVec Ideal S2816x1024 .f32)

/-- The reference's element on a row of the context, -/
theorem ref_ctx (b : Fin 8) (r : Fin 256) (c : Fin 1024) :
    ref x y oa ob t u w n w13 w2 (ix3 b ⟨r, by omega⟩ c)
      = Rows.tail (fun k => x (ix3 b r k) + t (ix1 ⟨2048 + k, by omega⟩)
          * Rows.mix (fun k => oa (ix3 b ⟨4096 + r, by omega⟩ k)) (fun k => ob (ix3 b ⟨4096 + r, by omega⟩ k)) (fun j => w (ix2 j k)))
        (fun k => t (ix1 ⟨3072 + k, by omega⟩)) (fun k => t (ix1 ⟨4096 + k, by omega⟩)) (fun k => t (ix1 ⟨5120 + k, by omega⟩))
        (fun k => n (ix1 k)) (fun k j => w13 (ix2 k j)) (fun j c => w2 (ix2 j c)) c := by
  unfold ref
  rw [tail_at]
  simp only [mods_ctx, resid_at, stacked_ctx]
  refine congrArg (fun v => Rows.tail v _ _ _ _ _ _ c) (funext fun k => ?_)
  rw [mix_at oa ob b ⟨r, by omega⟩ ⟨4096 + r, by omega⟩ (fun j => w (ix2 j k)) (fun a k => rows_ctx a b r k)]

/-- and on a row of the latents. -/
theorem ref_lat (b : Fin 8) (r : Fin 4096) (c : Fin 1024) :
    ref x y oa ob t u w n w13 w2 (ix3 b ⟨256 + r, by omega⟩ c)
      = Rows.tail (fun k => y (ix3 b r k) + u (ix2 b ⟨2048 + k, by omega⟩)
          * Rows.mix (fun k => oa (ix3 b ⟨r, by omega⟩ k)) (fun k => ob (ix3 b ⟨r, by omega⟩ k)) (fun j => w (ix2 j k)))
        (fun k => u (ix2 b ⟨3072 + k, by omega⟩)) (fun k => u (ix2 b ⟨4096 + k, by omega⟩)) (fun k => u (ix2 b ⟨5120 + k, by omega⟩))
        (fun k => n (ix1 k)) (fun k j => w13 (ix2 k j)) (fun j c => w2 (ix2 j c)) c := by
  unfold ref
  rw [tail_at]
  simp only [mods_lat, resid_at, stacked_lat]
  refine congrArg (fun v => Rows.tail v _ _ _ _ _ _ c) (funext fun k => ?_)
  rw [mix_at oa ob b ⟨256 + r, by omega⟩ ⟨r, by omega⟩ (fun j => w (ix2 j k)) (fun a k => rows_lat a b r k)]

end

end Cert.Reference3Ideal.Mid

end
-- ==== Proof.Mid.Value.lean ====
/- What the attention layer's last call leaves in its result array is the reference of its arguments. -/
module

public import proofs.«01_k».proof.Proof.Mid.Tile
public import proofs.«01_k».proof.Proof.Mid.Entry
public import proofs.«01_k».proof.Proof.Mid.RefRead

@[expose] public section

set_option maxRecDepth 16384

noncomputable section

namespace Cert.Kernel3Ideal.Mid

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The argument arrays. -/
abbrev arg0 : FVec Ideal S8x256x1024 .f32 := m ((c : Thread nD τ).loc main_arg0)
abbrev arg1 : FVec Ideal S8x4096x1024 .f32 := m ((c : Thread nD τ).loc main_arg1)
abbrev arg2 : FVec Ideal S8x4352x512 .bf16 := m ((c : Thread nD τ).loc main_arg2)
abbrev arg3 : FVec Ideal S8x4352x512 .bf16 := m ((c : Thread nD τ).loc main_arg3)
abbrev arg4 : FVec Ideal S6144 .f32 := m ((c : Thread nD τ).loc main_arg4)
abbrev arg5 : FVec Ideal S8x6144 .f32 := m ((c : Thread nD τ).loc main_arg5)
abbrev arg6 : FVec Ideal S1024x1024 .f32 := m ((c : Thread nD τ).loc main_arg6)
abbrev arg7 : FVec Ideal S1024 .f32 := m ((c : Thread nD τ).loc main_arg7)
abbrev arg8 : FVec Ideal S1024x5632 .f32 := m ((c : Thread nD τ).loc main_arg8)
abbrev arg9 : FVec Ideal S2816x1024 .f32 := m ((c : Thread nD τ).loc main_arg9)

/-- The reference of the arguments. -/
abbrev result : FVec Ideal S8x4352x1024 .f32 :=
  Reference3Ideal.Mid.ref (arg0 m c) (arg1 m c) (arg2 m c) (arg3 m c) (arg4 m c) (arg5 m c) (arg6 m c) (arg7 m c) (arg8 m c) (arg9 m c)

theorem in0 (t : Fin cfg0.N) (r : Fin 256) (k : Fin 1024) : iblk m c 0 t (ix3 0 r k) = arg0 m c (ix3 (batch t) r k) := by
  rw [blk0, V_main_arg0]
theorem in1 (t : Fin cfg0.N) (r : Fin 256) (k : Fin 1024) : iblk m c 1 t (ix3 0 r k) = arg1 m c (ix3 (batch t) (lat t r) k) := by
  rw [blk1, V_main_arg1]
theorem in2 (t : Fin cfg0.N) (r : Fin 256) (k : Fin 512) : iblk m c 2 t (ix3 0 r k) = arg2 m c (ix3 (batch t) (turned (row t r)) k) := by
  rw [blk2, V_main_arg2]
theorem in3 (t : Fin cfg0.N) (r : Fin 256) (k : Fin 512) : iblk m c 3 t (ix3 0 r k) = arg3 m c (ix3 (batch t) (turned (row t r)) k) := by
  rw [blk3, V_main_arg3]
theorem in4_ctx (t : Fin cfg0.N) (h : (t : ℕ) % 17 = 0) (i : Fin 6) (k : Fin 1024) :
    iblk m c 4 t (ix4 0 0 i k) = arg4 m c (ix1 ⟨1024 * i + k, by omega⟩) := by
  rw [blk4_ctx m c t h, V_mods, mods_ctx]
theorem in4_lat (t : Fin cfg0.N) (h : ¬ (t : ℕ) % 17 = 0) (i : Fin 6) (k : Fin 1024) :
    iblk m c 4 t (ix4 0 0 i k) = arg5 m c (ix2 (batch t) ⟨1024 * i + k, by omega⟩) := by
  rw [blk4_lat m c t h, V_mods, mods_lat]
theorem in5_up (t : Fin cfg0.N) (j : Fin 512) (k : Fin 1024) : iblk m c 5 t (ix2 ⟨j, by omega⟩ k) = arg6 m c (ix2 ⟨Rows.headOf j, by omega⟩ k) := by
  rw [blk5, V_proj, halves_up, upper_at]
theorem in5_low (t : Fin cfg0.N) (j : Fin 512) (k : Fin 1024) : iblk m c 5 t (ix2 ⟨512 + j, by omega⟩ k) = arg6 m c (ix2 ⟨512 + j, by omega⟩ k) := by
  rw [blk5, V_proj, halves_low, lower_at]
theorem in6 (t : Fin cfg0.N) (k : Fin 1024) : iblk m c 6 t (ix2 0 k) = arg7 m c (ix1 k) := by
  rw [blk6, V_gain, gains_at]
theorem in7 (t : Fin cfg0.N) (j : Fin 1024) (k : Fin 5632) : iblk m c 7 t (ix2 j k) = arg8 m c (ix2 j k) := by
  rw [blk7, V_hidden]
  rfl
theorem in8 (t : Fin cfg0.N) (j : Fin 2816) (k : Fin 1024) : iblk m c 8 t (ix2 j k) = arg9 m c (ix2 j k) := by
  rw [blk8, V_out]
  rfl

/-- The tile of a grid point. -/
abbrev tile (t : Fin cfg0.N) : Vec Ideal S1x256x1024 .f32 :=
  out0_9 (grid0.coords t) (iblk m c 0 t) (iblk m c 1 t) (iblk m c 2 t) (iblk m c 3 t) (iblk m c 4 t) (iblk m c 5 t) (iblk m c 6 t) (iblk m c 7 t) (iblk m c 8 t)

/-- The projection of a row of the tile. -/
theorem mix_row (A B : Vec Ideal S1x256x512 .bf16) (W : Vec Ideal S1024x1024 .bf16) (r : Fin 256) (k : Fin 1024) (a b : Fin 512 → EReal) (w : Fin 1024 → EReal)
    (hA : ∀ j, A (ix3 0 r j) = a j) (hB : ∀ j, B (ix3 0 r j) = b j) (hU : ∀ j : Fin 512, W (ix2 ⟨j, by omega⟩ k) = w ⟨Rows.headOf j, by omega⟩)
    (hL : ∀ j : Fin 512, W (ix2 ⟨512 + j, by omega⟩ k) = w ⟨512 + j, by omega⟩) :
    ∑ j : Fin 512, A (ix3 0 r j) * W (ix2 ⟨j, by omega⟩ k) + ∑ j : Fin 512, B (ix3 0 r j) * W (ix2 ⟨512 + j, by omega⟩ k) = Rows.mix a b w := by
  simp only [hA, hB, hU, hL]
  rfl

theorem resid_ctx_row (t : Fin cfg0.N) (h : (t : ℕ) % 17 = 0) (r : Fin 256) :
    residRow (iblk m c 2 t) (iblk m c 3 t) (iblk m c 4 t) (iblk m c 5 t) (iblk m c 0 t) r
      = fun k => arg0 m c (ix3 (batch t) r k) + arg4 m c (ix1 ⟨2048 + k, by omega⟩)
        * Rows.mix (fun j => arg2 m c (ix3 (batch t) ⟨4096 + r, by omega⟩ j)) (fun j => arg3 m c (ix3 (batch t) ⟨4096 + r, by omega⟩ j))
            (fun j => arg6 m c (ix2 j k)) := by
  funext k
  unfold residRow
  have hp : turned (row t r) = ⟨4096 + r, by omega⟩ := Fin.ext (by simp only [turned, row]; omega)
  rw [mix_row (iblk m c 2 t) (iblk m c 3 t) (iblk m c 5 t) r k (fun j => arg2 m c (ix3 (batch t) ⟨4096 + r, by omega⟩ j)) (fun j => arg3 m c (ix3 (batch t) ⟨4096 + r, by omega⟩ j))
    (fun j => arg6 m c (ix2 j k)) (fun j => by rw [in2, hp]) (fun j => by rw [in3, hp]) (fun j => in5_up m c t j k) (fun j => in5_low m c t j k), in0, in4_ctx m c t h]
  rfl

theorem resid_lat_row (t : Fin cfg0.N) (h : ¬ (t : ℕ) % 17 = 0) (r : Fin 256) :
    residRow (iblk m c 2 t) (iblk m c 3 t) (iblk m c 4 t) (iblk m c 5 t) (iblk m c 1 t) r
      = fun k => arg1 m c (ix3 (batch t) (lat t r) k) + arg5 m c (ix2 (batch t) ⟨2048 + k, by omega⟩)
        * Rows.mix (fun j => arg2 m c (ix3 (batch t) ⟨lat t r, by omega⟩ j)) (fun j => arg3 m c (ix3 (batch t) ⟨lat t r, by omega⟩ j))
            (fun j => arg6 m c (ix2 j k)) := by
  funext k
  unfold residRow
  have hp : turned (row t r) = ⟨lat t r, by omega⟩ := Fin.ext (by simp only [turned, row, lat]; omega)
  rw [mix_row (iblk m c 2 t) (iblk m c 3 t) (iblk m c 5 t) r k (fun j => arg2 m c (ix3 (batch t) ⟨lat t r, by omega⟩ j)) (fun j => arg3 m c (ix3 (batch t) ⟨lat t r, by omega⟩ j))
    (fun j => arg6 m c (ix2 j k)) (fun j => by rw [in2, hp]) (fun j => by rw [in3, hp]) (fun j => in5_up m c t j k) (fun j => in5_low m c t j k), in1, in4_lat m c t h]
  rfl

set_option maxHeartbeats 1000000 in
theorem tile_ctx (t : Fin cfg0.N) (h : (t : ℕ) % 17 = 0) (r : Fin 256) (k : Fin 1024) :
    tile m c t (ix3 0 r k) = result m c (ix3 (batch t) (row t r) k) := by
  rw [show row t r = ⟨r, by omega⟩ from Fin.ext (by simp only [row]; omega)]
  unfold tile result
  rw [out_ctx _ _ _ _ _ _ _ _ _ _ (first t h), Reference3Ideal.Mid.ref_ctx, resid_ctx_row m c t h]
  simp only [in4_ctx m c t h, in6, in7, in8]
  rfl

set_option maxHeartbeats 1000000 in
theorem tile_lat (t : Fin cfg0.N) (h : ¬ (t : ℕ) % 17 = 0) (r : Fin 256) (k : Fin 1024) :
    tile m c t (ix3 0 r k) = result m c (ix3 (batch t) (row t r) k) := by
  rw [show row t r = ⟨256 + lat t r, by omega⟩ from Fin.ext (by simp only [row, lat]; omega)]
  unfold tile result
  rw [out_lat _ _ _ _ _ _ _ _ _ _ (later t h), Reference3Ideal.Mid.ref_lat, resid_lat_row m c t h]
  simp only [in4_lat m c t h, in6, in7, in8]
  rfl

theorem tile_at (t : Fin cfg0.N) (r : Fin 256) (k : Fin 1024) : tile m c t (ix3 0 r k) = result m c (ix3 (batch t) (row t r) k) := by
  by_cases h : (t : ℕ) % 17 = 0
  · exact tile_ctx m c t h r k
  · exact tile_lat m c t h r k

/-- The result array whole. -/
theorem final : (dats m 0 c).arrAt 9 cfg0.N = result m c := by
  refine (dats m 0 c).arrAt_eq_of_covers 9 _ (by decide +kernel) fun t hf y => ?_
  blk_simp
  rw [after0_9]
  have h0 : (y 0 : ℕ) < 1 := (y 0).isLt
  have h1 : (y 1 : ℕ) < 256 := (y 1).isLt
  have h2 : (y 2 : ℕ) < 1024 := (y 2).isLt
  have hx : y = ix3 (n0 := 1) (n1 := 256) (n2 := 1024) 0 ⟨y 1, h1⟩ ⟨y 2, h2⟩ := by
    funext a
    fin_cases a
    · exact Fin.ext (by show (y 0 : ℕ) = 0; omega)
    · exact Fin.ext (by show (y 1 : ℕ) = y 1; rfl)
    · exact Fin.ext (by show (y 2 : ℕ) = y 2; rfl)
  have he : (win0_9.blk t).view.emb y = ix3 (n0 := 8) (n1 := 4352) (n2 := 1024) (batch t) (row t ⟨y 1, h1⟩) ⟨y 2, h2⟩ := by
    have hi : win0_9.index t = ![(t : ℕ) / 17, t % 17, 0] := (idx t).2.2.2.2.2.2.2.2.2
    funext a
    fin_cases a
    · refine Fin.ext ?_
      show win0_9.index t 0 * 1 + 1 * (y 0 : ℕ) = (t : ℕ) / 17
      rw [hi]; show (t : ℕ) / 17 * 1 + 1 * (y 0 : ℕ) = _; omega
    · refine Fin.ext ?_
      show win0_9.index t 1 * 256 + 1 * (y 1 : ℕ) = 256 * (t % 17) + (y 1 : ℕ)
      rw [hi]; show (t : ℕ) % 17 * 256 + 1 * (y 1 : ℕ) = _; omega
    · refine Fin.ext ?_
      show win0_9.index t 2 * 1024 + 1 * (y 2 : ℕ) = (y 2 : ℕ)
      rw [hi]; show 0 * 1024 + 1 * (y 2 : ℕ) = _; omega
  rw [he]
  exact (congrArg (tile m c t) hx).trans (tile_at m c t ⟨y 1, h1⟩ ⟨y 2, h2⟩)

end Cert.Kernel3Ideal.Mid

end
-- ==== Proof.Mid.Claims.lean ====
/- The claims about the attention layer's last call: the reference's frame, and the equality of the two results. -/
module

public import proofs.«01_k».proof.Defs
public import proofs.«01_k».proof.Proof.Mid.Value

@[expose] public section

set_option maxRecDepth 16384

noncomputable section

namespace Cert.Kernel3Ideal.Mid

open Idealize.ShloMosaic Idealize.ShloMosaic.TcCoe Idealize.SL.Sem

/-- The reference's arguments end unchanged; it has no semaphore. -/
theorem frame_ref (m : (ℓ : Loc Reference3Ideal.nD Reference3Ideal.τ Reference3Ideal.sig) → Buf (Elt Ideal) ℓ) (g : Dev Reference3Ideal.nD → PrngReg) :
    θ_run (Reference3Ideal.defs (F := Ideal)) (onTc (τ := Reference3Ideal.τ) (Reference3Ideal.main (F := Ideal))) ⟨m, fun _ => 0, g⟩ (fun r => (∀ c : Dev Reference3Ideal.nD,
      r.2.mem ((c.tc : Thread Reference3Ideal.nD Reference3Ideal.τ).loc Reference3Ideal.main_arg0) = m ((c.tc : Thread Reference3Ideal.nD Reference3Ideal.τ).loc Reference3Ideal.main_arg0)
      ∧ r.2.mem ((c.tc : Thread Reference3Ideal.nD Reference3Ideal.τ).loc Reference3Ideal.main_arg1) = m ((c.tc : Thread Reference3Ideal.nD Reference3Ideal.τ).loc Reference3Ideal.main_arg1)
      ∧ r.2.mem ((c.tc : Thread Reference3Ideal.nD Reference3Ideal.τ).loc Reference3Ideal.main_arg2) = m ((c.tc : Thread Reference3Ideal.nD Reference3Ideal.τ).loc Reference3Ideal.main_arg2)
      ∧ r.2.mem ((c.tc : Thread Reference3Ideal.nD Reference3Ideal.τ).loc Reference3Ideal.main_arg3) = m ((c.tc : Thread Reference3Ideal.nD Reference3Ideal.τ).loc Reference3Ideal.main_arg3)
      ∧ r.2.mem ((c.tc : Thread Reference3Ideal.nD Reference3Ideal.τ).loc Reference3Ideal.main_arg4) = m ((c.tc : Thread Reference3Ideal.nD Reference3Ideal.τ).loc Reference3Ideal.main_arg4)
      ∧ r.2.mem ((c.tc : Thread Reference3Ideal.nD Reference3Ideal.τ).loc Reference3Ideal.main_arg5) = m ((c.tc : Thread Reference3Ideal.nD Reference3Ideal.τ).loc Reference3Ideal.main_arg5)
      ∧ r.2.mem ((c.tc : Thread Reference3Ideal.nD Reference3Ideal.τ).loc Reference3Ideal.main_arg6) = m ((c.tc : Thread Reference3Ideal.nD Reference3Ideal.τ).loc Reference3Ideal.main_arg6)
      ∧ r.2.mem ((c.tc : Thread Reference3Ideal.nD Reference3Ideal.τ).loc Reference3Ideal.main_arg7) = m ((c.tc : Thread Reference3Ideal.nD Reference3Ideal.τ).loc Reference3Ideal.main_arg7)
      ∧ r.2.mem ((c.tc : Thread Reference3Ideal.nD Reference3Ideal.τ).loc Reference3Ideal.main_arg8) = m ((c.tc : Thread Reference3Ideal.nD Reference3Ideal.τ).loc Reference3Ideal.main_arg8)
      ∧ r.2.mem ((c.tc : Thread Reference3Ideal.nD Reference3Ideal.τ).loc Reference3Ideal.main_arg9) = m ((c.tc : Thread Reference3Ideal.nD Reference3Ideal.τ).loc Reference3Ideal.main_arg9))
      ∧ r.2.sem = fun _ => 0) :=
  (θ_run Reference3Ideal.defs _ _).mono (fun r h => ⟨fun c => (h c).2, sem_eq_zero_of_no_sems (by decide) r.2⟩)
    (Reference3Ideal.Value.run m g)

/-- Equal arguments give equal results. -/
theorem ref_congr (m : (ℓ : Loc Kernel3Ideal.nD Kernel3Ideal.τ Kernel3Ideal.sig) → Buf (Elt Ideal) ℓ) (c : Dev Kernel3Ideal.nD)
    (m' : (ℓ : Loc Reference3Ideal.nD Reference3Ideal.τ Reference3Ideal.sig) → Buf (Elt Ideal) ℓ)
    (e0 : m' ((c.tc : Thread Reference3Ideal.nD Reference3Ideal.τ).loc Reference3Ideal.main_arg0) = m ((c.tc : Thread Kernel3Ideal.nD Kernel3Ideal.τ).loc Kernel3Ideal.main_arg0)) (e1 : m' ((c.tc : Thread Reference3Ideal.nD Reference3Ideal.τ).loc Reference3Ideal.main_arg1) = m ((c.tc : Thread Kernel3Ideal.nD Kernel3Ideal.τ).loc Kernel3Ideal.main_arg1)) (e2 : m' ((c.tc : Thread Reference3Ideal.nD Reference3Ideal.τ).loc Reference3Ideal.main_arg2) = m ((c.tc : Thread Kernel3Ideal.nD Kernel3Ideal.τ).loc Kernel3Ideal.main_arg2)) (e3 : m' ((c.tc : Thread Reference3Ideal.nD Reference3Ideal.τ).loc Reference3Ideal.main_arg3) = m ((c.tc : Thread Kernel3Ideal.nD Kernel3Ideal.τ).loc Kernel3Ideal.main_arg3)) (e4 : m' ((c.tc : Thread Reference3Ideal.nD Reference3Ideal.τ).loc Reference3Ideal.main_arg4) = m ((c.tc : Thread Kernel3Ideal.nD Kernel3Ideal.τ).loc Kernel3Ideal.main_arg4)) (e5 : m' ((c.tc : Thread Reference3Ideal.nD Reference3Ideal.τ).loc Reference3Ideal.main_arg5) = m ((c.tc : Thread Kernel3Ideal.nD Kernel3Ideal.τ).loc Kernel3Ideal.main_arg5)) (e6 : m' ((c.tc : Thread Reference3Ideal.nD Reference3Ideal.τ).loc Reference3Ideal.main_arg6) = m ((c.tc : Thread Kernel3Ideal.nD Kernel3Ideal.τ).loc Kernel3Ideal.main_arg6)) (e7 : m' ((c.tc : Thread Reference3Ideal.nD Reference3Ideal.τ).loc Reference3Ideal.main_arg7) = m ((c.tc : Thread Kernel3Ideal.nD Kernel3Ideal.τ).loc Kernel3Ideal.main_arg7)) (e8 : m' ((c.tc : Thread Reference3Ideal.nD Reference3Ideal.τ).loc Reference3Ideal.main_arg8) = m ((c.tc : Thread Kernel3Ideal.nD Kernel3Ideal.τ).loc Kernel3Ideal.main_arg8)) (e9 : m' ((c.tc : Thread Reference3Ideal.nD Reference3Ideal.τ).loc Reference3Ideal.main_arg9) = m ((c.tc : Thread Kernel3Ideal.nD Kernel3Ideal.τ).loc Kernel3Ideal.main_arg9)) :
    Reference3Ideal.Mid.ref (m' ((c.tc : Thread Reference3Ideal.nD Reference3Ideal.τ).loc Reference3Ideal.main_arg0)) (m' ((c.tc : Thread Reference3Ideal.nD Reference3Ideal.τ).loc Reference3Ideal.main_arg1)) (m' ((c.tc : Thread Reference3Ideal.nD Reference3Ideal.τ).loc Reference3Ideal.main_arg2)) (m' ((c.tc : Thread Reference3Ideal.nD Reference3Ideal.τ).loc Reference3Ideal.main_arg3)) (m' ((c.tc : Thread Reference3Ideal.nD Reference3Ideal.τ).loc Reference3Ideal.main_arg4)) (m' ((c.tc : Thread Reference3Ideal.nD Reference3Ideal.τ).loc Reference3Ideal.main_arg5)) (m' ((c.tc : Thread Reference3Ideal.nD Reference3Ideal.τ).loc Reference3Ideal.main_arg6)) (m' ((c.tc : Thread Reference3Ideal.nD Reference3Ideal.τ).loc Reference3Ideal.main_arg7)) (m' ((c.tc : Thread Reference3Ideal.nD Reference3Ideal.τ).loc Reference3Ideal.main_arg8)) (m' ((c.tc : Thread Reference3Ideal.nD Reference3Ideal.τ).loc Reference3Ideal.main_arg9))
      = result m c := by
  rw [e0, e1, e2, e3, e4, e5, e6, e7, e8, e9]

/-- The call and the reference end with one array. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => result m c, ?_, ?_⟩
  · exact (θ_run Kernel3Ideal.defs _ _).mono (fun r h c => ⟨(h c).1.trans (final m c), (h c).2⟩) (Kernel3Ideal.Value.run_blocks m g)
  · refine (θ_run Reference3Ideal.defs _ _).mono (fun r h c => ⟨?_, (h c).2⟩) (Reference3Ideal.Value.run m' g')
    obtain ⟨a0, a1, a2, a3, a4, a5, a6, a7, a8, a9⟩ := hagree c
    exact ((h c).1.trans (Reference3Ideal.Mid.res_eq m' c)).trans (ref_congr m c m' a0 a1 a2 a3 a4 a5 a6 a7 a8 a9)

end Cert.Kernel3Ideal.Mid

end
-- ==== Proof.Enter.Read.lean ====
/- What the state-space layer's first call stores for a tile of 256 rows, read at an index: three spans of lanes of the
   product of the normed rows with the weights. -/
module

public import proofs.«01_k».proof.Proof.Gen.Kernel5Ideal.Skeleton
public import proofs.«01_k».proof.Proof.Rows
public import Idealize.ShloMosaic.Lib.Claim
public import Idealize.ShloMosaic.Lib.Pointwise

@[expose] public section

set_option maxRecDepth 16384

noncomputable section

namespace Cert.Kernel5Ideal.Enter

open Cert.Kernel5Ideal Cert.Kernel5Ideal.Gen
open Idealize.ShloMosaic Idealize.ShloMosaic.TcCoe Idealize.SL.Sem

/-- The normed rows: eight of the tile before, the tile's own, eight of the tile after. Row 8 + r is the tile's row r. -/
theorem normed_at (p : Vec Ideal S1x8x1024 .f32) (x : Vec Ideal S1x256x1024 .f32) (q : Vec Ideal S1x8x1024 .f32) (g : Vec Ideal S1x1024 .f32)
    (s t : Vec Ideal S1x1x1x1024 .f32) (r : Fin 256) (k : Fin 1024) :
    k0_pay2 p x q g s t (ix2 ⟨8 + r, by omega⟩ k) = Rows.modulated (fun k => x (ix3 0 r k)) (fun k => t (ix4 0 0 0 k)) (fun k => s (ix4 0 0 0 k))
      (fun k => g (ix2 0 k)) k := by
  pointwise [k0_pay2]
  rfl

/-- The three spans of the product. -/
theorem span_z (u : FVec Ideal S272x1024 .bf16) (w : Vec Ideal S1024x5760 .bf16) (r : Fin 256) (c : Fin 1024) :
    k0_pay5 u w (ix3 0 r c) = ∑ k, u (ix2 ⟨8 + r, by omega⟩ k) * w (ix2 k ⟨c, by omega⟩) := by
  pointwise [k0_pay5, k0_pay4, k0_pay3]

theorem span_g (u : FVec Ideal S272x1024 .bf16) (w : Vec Ideal S1024x5760 .bf16) (r : Fin 256) (c : Fin 1024) :
    k0_pay6 u w (ix3 0 r c) = ∑ k, u (ix2 ⟨8 + r, by omega⟩ k) * w (ix2 k ⟨4608 + c, by omega⟩) := by
  pointwise [k0_pay6, k0_pay4, k0_pay3]

theorem span_v (u : FVec Ideal S272x1024 .bf16) (w : Vec Ideal S1024x5760 .bf16) (r : Fin 256) (c : Fin 1024) :
    k0_pay7 u w (ix3 0 r c) = ∑ k, u (ix2 ⟨8 + r, by omega⟩ k) * w (ix2 k ⟨3584 + c, by omega⟩) := by
  pointwise [k0_pay7, k0_pay4, k0_pay3]

end Cert.Kernel5Ideal.Enter

end
-- ==== Proof.Enter.Tile.lean ====
/- A tile of the state-space layer's first call as row functions of its blocks. -/
module

public import proofs.«01_k».proof.Proof.Gen.Kernel5Ideal.Value
public import Idealize.ShloMosaic.Lib.Ring
public import Idealize.ShloMosaic.Lib.Pipeline.FrameBody
public import Idealize.ShloMosaic.Lib.Pipeline.ValueKit
public import proofs.«01_k».proof.Proof.Enter.Read

@[expose] public section

set_option maxRecDepth 16384

noncomputable section

namespace Cert.Kernel5Ideal.Enter

open Cert.Kernel5Ideal Cert.Kernel5Ideal.Gen
open Idealize.ShloMosaic Idealize.ShloMosaic.TcCoe Idealize.SL.Sem

/-- A modulation of the tile: row `1` scales, row `0` shifts. -/
def scaleOf (x : Vec Ideal S1x1x6x1024 .f32) : Vec Ideal S1x1x1x1024 .f32 :=
  View.ld (Val := Elt Ideal) x (Rect.unit (s := S1x1x6x1024) ![0, 0, 1, 0] S1x1x1x1024.size inb_S1x1x6x1024_S1x1x1x1024_0_0_1_0)
def shiftOf (x : Vec Ideal S1x1x6x1024 .f32) : Vec Ideal S1x1x1x1024 .f32 :=
  View.ld (Val := Elt Ideal) x (Rect.unit (s := S1x1x6x1024) ![0, 0, 0, 0] S1x1x1x1024.size inb_S1x1x6x1024_S1x1x1x1024_0_0_0_0)

theorem scaleOf_at (x : Vec Ideal S1x1x6x1024 .f32) (k : Fin 1024) : scaleOf x (ix4 0 0 0 k) = x (ix4 0 0 1 k) := by
  pointwise [scaleOf]
theorem shiftOf_at (x : Vec Ideal S1x1x6x1024 .f32) (k : Fin 1024) : shiftOf x (ix4 0 0 0 k) = x (ix4 0 0 0 k) := by
  pointwise [shiftOf]

section
variable (c : Dev nD) (i : grid0.Coords) (arg2 : Memref sig .tc .vmem S1x8x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x1x6x1024 .f32) (harg5 : arg5.IsWhole) (arg6 : Memref sig .tc .vmem S1x1024 .f32) (harg6 : arg6.IsWhole) (arg7 : Memref sig .tc .vmem S1024x5760 .bf16) (harg7 : arg7.IsWhole) (arg8 : Memref sig .tc .vmem S5x1536 .f32) (harg8 : arg8.IsWhole) (arg9 : Memref sig .tc .vmem S1x1536 .f32) (harg9 : arg9.IsWhole) (arg10 : Memref sig .tc .vmem S1x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S1x256x1024 .f32) (harg13 : arg13.IsWhole) (arg14 : Memref sig .tc .vmem S1x256x1024 .f32) (harg14 : arg14.IsWhole) (arg15 : Memref sig .tc .vmem S1x256x512 .bf16) (harg15 : arg15.IsWhole) (arg16 : Memref sig .tc .vmem S1x256x128 .f32) (harg16 : arg16.IsWhole) (arg17 : Memref sig .tc .vmem S1x256x512 .bf16) (harg17 : arg17.IsWhole) (arg18 : Memref sig .tc .vmem S1x256x512 .bf16) (harg18 : arg18.IsWhole) (arg19 : Memref sig .tc .vmem S1x256x1024 .bf16) (harg19 : arg19.IsWhole) (arg20 : Memref sig .tc .vmem S1x256x1024 .f32) (harg20 : arg20.IsWhole) (arg21 : Memref sig .tc .vmem S272x1536 .f32) (harg21 : arg21.IsWhole)
    (x0 : Vec Ideal S1x8x1024 .f32) (x1 : Vec Ideal S1x256x1024 .f32) (x2 : Vec Ideal S1x8x1024 .f32) (x3 : Vec Ideal S1x1x6x1024 .f32) (x4 : Vec Ideal S1x1024 .f32) (x5 : Vec Ideal S1024x5760 .bf16) (x6 : Vec Ideal S5x1536 .f32) (x7 : Vec Ideal S1x1536 .f32) (x8 : Vec Ideal S1x128 .f32) (x9 : Vec Ideal S256x128 .f32) (x10 : Vec Ideal S256x128 .f32)

/-- What the body leaves of the three results: the three spans of the product. -/
theorem out_z : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10
    = k0_pay5 (k0_pay2 x0 x1 x2 x4 (scaleOf x3) (shiftOf x3)) x5 := by
  unfold out0_A_11
  frame_out
  rfl

theorem out_v : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10
    = k0_pay7 (k0_pay2 x0 x1 x2 x4 (scaleOf x3) (shiftOf x3)) x5 := by
  unfold out0_A_17
  frame_out
  rfl

theorem out_g : out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10
    = k0_pay6 (k0_pay2 x0 x1 x2 x4 (scaleOf x3) (shiftOf x3)) x5 := by
  unfold out0_A_18
  frame_out
  rfl

end

variable (m : (ℓ : Loc nD τ sig) → Buf (Elt Ideal) ℓ) (c : Dev nD)

/-- The normed rows of a tile. -/
abbrev normed (t : Fin cfg0.N) : FVec Ideal S272x1024 .bf16 :=
  k0_pay2 (iblk m c 0 t) (iblk m c 1 t) (iblk m c 2 t) (iblk m c 4 t) (scaleOf (iblk m c 3 t)) (shiftOf (iblk m c 3 t))

/-- What a grid point leaves of the three results is the three spans of the product. -/
theorem left_z (t : Fin cfg0.N) : (dats m 0 c).after 11 t = k0_pay5 (normed m c t) (iblk m c 5 t) := by
  rw [after0_11]
  unfold outsAt0
  dsimp only
  rw [out_z]

theorem left_v (t : Fin cfg0.N) : (dats m 0 c).after 17 t = k0_pay7 (normed m c t) (iblk m c 5 t) := by
  rw [after0_17]
  unfold outsAt0
  dsimp only
  rw [out_v]

theorem left_g (t : Fin cfg0.N) : (dats m 0 c).after 18 t = k0_pay6 (normed m c t) (iblk m c 5 t) := by
  rw [after0_18]
  unfold outsAt0
  dsimp only
  rw [out_g]

/-- A row of them, over the lane of the weights. -/
abbrev rowOf (t : Fin cfg0.N) (r : Fin 256) (j : Fin 5760) : EReal :=
  ∑ k, Rows.modulated (fun k => iblk m c 1 t (ix3 0 r k)) (fun k => iblk m c 3 t (ix4 0 0 0 k)) (fun k => iblk m c 3 t (ix4 0 0 1 k))
    (fun k => iblk m c 4 t (ix2 0 k)) k * iblk m c 5 t (ix2 k j)

theorem left_z_at (t : Fin cfg0.N) (r : Fin 256) (k : Fin 1024) : (dats m 0 c).after 11 t (ix3 0 r k) = rowOf m c t r ⟨k, by omega⟩ := by
  rw [left_z, span_z]
  unfold normed
  simp only [normed_at, scaleOf_at, shiftOf_at]

theorem left_v_at (t : Fin cfg0.N) (r : Fin 256) (k : Fin 1024) : (dats m 0 c).after 17 t (ix3 0 r k) = rowOf m c t r ⟨3584 + k, by omega⟩ := by
  rw [left_v, span_v]
  unfold normed
  simp only [normed_at, scaleOf_at, shiftOf_at]

theorem left_g_at (t : Fin cfg0.N) (r : Fin 256) (k : Fin 1024) : (dats m 0 c).after 18 t (ix3 0 r k) = rowOf m c t r ⟨4608 + k, by omega⟩ := by
  rw [left_g, span_g]
  unfold normed
  simp only [normed_at, scaleOf_at, shiftOf_at]

end Cert.Kernel5Ideal.Enter

end
-- ==== Proof.Enter.Entry.lean ====
/- What the host lines hand the state-space layer's first call, and the call's blocks of it, read at an index. -/
module

public import proofs.«01_k».proof.Proof.Gen.Kernel5Ideal.Value
public import Idealize.ShloMosaic.Lib.Claim
public import Idealize.ShloMosaic.Lib.Pipeline.ValueKit
public import Idealize.ShloMosaic.Lib.Pointwise

@[expose] public section

set_option maxRecDepth 16384

noncomputable section

namespace Cert.Kernel5Ideal.Enter

open Cert.Kernel5Ideal Cert.Kernel5Ideal.Gen
open Idealize.ShloMosaic Idealize.ShloMosaic.TcCoe Idealize.SL.Sem

/-- Two tables of modulations side by side. -/
def two (a b : FVec Ideal S8x1x6x1024 .f32) : FVec Ideal S8x2x6x1024 .f32 :=
  concatenate S8x2x6x1024 1 [⟨S8x1x6x1024, a⟩, ⟨S8x1x6x1024, b⟩] concatenates_S8x1x6x1024_S8x1x6x1024_S8x2x6x1024_d1

/-- The context's modulation, the same for each batch. -/
def ctxMods (t : FVec Ideal S6144 .f32) : FVec Ideal S8x1x6x1024 .f32 :=
  broadcastInDim S8x1x6x1024 ![0, 1, 2, 3] bcast_S1x1x6x1024_S8x1x6x1024_0_1_2_3 (shapeCast _ t shapeCasts_S6144_S1x1x6x1024)

/-- The latents' modulation. -/
def latMods (t : FVec Ideal S8x6144 .f32) : FVec Ideal S8x1x6x1024 .f32 := shapeCast _ t shapeCasts_S8x6144_S8x1x6x1024

/-- The spans of the weights' lanes. -/
def lanesZ (w : FVec Ideal S1024x5664 .f32) : FVec Ideal S1024x1024 .f32 := extractStridedSlice S1024x1024 ![0, 0] w slices_S1024x5664_S1024x1024_0_0
def lanesX (w : FVec Ideal S1024x5664 .f32) : FVec Ideal S1024x1536 .f32 := extractStridedSlice S1024x1536 ![0, 1024] w slices_S1024x5664_S1024x1536_0_1024
def lanesT (w : FVec Ideal S1024x5664 .f32) : FVec Ideal S1024x32 .f32 := extractStridedSlice S1024x32 ![0, 2560] w slices_S1024x5664_S1024x32_0_2560
def lanesQ (w : FVec Ideal S1024x5664 .f32) : FVec Ideal S1024x512 .f32 := extractStridedSlice S1024x512 ![0, 2592] w slices_S1024x5664_S1024x512_0_2592
def lanesK (w : FVec Ideal S1024x5664 .f32) : FVec Ideal S1024x512 .f32 := extractStridedSlice S1024x512 ![0, 3104] w slices_S1024x5664_S1024x512_0_3104
def lanesV (w : FVec Ideal S1024x5664 .f32) : FVec Ideal S1024x1024 .f32 := extractStridedSlice S1024x1024 ![0, 3616] w slices_S1024x5664_S1024x1024_0_3616
def lanesG (w : FVec Ideal S1024x5664 .f32) : FVec Ideal S1024x1024 .f32 := extractStridedSlice S1024x1024 ![0, 4640] w slices_S1024x5664_S1024x1024_0_4640
/-- The step sizes' lanes, filled up to 128. -/
def filled (t : FVec Ideal S1024x32 .f32) : FVec Ideal S1024x128 .f32 :=
  pad S1024x128 ![0, 0] ![0, 96] ![0, 0] t (sitofp .f32 (constantI S_ 32 0#32)) pads_S1024x32_S1024x128_000_0960 h_S_

/-- Those spans in the kernel's order. -/
def turnedW (z : FVec Ideal S1024x1024 .f32) (x : FVec Ideal S1024x1536 .f32) (q k : FVec Ideal S1024x512 .f32) (v g : FVec Ideal S1024x1024 .f32)
    (t : FVec Ideal S1024x128 .f32) : FVec Ideal S1024x5760 .f32 :=
  concatenate S1024x5760 1 [⟨S1024x1024, z⟩, ⟨S1024x1536, x⟩, ⟨S1024x512, q⟩, ⟨S1024x512, k⟩, ⟨S1024x1024, v⟩, ⟨S1024x1024, g⟩, ⟨S1024x128, t⟩]
    concatenates_S1024x1024_S1024x1536_S1024x512_S1024x512_S1024x1024_S1024x1024_S1024x128_S1024x5760_d1

/-- The weights in the kernel's order, rounded. -/
def weights (w : FVec Ideal S1024x5664 .f32) : FVec Ideal S1024x5760 .bf16 :=
  truncf .bf16 (turnedW (lanesZ w) (lanesX w) (lanesQ w) (lanesK w) (lanesV w) (lanesG w) (filled (lanesT w))) bitsLt_bf16_f32

/-- A row of gains. -/
def gains (w : FVec Ideal S1024 .f32) : FVec Ideal S1x1024 .f32 := shapeCast _ w shapeCasts_S1024_S1x1024

theorem mods_ctx (t : FVec Ideal S6144 .f32) (u : FVec Ideal S8x1x6x1024 .f32) (b : Fin 8) (i : Fin 6) (c : Fin 1024) :
    two (ctxMods t) u (ix4 b 0 i c) = t (ix1 ⟨1024 * i + c, by omega⟩) := by
  rw [show (⟨1024 * i + c, by omega⟩ : Fin 6144) = ⟨i * 1024 + c, by omega⟩ from Fin.ext (by simp only; omega)]
  pointwise [two, ctxMods]

theorem mods_lat (u : FVec Ideal S8x1x6x1024 .f32) (t : FVec Ideal S8x6144 .f32) (b : Fin 8) (i : Fin 6) (c : Fin 1024) :
    two u (latMods t) (ix4 b 1 i c) = t (ix2 b ⟨1024 * i + c, by omega⟩) := by
  rw [show (⟨1024 * i + c, by omega⟩ : Fin 6144) = ⟨i * 1024 + c, by omega⟩ from Fin.ext (by simp only; omega)]
  pointwise [two, latMods]

theorem weights_z (w : FVec Ideal S1024x5664 .f32) (k c : Fin 1024) : weights w (ix2 k ⟨c, by omega⟩) = w (ix2 k ⟨c, by omega⟩) := by
  pointwise [weights, turnedW, lanesZ]

theorem weights_v (w : FVec Ideal S1024x5664 .f32) (k c : Fin 1024) : weights w (ix2 k ⟨3584 + c, by omega⟩) = w (ix2 k ⟨3616 + c, by omega⟩) := by
  have e : (⟨3616 + (3584 + c - 1024 - 1536 - 512 - 512), by omega⟩ : Fin 5664) = ⟨3616 + c, by omega⟩ := Fin.ext (by simp only; omega)
  pointwise [weights, turnedW, lanesV]
  rw [dif_neg (by omega), dif_neg (by omega), dif_neg (by omega), dif_neg (by omega), dif_pos (by omega), e]

theorem weights_g (w : FVec Ideal S1024x5664 .f32) (k c : Fin 1024) : weights w (ix2 k ⟨4608 + c, by omega⟩) = w (ix2 k ⟨4640 + c, by omega⟩) := by
  have e : (⟨4640 + (4608 + c - 1024 - 1536 - 512 - 512 - 1024), by omega⟩ : Fin 5664) = ⟨4640 + c, by omega⟩ := Fin.ext (by simp only; omega)
  pointwise [weights, turnedW, lanesG]
  rw [dif_neg (by omega), dif_neg (by omega), dif_neg (by omega), dif_neg (by omega), dif_neg (by omega), dif_pos (by omega), e]

theorem gains_at (w : FVec Ideal S1024 .f32) (c : Fin 1024) : gains w (ix2 0 c) = w (ix1 c) := by
  pointwise [gains]

variable (m : (ℓ : Loc nD τ sig) → Buf (Elt Ideal) ℓ) (c : Dev nD)

theorem V_mods : V m c main_v3 = two (ctxMods (m ((c : Thread nD τ).loc main_arg1))) (latMods (m ((c : Thread nD τ).loc main_arg2))) := by
  unfold V
  simp only [hostOps0, hostOps0_1, hostOps0_2, hostOps0_3, hostOps0_4, List.flatten_cons, List.flatten_nil, List.append_nil, List.cons_append, List.nil_append]
  after_results_simp
  refine congrArg₂ two ?_ ?_
  · after_results_simp <;> rfl
  · after_results_simp <;> rfl

theorem V_weights : V m c main_v13 = weights (m ((c : Thread nD τ).loc main_arg4)) := by
  unfold V
  simp only [hostOps0, hostOps0_1, hostOps0_2, hostOps0_3, hostOps0_4, List.flatten_cons, List.flatten_nil, List.append_nil, List.cons_append, List.nil_append]
  after_results_simp <;> rfl

theorem V_gain : V m c main_v27 = gains (m ((c : Thread nD τ).loc main_arg3)) := by
  unfold V
  simp only [hostOps0, hostOps0_1, hostOps0_2, hostOps0_3, hostOps0_4, List.flatten_cons, List.flatten_nil, List.append_nil, List.cons_append, List.nil_append]
  after_results_simp <;> rfl

/-! ## The blocks -/

theorem idx : ∀ t : Fin cfg0.N, win0_1.index t = ![(t : ℕ) / 17, t % 17, 0] ∧ win0_3.index t = ![(t : ℕ) / 17, min (t % 17) 1, 0, 0]
    ∧ win0_4.index t = ![0, 0] ∧ win0_5.index t = ![0, 0] ∧ win0_11.index t = ![(t : ℕ) / 17, t % 17, 0]
    ∧ win0_17.index t = ![(t : ℕ) / 17, t % 17, 0] ∧ win0_18.index t = ![(t : ℕ) / 17, t % 17, 0] :=
  (by decide +kernel : ∀ t : Fin grid0.N, _)

/-- The batch of a grid point, -/
def batch (t : Fin cfg0.N) : Fin 8 := ⟨(t : ℕ) / 17, by have : (t:ℕ) < 136 := t.isLt; omega⟩
/-- the row its tile's row `r` is, -/
def row (t : Fin cfg0.N) (r : Fin 256) : Fin 4352 := ⟨256 * (t % 17) + r, by omega⟩
/-- and that row among the latents. -/
def lat (t : Fin cfg0.N) (r : Fin 256) : Fin 4096 := ⟨256 * (t % 17 - 1) + r, by omega⟩

theorem blk1 (t : Fin cfg0.N) (r : Fin 256) (k : Fin 1024) : iblk m c 1 t (ix3 0 r k) = V m c main_arg0 (ix3 (batch t) (row t r) k) := by
  unfold iblk
  generalize V m c = A
  blk_ext [idx t, batch, row]
theorem blk3_ctx (t : Fin cfg0.N) (h : (t : ℕ) % 17 = 0) (i : Fin 6) (k : Fin 1024) : iblk m c 3 t (ix4 0 0 i k) = V m c main_v3 (ix4 (batch t) 0 i k) := by
  unfold iblk
  generalize V m c = A
  blk_ext [idx t, batch, h]
theorem blk3_lat (t : Fin cfg0.N) (h : ¬ (t : ℕ) % 17 = 0) (i : Fin 6) (k : Fin 1024) : iblk m c 3 t (ix4 0 0 i k) = V m c main_v3 (ix4 (batch t) 1 i k) := by
  have h1 : min ((t : ℕ) % 17) 1 = 1 := by omega
  unfold iblk
  generalize V m c = A
  blk_ext [idx t, batch, h1]
theorem blk4 (t : Fin cfg0.N) (k : Fin 1024) : iblk m c 4 t (ix2 0 k) = V m c main_v27 (ix2 0 k) := by
  unfold iblk
  generalize V m c = A
  blk_ext [idx t]
theorem blk5 (t : Fin cfg0.N) (j : Fin 1024) (k : Fin 5760) : iblk m c 5 t (ix2 j k) = V m c main_v13 (ix2 j k) := by
  unfold iblk
  generalize V m c = A
  blk_ext [idx t]

end Cert.Kernel5Ideal.Enter

end
-- ==== Proof.Enter.Ref.lean ====
/-
  The reference of the state-space layer's first call: its stages named one by one.
-/
module

public import proofs.«01_k».proof.Proof.Gen.Reference5Ideal.Run
public import Idealize.ShloMosaic.Lib.Pointwise

@[expose] public section

set_option maxRecDepth 16384

noncomputable section

namespace Cert.Reference5Ideal.Enter

open Cert.Reference5Ideal Cert.Reference5Ideal.Gen Cert.Reference5Ideal.Value
open Idealize.ShloMosaic Idealize.ShloMosaic.TcCoe Idealize.SL.Sem

section
variable {F : FTy → Type} [FloatOps F]

/-- The context's rows, the first 256, -/
def ctxRows (x : FVec F S8x4352x1024 .f32) : FVec F S8x256x1024 .f32 :=
  extractStridedSlice S8x256x1024 ![0, 0, 0] x slices_S8x4352x1024_S8x256x1024_0_0_0

/-- and the latents'. -/
def latRows (x : FVec F S8x4352x1024 .f32) : FVec F S8x4096x1024 .f32 :=
  extractStridedSlice S8x4096x1024 ![0, 256, 0] x slices_S8x4352x1024_S8x4096x1024_0_256_0

/-- The context's rows normed, scaled and shifted. -/
def ctxNormed (x : FVec F S8x256x1024 .f32) (t : FVec F S6144 .f32) (w : FVec F S1024 .f32) : FVec F S8x256x1024 .f32 :=
  addf (mulf (mulf (mulf x (broadcastInDim S8x256x1024 ![0, 1, 2] bcast_S8x256x1_S8x256x1024_0_1_2 (Host.rsqrt (addf (Host.divf (broadcastInDim
    S8x256x1 ![0, 1] bcast_S8x256_S8x256x1_0_1 (Host.reduceAdd (mulf x x) (constant S_ .f32 0x00000000#32) reducesTo_S8x256x1024_S8x256_d2 h_S_))
    (broadcastInDim S8x256x1 ![] bcast_S_S8x256x1 (constant S_ .f32 0x44800000#32))) (broadcastInDim S8x256x1 ![] bcast_S_S8x256x1 (constant S_
    .f32 0x358637BD#32)))))) (broadcastInDim S8x256x1024 ![0, 1, 2] bcast_S1x1x1024_S8x256x1024_0_1_2 (broadcastInDim S1x1x1024 ![2]
    bcast_S1024_S1x1x1024_2 w))) (broadcastInDim S8x256x1024 ![0, 1, 2] bcast_S1x1x1024_S8x256x1024_0_1_2
    (broadcastInDim S1x1x1024 ![2] bcast_S1024_S1x1x1024_2 (addf (broadcastInDim S1024 ![] bcast_S_S1024 (constant S_ .f32 0x3F800000#32))
    (extractStridedSlice S1024 ![1024] t slices_S6144_S1024_1024))))) (broadcastInDim S8x256x1024 ![0, 1, 2] bcast_S1x1x1024_S8x256x1024_0_1_2
    (broadcastInDim S1x1x1024 ![2] bcast_S1024_S1x1x1024_2 (extractStridedSlice S1024 ![0] t slices_S6144_S1024_0)))

/-- The latents' rows normed, scaled and shifted, each batch by its own modulation. -/
def latNormed (x : FVec F S8x4096x1024 .f32) (u : FVec F S8x6144 .f32) (w : FVec F S1024 .f32) : FVec F S8x4096x1024 .f32 :=
  addf (mulf (mulf (mulf x (broadcastInDim S8x4096x1024 ![0, 1, 2] bcast_S8x4096x1_S8x4096x1024_0_1_2 (Host.rsqrt (addf (Host.divf (broadcastInDim
    S8x4096x1 ![0, 1] bcast_S8x4096_S8x4096x1_0_1 (Host.reduceAdd (mulf x x) (constant S_ .f32 0x00000000#32) reducesTo_S8x4096x1024_S8x4096_d2 h_S_))
    (broadcastInDim S8x4096x1 ![] bcast_S_S8x4096x1 (constant S_ .f32 0x44800000#32))) (broadcastInDim S8x4096x1 ![] bcast_S_S8x4096x1 (constant S_
    .f32 0x358637BD#32)))))) (broadcastInDim S8x4096x1024 ![0, 1, 2] bcast_S1x1x1024_S8x4096x1024_0_1_2 (broadcastInDim S1x1x1024 ![2]
    bcast_S1024_S1x1x1024_2 w))) (broadcastInDim S8x4096x1024 ![0, 1, 2] bcast_S8x1x1024_S8x4096x1024_0_1_2
    (addf (broadcastInDim S8x1x1024 ![] bcast_S_S8x1x1024 (constant S_ .f32 0x3F800000#32)) (broadcastInDim S8x1x1024 ![0, 2] bcast_S8x1024_S8x1x1024_0_2
    (extractStridedSlice S8x1024 ![0, 1024] u slices_S8x6144_S8x1024_0_1024))))) (broadcastInDim S8x4096x1024 ![0, 1, 2] bcast_S8x1x1024_S8x4096x1024_0_1_2
    (broadcastInDim S8x1x1024 ![0, 2] bcast_S8x1024_S8x1x1024_0_2 (extractStridedSlice S8x1024 ![0, 0] u slices_S8x6144_S8x1024_0_0)))

/-- The two one under the other. -/
def stacked (a : FVec F S8x256x1024 .f32) (b : FVec F S8x4096x1024 .f32) : FVec F S8x4352x1024 .f32 :=
  concatenate S8x4352x1024 1 [⟨S8x256x1024, a⟩, ⟨S8x4096x1024, b⟩] concatenates_S8x256x1024_S8x4096x1024_S8x4352x1024_d1

/-- The product with the weights. -/
def product (a : FVec F S8x4352x1024 .f32) (w : FVec F S1024x5664 .f32) : FVec F S8x4352x5664 .f32 :=
  Host.dotGeneral dot_S8x4352x1024_S1024x5664_S8x4352x5664_2_0_01_1_n_n none a w

/-- The normed rows' product with the weights. -/
def entered (x : FVec F S8x4352x1024 .f32) (t : FVec F S6144 .f32) (u : FVec F S8x6144 .f32) (g : FVec F S1024 .f32) (w : FVec F S1024x5664 .f32) : FVec F S8x4352x5664 .f32 :=
  product (stacked (ctxNormed (ctxRows x) t g) (latNormed (latRows x) u g)) w

/-- The gate of the scan, -/
def spanZ (h : FVec F S8x4352x5664 .f32) : FVec F S8x4352x1024 .f32 := extractStridedSlice S8x4352x1024 ![0, 0, 0] h slices_S8x4352x5664_S8x4352x1024_0_0_0
/-- the values of the retention, rounded, -/
def spanV (h : FVec F S8x4352x5664 .f32) : FVec F S8x4352x1024 .bf16 :=
  truncf .bf16 (extractStridedSlice S8x4352x1024 ![0, 0, 3616] h slices_S8x4352x5664_S8x4352x1024_0_0_3616) bitsLt_bf16_f32
/-- and its gate. -/
def spanG (h : FVec F S8x4352x5664 .f32) : FVec F S8x4352x1024 .f32 :=
  extractStridedSlice S8x4352x1024 ![0, 0, 4640] h slices_S8x4352x5664_S8x4352x1024_0_0_4640

set_option maxHeartbeats 4000000 in
/-- The run's three result terms are these spans of the arguments' product. -/
theorem run_named (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = spanZ (entered (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v61) = spanV (entered (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v60) = spanG (entered (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (run m ρ)
  unfold spanZ spanV spanG entered product stacked ctxNormed latNormed ctxRows latRows
  exact h c

end

end Cert.Reference5Ideal.Enter

end
-- ==== Proof.Enter.RefRead.lean ====
/-
  The reference of the state-space layer's first call, read at an index.
-/
module

public import proofs.«01_k».proof.Proof.Enter.Ref
public import proofs.«01_k».proof.Proof.Rows

@[expose] public section

set_option maxRecDepth 16384

noncomputable section

namespace Cert.Reference5Ideal.Enter

open Cert.Reference5Ideal Cert.Reference5Ideal.Gen Cert.Reference5Ideal.Value
open Idealize.ShloMosaic Idealize.ShloMosaic.TcCoe Idealize.SL.Sem

theorem ctxRows_at (x : FVec Ideal S8x4352x1024 .f32) (b : Fin 8) (n : Fin 256) (k : Fin 1024) : ctxRows x (ix3 b n k) = x (ix3 b ⟨n, by omega⟩ k) := by
  pointwise [ctxRows]

theorem latRows_at (x : FVec Ideal S8x4352x1024 .f32) (b : Fin 8) (n : Fin 4096) (k : Fin 1024) :
    latRows x (ix3 b n k) = x (ix3 b ⟨256 + n, by omega⟩ k) := by
  pointwise [latRows]

theorem ctxNormed_at (x : FVec Ideal S8x256x1024 .f32) (t : FVec Ideal S6144 .f32) (g : FVec Ideal S1024 .f32) (b : Fin 8) (n : Fin 256) (k : Fin 1024) :
    ctxNormed x t g (ix3 b n k) = Rows.modulated (fun k => x (ix3 b n k)) (fun k => t (ix1 ⟨k, by omega⟩)) (fun k => t (ix1 ⟨1024 + k, by omega⟩))
      (fun k => g (ix1 k)) k := by
  pointwise [ctxNormed]
  rfl

theorem latNormed_at (x : FVec Ideal S8x4096x1024 .f32) (u : FVec Ideal S8x6144 .f32) (g : FVec Ideal S1024 .f32) (b : Fin 8) (n : Fin 4096) (k : Fin 1024) :
    latNormed x u g (ix3 b n k) = Rows.modulated (fun k => x (ix3 b n k)) (fun k => u (ix2 b ⟨k, by omega⟩)) (fun k => u (ix2 b ⟨1024 + k, by omega⟩))
      (fun k => g (ix1 k)) k := by
  pointwise [latNormed]
  rfl

theorem stacked_ctx (x : FVec Ideal S8x256x1024 .f32) (y : FVec Ideal S8x4096x1024 .f32) (b : Fin 8) (n : Fin 256) (k : Fin 1024) :
    stacked x y (ix3 b ⟨n, by omega⟩ k) = x (ix3 b n k) := by
  pointwise [stacked]

theorem stacked_lat (x : FVec Ideal S8x256x1024 .f32) (y : FVec Ideal S8x4096x1024 .f32) (b : Fin 8) (n : Fin 4096) (k : Fin 1024) :
    stacked x y (ix3 b ⟨256 + n, by omega⟩ k) = y (ix3 b n k) := by
  pointwise [stacked]

theorem product_at (a : FVec Ideal S8x4352x1024 .f32) (w : FVec Ideal S1024x5664 .f32) (b : Fin 8) (n : Fin 4352) (j : Fin 5664) :
    product a w (ix3 b n j) = ∑ k, a (ix3 b n k) * w (ix2 k j) := by
  pointwise [product]

section
variable (x : FVec Ideal S8x4352x1024 .f32) (t : FVec Ideal S6144 .f32) (u : FVec Ideal S8x6144 .f32) (g : FVec Ideal S1024 .f32) (w : FVec Ideal S1024x5664 .f32)

/-- The product on a row of the context, -/
theorem entered_ctx (b : Fin 8) (n : Fin 256) (j : Fin 5664) :
    entered x t u g w (ix3 b ⟨n, by omega⟩ j) = ∑ k, Rows.modulated (fun k => x (ix3 b ⟨n, by omega⟩ k)) (fun k => t (ix1 ⟨k, by omega⟩))
      (fun k => t (ix1 ⟨1024 + k, by omega⟩)) (fun k => g (ix1 k)) k * w (ix2 k j) := by
  unfold entered
  rw [product_at]
  simp only [stacked_ctx, ctxNormed_at, ctxRows_at]

/-- and on a row of the latents. -/
theorem entered_lat (b : Fin 8) (n : Fin 4096) (j : Fin 5664) :
    entered x t u g w (ix3 b ⟨256 + n, by omega⟩ j) = ∑ k, Rows.modulated (fun k => x (ix3 b ⟨256 + n, by omega⟩ k)) (fun k => u (ix2 b ⟨k, by omega⟩))
      (fun k => u (ix2 b ⟨1024 + k, by omega⟩)) (fun k => g (ix1 k)) k * w (ix2 k j) := by
  unfold entered
  rw [product_at]
  simp only [stacked_lat, latNormed_at, latRows_at]

end

section
variable (h : FVec Ideal S8x4352x5664 .f32) (b : Fin 8) (n : Fin 4352) (j : Fin 1024)
theorem spanZ_at : spanZ h (ix3 b n j) = h (ix3 b n ⟨j, by omega⟩) := by
  pointwise [spanZ]
theorem spanV_at : spanV h (ix3 b n j) = h (ix3 b n ⟨3616 + j, by omega⟩) := by
  pointwise [spanV]
theorem spanG_at : spanG h (ix3 b n j) = h (ix3 b n ⟨4640 + j, by omega⟩) := by
  pointwise [spanG]
end

end Cert.Reference5Ideal.Enter

end
-- ==== Proof.Enter.Value.lean ====
/- What the state-space layer's first call leaves in three of its result arrays is the reference of its arguments. -/
module

public import proofs.«01_k».proof.Proof.Enter.Tile
public import proofs.«01_k».proof.Proof.Enter.Entry
public import proofs.«01_k».proof.Proof.Enter.RefRead

@[expose] public section

set_option maxRecDepth 16384

noncomputable section

namespace Cert.Kernel5Ideal.Enter

open Cert.Kernel5Ideal Cert.Kernel5Ideal.Gen
open Idealize.ShloMosaic Idealize.ShloMosaic.TcCoe Idealize.SL.Sem

variable (m : (ℓ : Loc nD τ sig) → Buf (Elt Ideal) ℓ) (c : Dev nD)

/-- The argument arrays the three results depend on. -/
abbrev arg0 : FVec Ideal S8x4352x1024 .f32 := m ((c : Thread nD τ).loc main_arg0)
abbrev arg1 : FVec Ideal S6144 .f32 := m ((c : Thread nD τ).loc main_arg1)
abbrev arg2 : FVec Ideal S8x6144 .f32 := m ((c : Thread nD τ).loc main_arg2)
abbrev arg3 : FVec Ideal S1024 .f32 := m ((c : Thread nD τ).loc main_arg3)
abbrev arg4 : FVec Ideal S1024x5664 .f32 := m ((c : Thread nD τ).loc main_arg4)

/-- The reference's product of the arguments. -/
abbrev whole : FVec Ideal Reference5Ideal.S8x4352x5664 .f32 := Reference5Ideal.Enter.entered (arg0 m c) (arg1 m c) (arg2 m c) (arg3 m c) (arg4 m c)

theorem in1 (t : Fin cfg0.N) (r : Fin 256) (k : Fin 1024) : iblk m c 1 t (ix3 0 r k) = arg0 m c (ix3 (batch t) (row t r) k) := by
  rw [blk1, V_main_arg0]
theorem in3_ctx (t : Fin cfg0.N) (h : (t : ℕ) % 17 = 0) (i : Fin 6) (k : Fin 1024) :
    iblk m c 3 t (ix4 0 0 i k) = arg1 m c (ix1 ⟨1024 * i + k, by omega⟩) := by
  rw [blk3_ctx m c t h, V_mods, mods_ctx]
theorem in3_lat (t : Fin cfg0.N) (h : ¬ (t : ℕ) % 17 = 0) (i : Fin 6) (k : Fin 1024) :
    iblk m c 3 t (ix4 0 0 i k) = arg2 m c (ix2 (batch t) ⟨1024 * i + k, by omega⟩) := by
  rw [blk3_lat m c t h, V_mods, mods_lat]
theorem in4 (t : Fin cfg0.N) (k : Fin 1024) : iblk m c 4 t (ix2 0 k) = arg3 m c (ix1 k) := by
  rw [blk4, V_gain, gains_at]

/-- A row of the tile over one lane of the weights, -/
theorem row_ctx (t : Fin cfg0.N) (h : (t : ℕ) % 17 = 0) (r : Fin 256) (i : Fin 5760) (j : Fin 5664)
    (e : ∀ k : Fin 1024, iblk m c 5 t (ix2 k i) = arg4 m c (ix2 k j)) : rowOf m c t r i = whole m c (ix3 (batch t) (row t r) j) := by
  have hp : row t r = ⟨r, by omega⟩ := Fin.ext (by simp only [row]; omega)
  unfold rowOf whole
  rw [hp, Reference5Ideal.Enter.entered_ctx]
  have e0 : ∀ k : Fin 1024, iblk m c 3 t (ix4 0 0 0 k) = arg1 m c (ix1 ⟨k, by omega⟩) := by
    intro k
    rw [in3_ctx m c t h 0 k]
    exact congrArg (fun z => arg1 m c (ix1 z)) (Fin.ext (by simp))
  have e1 : ∀ k : Fin 1024, iblk m c 3 t (ix4 0 0 1 k) = arg1 m c (ix1 ⟨1024 + k, by omega⟩) := by
    intro k
    rw [in3_ctx m c t h 1 k]
    exact congrArg (fun z => arg1 m c (ix1 z)) (Fin.ext (by simp))
  simp only [e, e0, e1, in1, in4, hp]

/-- on the context's tile and on the others. -/
theorem row_lat (t : Fin cfg0.N) (h : ¬ (t : ℕ) % 17 = 0) (r : Fin 256) (i : Fin 5760) (j : Fin 5664)
    (e : ∀ k : Fin 1024, iblk m c 5 t (ix2 k i) = arg4 m c (ix2 k j)) : rowOf m c t r i = whole m c (ix3 (batch t) (row t r) j) := by
  have hp : row t r = ⟨256 + lat t r, by omega⟩ := Fin.ext (by simp only [row, lat]; omega)
  unfold rowOf whole
  rw [hp, Reference5Ideal.Enter.entered_lat]
  have e0 : ∀ k : Fin 1024, iblk m c 3 t (ix4 0 0 0 k) = arg2 m c (ix2 (batch t) ⟨k, by omega⟩) := by
    intro k
    rw [in3_lat m c t h 0 k]
    exact congrArg (fun z => arg2 m c (ix2 (batch t) z)) (Fin.ext (by simp))
  have e1 : ∀ k : Fin 1024, iblk m c 3 t (ix4 0 0 1 k) = arg2 m c (ix2 (batch t) ⟨1024 + k, by omega⟩) := by
    intro k
    rw [in3_lat m c t h 1 k]
    exact congrArg (fun z => arg2 m c (ix2 (batch t) z)) (Fin.ext (by simp))
  simp only [e, e0, e1, in1, in4, hp]

theorem row_at (t : Fin cfg0.N) (r : Fin 256) (i : Fin 5760) (j : Fin 5664)
    (e : ∀ k : Fin 1024, iblk m c 5 t (ix2 k i) = arg4 m c (ix2 k j)) : rowOf m c t r i = whole m c (ix3 (batch t) (row t r) j) := by
  by_cases h : (t : ℕ) % 17 = 0
  · exact row_ctx m c t h r i j e
  · exact row_lat m c t h r i j e

/-- An index of a tile by its coordinates. -/
theorem idx_eq (y : S1x256x1024.Idx) : y = ix3 (n0 := 1) (n1 := 256) (n2 := 1024) 0 ⟨y 1, (y 1).isLt⟩ ⟨y 2, (y 2).isLt⟩ := by
  have h0 : (y 0 : ℕ) < 1 := (y 0).isLt
  funext a
  fin_cases a
  · exact Fin.ext (by show (y 0 : ℕ) = 0; omega)
  · exact Fin.ext (by show (y 1 : ℕ) = y 1; rfl)
  · exact Fin.ext (by show (y 2 : ℕ) = y 2; rfl)

theorem tile_z (t : Fin cfg0.N) (r : Fin 256) (k : Fin 1024) :
    (dats m 0 c).after 11 t (ix3 0 r k) = Reference5Ideal.Enter.spanZ (whole m c) (ix3 (batch t) (row t r) k) := by
  rw [left_z_at, Reference5Ideal.Enter.spanZ_at]
  refine row_at m c t r ⟨k, by omega⟩ ⟨k, by omega⟩ fun j => ?_
  rw [blk5, V_weights, weights_z]

/-- A result array whole. -/
theorem final_z : (dats m 0 c).arrAt 11 cfg0.N = Reference5Ideal.Enter.spanZ (whole m c) := by
  refine (dats m 0 c).arrAt_eq_of_covers 11 _ (by decide +kernel) fun t hf y => ?_
  blk_simp
  have h0 : (y 0 : ℕ) < 1 := (y 0).isLt
  have h1 : (y 1 : ℕ) < 256 := (y 1).isLt
  have h2 : (y 2 : ℕ) < 1024 := (y 2).isLt
  have he : (win0_11.blk t).view.emb y = ix3 (n0 := 8) (n1 := 4352) (n2 := 1024) (batch t) (row t ⟨y 1, h1⟩) ⟨y 2, h2⟩ := by
    have hi : win0_11.index t = ![(t : ℕ) / 17, t % 17, 0] := (idx t).2.2.2.2.1
    funext a
    fin_cases a
    · refine Fin.ext ?_
      show win0_11.index t 0 * 1 + 1 * (y 0 : ℕ) = (t : ℕ) / 17
      rw [hi]; show (t : ℕ) / 17 * 1 + 1 * (y 0 : ℕ) = _; omega
    · refine Fin.ext ?_
      show win0_11.index t 1 * 256 + 1 * (y 1 : ℕ) = 256 * (t % 17) + (y 1 : ℕ)
      rw [hi]; show (t : ℕ) % 17 * 256 + 1 * (y 1 : ℕ) = _; omega
    · refine Fin.ext ?_
      show win0_11.index t 2 * 1024 + 1 * (y 2 : ℕ) = (y 2 : ℕ)
      rw [hi]; show 0 * 1024 + 1 * (y 2 : ℕ) = _; omega
  rw [he]
  exact (congrArg ((dats m 0 c).after 11 t) (idx_eq y)).trans (tile_z m c t ⟨y 1, h1⟩ ⟨y 2, h2⟩)

theorem tile_v (t : Fin cfg0.N) (r : Fin 256) (k : Fin 1024) :
    (dats m 0 c).after 17 t (ix3 0 r k) = Reference5Ideal.Enter.spanV (whole m c) (ix3 (batch t) (row t r) k) := by
  rw [left_v_at, Reference5Ideal.Enter.spanV_at]
  refine row_at m c t r ⟨3584 + k, by omega⟩ ⟨3616 + k, by omega⟩ fun j => ?_
  rw [blk5, V_weights, weights_v]

/-- A result array whole. -/
theorem final_v : (dats m 0 c).arrAt 17 cfg0.N = Reference5Ideal.Enter.spanV (whole m c) := by
  refine (dats m 0 c).arrAt_eq_of_covers 17 _ (by decide +kernel) fun t hf y => ?_
  blk_simp
  have h0 : (y 0 : ℕ) < 1 := (y 0).isLt
  have h1 : (y 1 : ℕ) < 256 := (y 1).isLt
  have h2 : (y 2 : ℕ) < 1024 := (y 2).isLt
  have he : (win0_17.blk t).view.emb y = ix3 (n0 := 8) (n1 := 4352) (n2 := 1024) (batch t) (row t ⟨y 1, h1⟩) ⟨y 2, h2⟩ := by
    have hi : win0_17.index t = ![(t : ℕ) / 17, t % 17, 0] := (idx t).2.2.2.2.2.1
    funext a
    fin_cases a
    · refine Fin.ext ?_
      show win0_17.index t 0 * 1 + 1 * (y 0 : ℕ) = (t : ℕ) / 17
      rw [hi]; show (t : ℕ) / 17 * 1 + 1 * (y 0 : ℕ) = _; omega
    · refine Fin.ext ?_
      show win0_17.index t 1 * 256 + 1 * (y 1 : ℕ) = 256 * (t % 17) + (y 1 : ℕ)
      rw [hi]; show (t : ℕ) % 17 * 256 + 1 * (y 1 : ℕ) = _; omega
    · refine Fin.ext ?_
      show win0_17.index t 2 * 1024 + 1 * (y 2 : ℕ) = (y 2 : ℕ)
      rw [hi]; show 0 * 1024 + 1 * (y 2 : ℕ) = _; omega
  rw [he]
  exact (congrArg ((dats m 0 c).after 17 t) (idx_eq y)).trans (tile_v m c t ⟨y 1, h1⟩ ⟨y 2, h2⟩)

theorem tile_g (t : Fin cfg0.N) (r : Fin 256) (k : Fin 1024) :
    (dats m 0 c).after 18 t (ix3 0 r k) = Reference5Ideal.Enter.spanG (whole m c) (ix3 (batch t) (row t r) k) := by
  rw [left_g_at, Reference5Ideal.Enter.spanG_at]
  refine row_at m c t r ⟨4608 + k, by omega⟩ ⟨4640 + k, by omega⟩ fun j => ?_
  rw [blk5, V_weights, weights_g]

/-- A result array whole. -/
theorem final_g : (dats m 0 c).arrAt 18 cfg0.N = Reference5Ideal.Enter.spanG (whole m c) := by
  refine (dats m 0 c).arrAt_eq_of_covers 18 _ (by decide +kernel) fun t hf y => ?_
  blk_simp
  have h0 : (y 0 : ℕ) < 1 := (y 0).isLt
  have h1 : (y 1 : ℕ) < 256 := (y 1).isLt
  have h2 : (y 2 : ℕ) < 1024 := (y 2).isLt
  have he : (win0_18.blk t).view.emb y = ix3 (n0 := 8) (n1 := 4352) (n2 := 1024) (batch t) (row t ⟨y 1, h1⟩) ⟨y 2, h2⟩ := by
    have hi : win0_18.index t = ![(t : ℕ) / 17, t % 17, 0] := (idx t).2.2.2.2.2.2
    funext a
    fin_cases a
    · refine Fin.ext ?_
      show win0_18.index t 0 * 1 + 1 * (y 0 : ℕ) = (t : ℕ) / 17
      rw [hi]; show (t : ℕ) / 17 * 1 + 1 * (y 0 : ℕ) = _; omega
    · refine Fin.ext ?_
      show win0_18.index t 1 * 256 + 1 * (y 1 : ℕ) = 256 * (t % 17) + (y 1 : ℕ)
      rw [hi]; show (t : ℕ) % 17 * 256 + 1 * (y 1 : ℕ) = _; omega
    · refine Fin.ext ?_
      show win0_18.index t 2 * 1024 + 1 * (y 2 : ℕ) = (y 2 : ℕ)
      rw [hi]; show 0 * 1024 + 1 * (y 2 : ℕ) = _; omega
  rw [he]
  exact (congrArg ((dats m 0 c).after 18 t) (idx_eq y)).trans (tile_g m c t ⟨y 1, h1⟩ ⟨y 2, h2⟩)

end Cert.Kernel5Ideal.Enter

end
-- ==== Proof.Enter.Claims.lean ====
/- The claims about the state-space layer's first call: the reference's frame, and the equality of three results. -/
module

public import proofs.«01_k».proof.Defs
public import proofs.«01_k».proof.Proof.Enter.Value

@[expose] public section

set_option maxRecDepth 16384

noncomputable section

namespace Cert.Kernel5Ideal.Enter

open Idealize.ShloMosaic Idealize.ShloMosaic.TcCoe Idealize.SL.Sem

/-- The reference's arguments end unchanged; it has no semaphore. -/
theorem frame_ref (m : (ℓ : Loc Reference5Ideal.nD Reference5Ideal.τ Reference5Ideal.sig) → Buf (Elt Ideal) ℓ) (g : Dev Reference5Ideal.nD → PrngReg) :
    θ_run (Reference5Ideal.defs (F := Ideal)) (onTc (τ := Reference5Ideal.τ) (Reference5Ideal.main (F := Ideal))) ⟨m, fun _ => 0, g⟩ (fun r => (∀ c : Dev Reference5Ideal.nD,
      r.2.mem ((c.tc : Thread Reference5Ideal.nD Reference5Ideal.τ).loc Reference5Ideal.main_arg0) = m ((c.tc : Thread Reference5Ideal.nD Reference5Ideal.τ).loc Reference5Ideal.main_arg0)
      ∧ r.2.mem ((c.tc : Thread Reference5Ideal.nD Reference5Ideal.τ).loc Reference5Ideal.main_arg1) = m ((c.tc : Thread Reference5Ideal.nD Reference5Ideal.τ).loc Reference5Ideal.main_arg1)
      ∧ r.2.mem ((c.tc : Thread Reference5Ideal.nD Reference5Ideal.τ).loc Reference5Ideal.main_arg2) = m ((c.tc : Thread Reference5Ideal.nD Reference5Ideal.τ).loc Reference5Ideal.main_arg2)
      ∧ r.2.mem ((c.tc : Thread Reference5Ideal.nD Reference5Ideal.τ).loc Reference5Ideal.main_arg3) = m ((c.tc : Thread Reference5Ideal.nD Reference5Ideal.τ).loc Reference5Ideal.main_arg3)
      ∧ r.2.mem ((c.tc : Thread Reference5Ideal.nD Reference5Ideal.τ).loc Reference5Ideal.main_arg4) = m ((c.tc : Thread Reference5Ideal.nD Reference5Ideal.τ).loc Reference5Ideal.main_arg4)
      ∧ r.2.mem ((c.tc : Thread Reference5Ideal.nD Reference5Ideal.τ).loc Reference5Ideal.main_arg5) = m ((c.tc : Thread Reference5Ideal.nD Reference5Ideal.τ).loc Reference5Ideal.main_arg5)
      ∧ r.2.mem ((c.tc : Thread Reference5Ideal.nD Reference5Ideal.τ).loc Reference5Ideal.main_arg6) = m ((c.tc : Thread Reference5Ideal.nD Reference5Ideal.τ).loc Reference5Ideal.main_arg6)
      ∧ r.2.mem ((c.tc : Thread Reference5Ideal.nD Reference5Ideal.τ).loc Reference5Ideal.main_arg7) = m ((c.tc : Thread Reference5Ideal.nD Reference5Ideal.τ).loc Reference5Ideal.main_arg7)
      ∧ r.2.mem ((c.tc : Thread Reference5Ideal.nD Reference5Ideal.τ).loc Reference5Ideal.main_arg8) = m ((c.tc : Thread Reference5Ideal.nD Reference5Ideal.τ).loc Reference5Ideal.main_arg8)
      ∧ r.2.mem ((c.tc : Thread Reference5Ideal.nD Reference5Ideal.τ).loc Reference5Ideal.main_arg9) = m ((c.tc : Thread Reference5Ideal.nD Reference5Ideal.τ).loc Reference5Ideal.main_arg9))
      ∧ r.2.sem = fun _ => 0) :=
  (θ_run Reference5Ideal.defs _ _).mono (fun r h => ⟨fun c => (h c).2.2.2, sem_eq_zero_of_no_sems (by decide) r.2⟩)
    (Reference5Ideal.Value.run m g)

/-- Equal arguments give equal products. -/
theorem whole_congr (m : (ℓ : Loc Kernel5Ideal.nD Kernel5Ideal.τ Kernel5Ideal.sig) → Buf (Elt Ideal) ℓ) (c : Dev Kernel5Ideal.nD)
    (m' : (ℓ : Loc Reference5Ideal.nD Reference5Ideal.τ Reference5Ideal.sig) → Buf (Elt Ideal) ℓ)
    (e0 : m' ((c.tc : Thread Reference5Ideal.nD Reference5Ideal.τ).loc Reference5Ideal.main_arg0) = m ((c.tc : Thread Kernel5Ideal.nD Kernel5Ideal.τ).loc Kernel5Ideal.main_arg0))
    (e1 : m' ((c.tc : Thread Reference5Ideal.nD Reference5Ideal.τ).loc Reference5Ideal.main_arg1) = m ((c.tc : Thread Kernel5Ideal.nD Kernel5Ideal.τ).loc Kernel5Ideal.main_arg1))
    (e2 : m' ((c.tc : Thread Reference5Ideal.nD Reference5Ideal.τ).loc Reference5Ideal.main_arg2) = m ((c.tc : Thread Kernel5Ideal.nD Kernel5Ideal.τ).loc Kernel5Ideal.main_arg2))
    (e3 : m' ((c.tc : Thread Reference5Ideal.nD Reference5Ideal.τ).loc Reference5Ideal.main_arg3) = m ((c.tc : Thread Kernel5Ideal.nD Kernel5Ideal.τ).loc Kernel5Ideal.main_arg3))
    (e4 : m' ((c.tc : Thread Reference5Ideal.nD Reference5Ideal.τ).loc Reference5Ideal.main_arg4) = m ((c.tc : Thread Kernel5Ideal.nD Kernel5Ideal.τ).loc Kernel5Ideal.main_arg4)) :
    Reference5Ideal.Enter.entered (m' ((c.tc : Thread Reference5Ideal.nD Reference5Ideal.τ).loc Reference5Ideal.main_arg0)) (m' ((c.tc : Thread Reference5Ideal.nD Reference5Ideal.τ).loc Reference5Ideal.main_arg1)) (m' ((c.tc : Thread Reference5Ideal.nD Reference5Ideal.τ).loc Reference5Ideal.main_arg2)) (m' ((c.tc : Thread Reference5Ideal.nD Reference5Ideal.τ).loc Reference5Ideal.main_arg3)) (m' ((c.tc : Thread Reference5Ideal.nD Reference5Ideal.τ).loc Reference5Ideal.main_arg4)) = whole m c := by
  rw [e0, e1, e2, e3, e4]

/-- The call and the reference end with the same three arrays. -/
theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => Reference5Ideal.Enter.spanZ (whole m c), fun c => Reference5Ideal.Enter.spanV (whole m c), fun c => Reference5Ideal.Enter.spanG (whole m c), ?_, ?_⟩
  · refine (θ_run Kernel5Ideal.defs _ _).mono (fun r h c => ?_) (Kernel5Ideal.Value.run_blocks m g)
    obtain ⟨h0, _, _, _, _, _, h6, h7, hargs⟩ := h c
    exact ⟨h0.trans (final_z m c), h6.trans (final_v m c), h7.trans (final_g m c), hargs⟩
  · refine (θ_run Reference5Ideal.defs _ _).mono (fun r h c => ?_) (Reference5Ideal.Enter.run_named m' g')
    obtain ⟨a0, a1, a2, a3, a4, _⟩ := hagree c
    have e := whole_congr m c m' a0 a1 a2 a3 a4
    obtain ⟨h0, h1, h2, hargs⟩ := h c
    exact ⟨h0.trans (congrArg _ e), h1.trans (congrArg _ e), h2.trans (congrArg _ e), hargs⟩

end Cert.Kernel5Ideal.Enter

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite_mla
public import proofs.«01_k».proof.Proof.Gqa.Same
public import proofs.«01_k».proof.Proof.Gqa.Claims
public import proofs.«01_k».proof.Proof.Mla.Same
public import proofs.«01_k».proof.Proof.Mla.Claims
public import proofs.«01_k».proof.Proof.Out.Claims
public import proofs.«01_k».proof.Proof.Mid.Claims
public import proofs.«01_k».proof.Proof.Enter.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Pre_finite.Gen.facts, Cert.Pre_finite_mla.Gen.facts,
  KernelIdeal.Attn.quiescent, fun m g _ => KernelIdeal.Attn.frame m g, fun m g _ => KernelIdeal.Attn.frame m g,
  fun m g _ => KernelIdeal.Attn.frame_ref m g, fun m g _ => KernelIdeal.Attn.frame_ref m g,
  fun m ρ _ => Cert.Kernel2.Gen.frame m ρ, fun m ρ _ => Cert.Kernel2Ideal.Gen.frame m ρ, fun m g _ => Kernel2Ideal.Out.frame_ref m g,
  fun m ρ _ => Cert.Kernel3.Gen.frame m ρ, fun m ρ _ => Cert.Kernel3Ideal.Gen.frame m ρ, fun m g _ => Kernel3Ideal.Mid.frame_ref m g,
  Kernel4Ideal.Attn.quiescent, fun m g _ => Kernel4Ideal.Attn.frame m g, fun m g _ => Kernel4Ideal.Attn.frame m g,
  fun m g _ => Kernel4Ideal.Attn.frame_ref m g, fun m g _ => Kernel4Ideal.Attn.frame_ref m g,
  fun m ρ _ => Cert.Kernel5.Gen.frame m ρ, fun m ρ _ => Cert.Kernel5Ideal.Gen.frame m ρ, fun m g _ => Kernel5Ideal.Enter.frame_ref m g,
  trivial, KernelIdeal.Attn.algebraic, trivial, Kernel2Ideal.Out.algebraic, trivial, Kernel3Ideal.Mid.algebraic,
  trivial, Kernel4Ideal.Attn.algebraic, trivial, Kernel5Ideal.Enter.algebraic⟩

end Cert.Proof

end
